-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_GdnIn (m : (ℓ : Loc Cert.GdnIn.nD Cert.GdnIn.τ Cert.GdnIn.sig) → Buf (Elt Bits) ℓ) : Prop :=
  True

def Pre_GdnInIdeal (m : (ℓ : Loc Cert.GdnInIdeal.nD Cert.GdnInIdeal.τ Cert.GdnInIdeal.sig) → Buf (Elt Ideal) ℓ) : Prop :=
  True

def Pre_GdnInRefIdeal (m : (ℓ : Loc Cert.GdnInRefIdeal.nD Cert.GdnInRefIdeal.τ Cert.GdnInRefIdeal.sig) → Buf (Elt Ideal) ℓ) : Prop :=
  True

def Pre_FoxIn (m : (ℓ : Loc Cert.FoxIn.nD Cert.FoxIn.τ Cert.FoxIn.sig) → Buf (Elt Bits) ℓ) : Prop :=
  True

def Pre_FoxInIdeal (m : (ℓ : Loc Cert.FoxInIdeal.nD Cert.FoxInIdeal.τ Cert.FoxInIdeal.sig) → Buf (Elt Ideal) ℓ) : Prop :=
  True

def Pre_FoxInRefIdeal (m : (ℓ : Loc Cert.FoxInRefIdeal.nD Cert.FoxInRefIdeal.τ Cert.FoxInRefIdeal.sig) → Buf (Elt Ideal) ℓ) : Prop :=
  True

def Pre_PeerQ (m : (ℓ : Loc Cert.PeerQ.nD Cert.PeerQ.τ Cert.PeerQ.sig) → Buf (Elt Bits) ℓ) : Prop :=
  True

def Pre_PeerQIdeal (m : (ℓ : Loc Cert.PeerQIdeal.nD Cert.PeerQIdeal.τ Cert.PeerQIdeal.sig) → Buf (Elt Ideal) ℓ) : Prop :=
  True

def Pre_PeerQRefIdeal (m : (ℓ : Loc Cert.PeerQRefIdeal.nD Cert.PeerQRefIdeal.τ Cert.PeerQRefIdeal.sig) → Buf (Elt Ideal) ℓ) : Prop :=
  True

def Pre_FoxOut (m : (ℓ : Loc Cert.FoxOut.nD Cert.FoxOut.τ Cert.FoxOut.sig) → Buf (Elt Bits) ℓ) : Prop :=
  True

def Pre_FoxOutIdeal (m : (ℓ : Loc Cert.FoxOutIdeal.nD Cert.FoxOutIdeal.τ Cert.FoxOutIdeal.sig) → Buf (Elt Ideal) ℓ) : Prop :=
  True

def Pre_FoxOutRefIdeal (m : (ℓ : Loc Cert.FoxOutRefIdeal.nD Cert.FoxOutRefIdeal.τ Cert.FoxOutRefIdeal.sig) → Buf (Elt Ideal) ℓ) : Prop :=
  True

def Pre_GdnOut (m : (ℓ : Loc Cert.GdnOut.nD Cert.GdnOut.τ Cert.GdnOut.sig) → Buf (Elt Bits) ℓ) : Prop :=
  True

def Pre_GdnOutIdeal (m : (ℓ : Loc Cert.GdnOutIdeal.nD Cert.GdnOutIdeal.τ Cert.GdnOutIdeal.sig) → Buf (Elt Ideal) ℓ) : Prop :=
  True

def Pre_GdnOutRefIdeal (m : (ℓ : Loc Cert.GdnOutRefIdeal.nD Cert.GdnOutRefIdeal.τ Cert.GdnOutRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Logf (m : (ℓ : Loc Cert.Logf.nD Cert.Logf.τ Cert.Logf.sig) → Buf (Elt Bits) ℓ) : Prop :=
  True

def Pre_LogfIdeal (m : (ℓ : Loc Cert.LogfIdeal.nD Cert.LogfIdeal.τ Cert.LogfIdeal.sig) → Buf (Elt Ideal) ℓ) : Prop :=
  True

def Pre_LogfRefIdeal (m : (ℓ : Loc Cert.LogfRefIdeal.nD Cert.LogfRefIdeal.τ Cert.LogfRefIdeal.sig) → Buf (Elt Ideal) ℓ) : Prop :=
  True

def Pre_GdnInS (m : (ℓ : Loc Cert.GdnInS.nD Cert.GdnInS.τ Cert.GdnInS.sig) → Buf (Elt Bits) ℓ) : Prop :=
  True

def Pre_GdnInSIdeal (m : (ℓ : Loc Cert.GdnInSIdeal.nD Cert.GdnInSIdeal.τ Cert.GdnInSIdeal.sig) → Buf (Elt Ideal) ℓ) : Prop :=
  True

def Pre_GdnInSRefIdeal (m : (ℓ : Loc Cert.GdnInSRefIdeal.nD Cert.GdnInSRefIdeal.τ Cert.GdnInSRefIdeal.sig) → Buf (Elt Ideal) ℓ) : Prop :=
  True

def Pre_FoxInS (m : (ℓ : Loc Cert.FoxInS.nD Cert.FoxInS.τ Cert.FoxInS.sig) → Buf (Elt Bits) ℓ) : Prop :=
  True

def Pre_FoxInSIdeal (m : (ℓ : Loc Cert.FoxInSIdeal.nD Cert.FoxInSIdeal.τ Cert.FoxInSIdeal.sig) → Buf (Elt Ideal) ℓ) : Prop :=
  True

def Pre_FoxInSRefIdeal (m : (ℓ : Loc Cert.FoxInSRefIdeal.nD Cert.FoxInSRefIdeal.τ Cert.FoxInSRefIdeal.sig) → Buf (Elt Ideal) ℓ) : Prop :=
  True

def Pre_FinalS (m : (ℓ : Loc Cert.FinalS.nD Cert.FinalS.τ Cert.FinalS.sig) → Buf (Elt Bits) ℓ) : Prop :=
  True

def Pre_FinalSIdeal (m : (ℓ : Loc Cert.FinalSIdeal.nD Cert.FinalSIdeal.τ Cert.FinalSIdeal.sig) → Buf (Elt Ideal) ℓ) : Prop :=
  True

def Pre_FinalSRefIdeal (m : (ℓ : Loc Cert.FinalSRefIdeal.nD Cert.FinalSRefIdeal.τ Cert.FinalSRefIdeal.sig) → Buf (Elt Ideal) ℓ) : Prop :=
  True

def Pre_LogfS (m : (ℓ : Loc Cert.LogfS.nD Cert.LogfS.τ Cert.LogfS.sig) → Buf (Elt Bits) ℓ) : Prop :=
  True

def Pre_LogfSIdeal (m : (ℓ : Loc Cert.LogfSIdeal.nD Cert.LogfSIdeal.τ Cert.LogfSIdeal.sig) → Buf (Elt Ideal) ℓ) : Prop :=
  True

def Pre_LogfSRefIdeal (m : (ℓ : Loc Cert.LogfSRefIdeal.nD Cert.LogfSRefIdeal.τ Cert.LogfSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_GdnIn [hGdnIn : Cert.GdnIn.Facts] : Prop :=
  ∀ (m : (ℓ : Loc Cert.GdnIn.nD Cert.GdnIn.τ Cert.GdnIn.sig) → Buf (Elt Bits) ℓ) (g : Dev Cert.GdnIn.nD → PrngReg), Pre_GdnIn m →
    θ_run (Cert.GdnIn.defs (F := Bits)) (onTc (τ := Cert.GdnIn.τ) (Cert.GdnIn.main (F := Bits))) ⟨m, fun _ => 0, g⟩ (fun r => (∀ c : Dev Cert.GdnIn.nD,
      r.2.mem ((c.tc : Thread Cert.GdnIn.nD Cert.GdnIn.τ).loc Cert.GdnIn.main_arg0) = m ((c.tc : Thread Cert.GdnIn.nD Cert.GdnIn.τ).loc Cert.GdnIn.main_arg0)
      ∧ r.2.mem ((c.tc : Thread Cert.GdnIn.nD Cert.GdnIn.τ).loc Cert.GdnIn.main_arg1) = m ((c.tc : Thread Cert.GdnIn.nD Cert.GdnIn.τ).loc Cert.GdnIn.main_arg1)
      ∧ r.2.mem ((c.tc : Thread Cert.GdnIn.nD Cert.GdnIn.τ).loc Cert.GdnIn.main_arg2) = m ((c.tc : Thread Cert.GdnIn.nD Cert.GdnIn.τ).loc Cert.GdnIn.main_arg2)
      ∧ r.2.mem ((c.tc : Thread Cert.GdnIn.nD Cert.GdnIn.τ).loc Cert.GdnIn.main_arg3) = m ((c.tc : Thread Cert.GdnIn.nD Cert.GdnIn.τ).loc Cert.GdnIn.main_arg3))
      ∧ r.2.sem = fun _ => 0)

def quiescent_GdnInIdeal [hGdnInIdeal : Cert.GdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg), Pre_GdnInIdeal m →
    θ_run (Cert.GdnInIdeal.defs (F := Ideal)) (onTc (τ := Cert.GdnInIdeal.τ) (Cert.GdnInIdeal.main (F := Ideal))) ⟨m, fun _ => 0, g⟩ (fun r => (∀ c : Dev Cert.GdnInIdeal.nD,
      r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
      ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1)
      ∧ r.2.mem ((c.tc : Thread Cert.GdnInIdeal.nD Cert.GdnInIdeal.τ).loc Cert.GdnInIdeal.main_arg2) = m ((c.tc : Thread Cert.GdnInIdeal.nD Cert.GdnInIdeal.τ).loc Cert.GdnInIdeal.main_arg2)
      ∧ r.2.mem ((c.tc : Thread Cert.GdnInIdeal.nD Cert.GdnInIdeal.τ).loc Cert.GdnInIdeal.main_arg3) = m ((c.tc : Thread Cert.GdnInIdeal.nD Cert.GdnInIdeal.τ).loc Cert.GdnInIdeal.main_arg3))
      ∧ r.2.sem = fun _ => 0)

def quiescent_GdnInRefIdeal [hGdnInRefIdeal : Cert.GdnInRefIdeal.Facts] : Prop :=
  ∀ (m : (ℓ : Loc Cert.GdnInRefIdeal.nD Cert.GdnInRefIdeal.τ Cert.GdnInRefIdeal.sig) → Buf (Elt Ideal) ℓ) (g : Dev Cert.GdnInRefIdeal.nD → PrngReg), Pre_GdnInRefIdeal m →
    θ_run (Cert.GdnInRefIdeal.defs (F := Ideal)) (onTc (τ := Cert.GdnInRefIdeal.τ) (Cert.GdnInRefIdeal.main (F := Ideal))) ⟨m, fun _ => 0, g⟩ (fun r => (∀ c : Dev Cert.GdnInRefIdeal.nD,
      r.2.mem ((c.tc : Thread Cert.GdnInRefIdeal.nD Cert.GdnInRefIdeal.τ).loc Cert.GdnInRefIdeal.main_arg0) = m ((c.tc : Thread Cert.GdnInRefIdeal.nD Cert.GdnInRefIdeal.τ).loc Cert.GdnInRefIdeal.main_arg0)
      ∧ r.2.mem ((c.tc : Thread Cert.GdnInRefIdeal.nD Cert.GdnInRefIdeal.τ).loc Cert.GdnInRefIdeal.main_arg1) = m ((c.tc : Thread Cert.GdnInRefIdeal.nD Cert.GdnInRefIdeal.τ).loc Cert.GdnInRefIdeal.main_arg1)
      ∧ r.2.mem ((c.tc : Thread Cert.GdnInRefIdeal.nD Cert.GdnInRefIdeal.τ).loc Cert.GdnInRefIdeal.main_arg2) = m ((c.tc : Thread Cert.GdnInRefIdeal.nD Cert.GdnInRefIdeal.τ).loc Cert.GdnInRefIdeal.main_arg2)
      ∧ r.2.mem ((c.tc : Thread Cert.GdnInRefIdeal.nD Cert.GdnInRefIdeal.τ).loc Cert.GdnInRefIdeal.main_arg3) = m ((c.tc : Thread Cert.GdnInRefIdeal.nD Cert.GdnInRefIdeal.τ).loc Cert.GdnInRefIdeal.main_arg3))
      ∧ r.2.sem = fun _ => 0)

def quiescent_FoxIn [hFoxIn : Cert.FoxIn.Facts] : Prop :=
  ∀ (m : (ℓ : Loc Cert.FoxIn.nD Cert.FoxIn.τ Cert.FoxIn.sig) → Buf (Elt Bits) ℓ) (g : Dev Cert.FoxIn.nD → PrngReg), Pre_FoxIn m →
    θ_run (Cert.FoxIn.defs (F := Bits)) (onTc (τ := Cert.FoxIn.τ) (Cert.FoxIn.main (F := Bits))) ⟨m, fun _ => 0, g⟩ (fun r => (∀ c : Dev Cert.FoxIn.nD,
      r.2.mem ((c.tc : Thread Cert.FoxIn.nD Cert.FoxIn.τ).loc Cert.FoxIn.main_arg0) = m ((c.tc : Thread Cert.FoxIn.nD Cert.FoxIn.τ).loc Cert.FoxIn.main_arg0)
      ∧ r.2.mem ((c.tc : Thread Cert.FoxIn.nD Cert.FoxIn.τ).loc Cert.FoxIn.main_arg1) = m ((c.tc : Thread Cert.FoxIn.nD Cert.FoxIn.τ).loc Cert.FoxIn.main_arg1)
      ∧ r.2.mem ((c.tc : Thread Cert.FoxIn.nD Cert.FoxIn.τ).loc Cert.FoxIn.main_arg2) = m ((c.tc : Thread Cert.FoxIn.nD Cert.FoxIn.τ).loc Cert.FoxIn.main_arg2))
      ∧ r.2.sem = fun _ => 0)

def quiescent_FoxInIdeal [hFoxInIdeal : Cert.FoxInIdeal.Facts] : Prop :=
  ∀ (m : (ℓ : Loc Cert.FoxInIdeal.nD Cert.FoxInIdeal.τ Cert.FoxInIdeal.sig) → Buf (Elt Ideal) ℓ) (g : Dev Cert.FoxInIdeal.nD → PrngReg), Pre_FoxInIdeal m →
    θ_run (Cert.FoxInIdeal.defs (F := Ideal)) (onTc (τ := Cert.FoxInIdeal.τ) (Cert.FoxInIdeal.main (F := Ideal))) ⟨m, fun _ => 0, g⟩ (fun r => (∀ c : Dev Cert.FoxInIdeal.nD,
      r.2.mem ((c.tc : Thread Cert.FoxInIdeal.nD Cert.FoxInIdeal.τ).loc Cert.FoxInIdeal.main_arg0) = m ((c.tc : Thread Cert.FoxInIdeal.nD Cert.FoxInIdeal.τ).loc Cert.FoxInIdeal.main_arg0)
      ∧ r.2.mem ((c.tc : Thread Cert.FoxInIdeal.nD Cert.FoxInIdeal.τ).loc Cert.FoxInIdeal.main_arg1) = m ((c.tc : Thread Cert.FoxInIdeal.nD Cert.FoxInIdeal.τ).loc Cert.FoxInIdeal.main_arg1)
      ∧ r.2.mem ((c.tc : Thread Cert.FoxInIdeal.nD Cert.FoxInIdeal.τ).loc Cert.FoxInIdeal.main_arg2) = m ((c.tc : Thread Cert.FoxInIdeal.nD Cert.FoxInIdeal.τ).loc Cert.FoxInIdeal.main_arg2))
      ∧ r.2.sem = fun _ => 0)

def quiescent_FoxInRefIdeal [hFoxInRefIdeal : Cert.FoxInRefIdeal.Facts] : Prop :=
  ∀ (m : (ℓ : Loc Cert.FoxInRefIdeal.nD Cert.FoxInRefIdeal.τ Cert.FoxInRefIdeal.sig) → Buf (Elt Ideal) ℓ) (g : Dev Cert.FoxInRefIdeal.nD → PrngReg), Pre_FoxInRefIdeal m →
    θ_run (Cert.FoxInRefIdeal.defs (F := Ideal)) (onTc (τ := Cert.FoxInRefIdeal.τ) (Cert.FoxInRefIdeal.main (F := Ideal))) ⟨m, fun _ => 0, g⟩ (fun r => (∀ c : Dev Cert.FoxInRefIdeal.nD,
      r.2.mem ((c.tc : Thread Cert.FoxInRefIdeal.nD Cert.FoxInRefIdeal.τ).loc Cert.FoxInRefIdeal.main_arg0) = m ((c.tc : Thread Cert.FoxInRefIdeal.nD Cert.FoxInRefIdeal.τ).loc Cert.FoxInRefIdeal.main_arg0)
      ∧ r.2.mem ((c.tc : Thread Cert.FoxInRefIdeal.nD Cert.FoxInRefIdeal.τ).loc Cert.FoxInRefIdeal.main_arg1) = m ((c.tc : Thread Cert.FoxInRefIdeal.nD Cert.FoxInRefIdeal.τ).loc Cert.FoxInRefIdeal.main_arg1)
      ∧ r.2.mem ((c.tc : Thread Cert.FoxInRefIdeal.nD Cert.FoxInRefIdeal.τ).loc Cert.FoxInRefIdeal.main_arg2) = m ((c.tc : Thread Cert.FoxInRefIdeal.nD Cert.FoxInRefIdeal.τ).loc Cert.FoxInRefIdeal.main_arg2))
      ∧ r.2.sem = fun _ => 0)

def quiescent_PeerQ [hPeerQ : Cert.PeerQ.Facts] : Prop :=
  ∀ (m : (ℓ : Loc Cert.PeerQ.nD Cert.PeerQ.τ Cert.PeerQ.sig) → Buf (Elt Bits) ℓ) (g : Dev Cert.PeerQ.nD → PrngReg), Pre_PeerQ m →
    θ_run (Cert.PeerQ.defs (F := Bits)) (onTc (τ := Cert.PeerQ.τ) (Cert.PeerQ.main (F := Bits))) ⟨m, fun _ => 0, g⟩ (fun r => (∀ c : Dev Cert.PeerQ.nD,
      r.2.mem ((c.tc : Thread Cert.PeerQ.nD Cert.PeerQ.τ).loc Cert.PeerQ.main_arg0) = m ((c.tc : Thread Cert.PeerQ.nD Cert.PeerQ.τ).loc Cert.PeerQ.main_arg0)
      ∧ r.2.mem ((c.tc : Thread Cert.PeerQ.nD Cert.PeerQ.τ).loc Cert.PeerQ.main_arg1) = m ((c.tc : Thread Cert.PeerQ.nD Cert.PeerQ.τ).loc Cert.PeerQ.main_arg1)
      ∧ r.2.mem ((c.tc : Thread Cert.PeerQ.nD Cert.PeerQ.τ).loc Cert.PeerQ.main_arg2) = m ((c.tc : Thread Cert.PeerQ.nD Cert.PeerQ.τ).loc Cert.PeerQ.main_arg2))
      ∧ r.2.sem = fun _ => 0)

def quiescent_PeerQIdeal [hPeerQIdeal : Cert.PeerQIdeal.Facts] : Prop :=
  ∀ (m : (ℓ : Loc Cert.PeerQIdeal.nD Cert.PeerQIdeal.τ Cert.PeerQIdeal.sig) → Buf (Elt Ideal) ℓ) (g : Dev Cert.PeerQIdeal.nD → PrngReg), Pre_PeerQIdeal m →
    θ_run (Cert.PeerQIdeal.defs (F := Ideal)) (onTc (τ := Cert.PeerQIdeal.τ) (Cert.PeerQIdeal.main (F := Ideal))) ⟨m, fun _ => 0, g⟩ (fun r => (∀ c : Dev Cert.PeerQIdeal.nD,
      r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
      ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1)
      ∧ r.2.mem ((c.tc : Thread Cert.PeerQIdeal.nD Cert.PeerQIdeal.τ).loc Cert.PeerQIdeal.main_arg2) = m ((c.tc : Thread Cert.PeerQIdeal.nD Cert.PeerQIdeal.τ).loc Cert.PeerQIdeal.main_arg2))
      ∧ r.2.sem = fun _ => 0)

def quiescent_PeerQRefIdeal [hPeerQRefIdeal : Cert.PeerQRefIdeal.Facts] : Prop :=
  ∀ (m : (ℓ : Loc Cert.PeerQRefIdeal.nD Cert.PeerQRefIdeal.τ Cert.PeerQRefIdeal.sig) → Buf (Elt Ideal) ℓ) (g : Dev Cert.PeerQRefIdeal.nD → PrngReg), Pre_PeerQRefIdeal m →
    θ_run (Cert.PeerQRefIdeal.defs (F := Ideal)) (onTc (τ := Cert.PeerQRefIdeal.τ) (Cert.PeerQRefIdeal.main (F := Ideal))) ⟨m, fun _ => 0, g⟩ (fun r => (∀ c : Dev Cert.PeerQRefIdeal.nD,
      r.2.mem ((c.tc : Thread Cert.PeerQRefIdeal.nD Cert.PeerQRefIdeal.τ).loc Cert.PeerQRefIdeal.main_arg0) = m ((c.tc : Thread Cert.PeerQRefIdeal.nD Cert.PeerQRefIdeal.τ).loc Cert.PeerQRefIdeal.main_arg0)
      ∧ r.2.mem ((c.tc : Thread Cert.PeerQRefIdeal.nD Cert.PeerQRefIdeal.τ).loc Cert.PeerQRefIdeal.main_arg1) = m ((c.tc : Thread Cert.PeerQRefIdeal.nD Cert.PeerQRefIdeal.τ).loc Cert.PeerQRefIdeal.main_arg1)
      ∧ r.2.mem ((c.tc : Thread Cert.PeerQRefIdeal.nD Cert.PeerQRefIdeal.τ).loc Cert.PeerQRefIdeal.main_arg2) = m ((c.tc : Thread Cert.PeerQRefIdeal.nD Cert.PeerQRefIdeal.τ).loc Cert.PeerQRefIdeal.main_arg2))
      ∧ r.2.sem = fun _ => 0)

def quiescent_FoxOut [hFoxOut : Cert.FoxOut.Facts] : Prop :=
  ∀ (m : (ℓ : Loc Cert.FoxOut.nD Cert.FoxOut.τ Cert.FoxOut.sig) → Buf (Elt Bits) ℓ) (g : Dev Cert.FoxOut.nD → PrngReg), Pre_FoxOut m →
    θ_run (Cert.FoxOut.defs (F := Bits)) (onTc (τ := Cert.FoxOut.τ) (Cert.FoxOut.main (F := Bits))) ⟨m, fun _ => 0, g⟩ (fun r => (∀ c : Dev Cert.FoxOut.nD,
      r.2.mem ((c.tc : Thread Cert.FoxOut.nD Cert.FoxOut.τ).loc Cert.FoxOut.main_arg0) = m ((c.tc : Thread Cert.FoxOut.nD Cert.FoxOut.τ).loc Cert.FoxOut.main_arg0)
      ∧ r.2.mem ((c.tc : Thread Cert.FoxOut.nD Cert.FoxOut.τ).loc Cert.FoxOut.main_arg1) = m ((c.tc : Thread Cert.FoxOut.nD Cert.FoxOut.τ).loc Cert.FoxOut.main_arg1)
      ∧ r.2.mem ((c.tc : Thread Cert.FoxOut.nD Cert.FoxOut.τ).loc Cert.FoxOut.main_arg2) = m ((c.tc : Thread Cert.FoxOut.nD Cert.FoxOut.τ).loc Cert.FoxOut.main_arg2))
      ∧ r.2.sem = fun _ => 0)

def quiescent_FoxOutIdeal [hFoxOutIdeal : Cert.FoxOutIdeal.Facts] : Prop :=
  ∀ (m : (ℓ : Loc Cert.FoxOutIdeal.nD Cert.FoxOutIdeal.τ Cert.FoxOutIdeal.sig) → Buf (Elt Ideal) ℓ) (g : Dev Cert.FoxOutIdeal.nD → PrngReg), Pre_FoxOutIdeal m →
    θ_run (Cert.FoxOutIdeal.defs (F := Ideal)) (onTc (τ := Cert.FoxOutIdeal.τ) (Cert.FoxOutIdeal.main (F := Ideal))) ⟨m, fun _ => 0, g⟩ (fun r => (∀ c : Dev Cert.FoxOutIdeal.nD,
      r.2.mem ((c.tc : Thread Cert.FoxOutIdeal.nD Cert.FoxOutIdeal.τ).loc Cert.FoxOutIdeal.main_arg0) = m ((c.tc : Thread Cert.FoxOutIdeal.nD Cert.FoxOutIdeal.τ).loc Cert.FoxOutIdeal.main_arg0)
      ∧ r.2.mem ((c.tc : Thread Cert.FoxOutIdeal.nD Cert.FoxOutIdeal.τ).loc Cert.FoxOutIdeal.main_arg1) = m ((c.tc : Thread Cert.FoxOutIdeal.nD Cert.FoxOutIdeal.τ).loc Cert.FoxOutIdeal.main_arg1)
      ∧ r.2.mem ((c.tc : Thread Cert.FoxOutIdeal.nD Cert.FoxOutIdeal.τ).loc Cert.FoxOutIdeal.main_arg2) = m ((c.tc : Thread Cert.FoxOutIdeal.nD Cert.FoxOutIdeal.τ).loc Cert.FoxOutIdeal.main_arg2))
      ∧ r.2.sem = fun _ => 0)

def quiescent_FoxOutRefIdeal [hFoxOutRefIdeal : Cert.FoxOutRefIdeal.Facts] : Prop :=
  ∀ (m : (ℓ : Loc Cert.FoxOutRefIdeal.nD Cert.FoxOutRefIdeal.τ Cert.FoxOutRefIdeal.sig) → Buf (Elt Ideal) ℓ) (g : Dev Cert.FoxOutRefIdeal.nD → PrngReg), Pre_FoxOutRefIdeal m →
    θ_run (Cert.FoxOutRefIdeal.defs (F := Ideal)) (onTc (τ := Cert.FoxOutRefIdeal.τ) (Cert.FoxOutRefIdeal.main (F := Ideal))) ⟨m, fun _ => 0, g⟩ (fun r => (∀ c : Dev Cert.FoxOutRefIdeal.nD,
      r.2.mem ((c.tc : Thread Cert.FoxOutRefIdeal.nD Cert.FoxOutRefIdeal.τ).loc Cert.FoxOutRefIdeal.main_arg0) = m ((c.tc : Thread Cert.FoxOutRefIdeal.nD Cert.FoxOutRefIdeal.τ).loc Cert.FoxOutRefIdeal.main_arg0)
      ∧ r.2.mem ((c.tc : Thread Cert.FoxOutRefIdeal.nD Cert.FoxOutRefIdeal.τ).loc Cert.FoxOutRefIdeal.main_arg1) = m ((c.tc : Thread Cert.FoxOutRefIdeal.nD Cert.FoxOutRefIdeal.τ).loc Cert.FoxOutRefIdeal.main_arg1)
      ∧ r.2.mem ((c.tc : Thread Cert.FoxOutRefIdeal.nD Cert.FoxOutRefIdeal.τ).loc Cert.FoxOutRefIdeal.main_arg2) = m ((c.tc : Thread Cert.FoxOutRefIdeal.nD Cert.FoxOutRefIdeal.τ).loc Cert.FoxOutRefIdeal.main_arg2))
      ∧ r.2.sem = fun _ => 0)

def quiescent_GdnOut [hGdnOut : Cert.GdnOut.Facts] : Prop :=
  ∀ (m : (ℓ : Loc Cert.GdnOut.nD Cert.GdnOut.τ Cert.GdnOut.sig) → Buf (Elt Bits) ℓ) (g : Dev Cert.GdnOut.nD → PrngReg), Pre_GdnOut m →
    θ_run (Cert.GdnOut.defs (F := Bits)) (onTc (τ := Cert.GdnOut.τ) (Cert.GdnOut.main (F := Bits))) ⟨m, fun _ => 0, g⟩ (fun r => (∀ c : Dev Cert.GdnOut.nD,
      r.2.mem ((c.tc : Thread Cert.GdnOut.nD Cert.GdnOut.τ).loc Cert.GdnOut.main_arg0) = m ((c.tc : Thread Cert.GdnOut.nD Cert.GdnOut.τ).loc Cert.GdnOut.main_arg0)
      ∧ r.2.mem ((c.tc : Thread Cert.GdnOut.nD Cert.GdnOut.τ).loc Cert.GdnOut.main_arg1) = m ((c.tc : Thread Cert.GdnOut.nD Cert.GdnOut.τ).loc Cert.GdnOut.main_arg1)
      ∧ r.2.mem ((c.tc : Thread Cert.GdnOut.nD Cert.GdnOut.τ).loc Cert.GdnOut.main_arg2) = m ((c.tc : Thread Cert.GdnOut.nD Cert.GdnOut.τ).loc Cert.GdnOut.main_arg2)
      ∧ r.2.mem ((c.tc : Thread Cert.GdnOut.nD Cert.GdnOut.τ).loc Cert.GdnOut.main_arg3) = m ((c.tc : Thread Cert.GdnOut.nD Cert.GdnOut.τ).loc Cert.GdnOut.main_arg3)
      ∧ r.2.mem ((c.tc : Thread Cert.GdnOut.nD Cert.GdnOut.τ).loc Cert.GdnOut.main_arg4) = m ((c.tc : Thread Cert.GdnOut.nD Cert.GdnOut.τ).loc Cert.GdnOut.main_arg4))
      ∧ r.2.sem = fun _ => 0)

def quiescent_GdnOutIdeal [hGdnOutIdeal : Cert.GdnOutIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg), Pre_GdnOutIdeal m →
    θ_run (Cert.GdnOutIdeal.defs (F := Ideal)) (onTc (τ := Cert.GdnOutIdeal.τ) (Cert.GdnOutIdeal.main (F := Ideal))) ⟨m, fun _ => 0, g⟩ (fun r => (∀ c : Dev Cert.GdnOutIdeal.nD,
      r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
      ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
      ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
      ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3)
      ∧ r.2.mem ((c.tc : Thread Cert.GdnOutIdeal.nD Cert.GdnOutIdeal.τ).loc Cert.GdnOutIdeal.main_arg4) = m ((c.tc : Thread Cert.GdnOutIdeal.nD Cert.GdnOutIdeal.τ).loc Cert.GdnOutIdeal.main_arg4))
      ∧ r.2.sem = fun _ => 0)

def quiescent_GdnOutRefIdeal [hGdnOutRefIdeal : Cert.GdnOutRefIdeal.Facts] : Prop :=
  ∀ (m : (ℓ : Loc Cert.GdnOutRefIdeal.nD Cert.GdnOutRefIdeal.τ Cert.GdnOutRefIdeal.sig) → Buf (Elt Ideal) ℓ) (g : Dev Cert.GdnOutRefIdeal.nD → PrngReg), Pre_GdnOutRefIdeal m →
    θ_run (Cert.GdnOutRefIdeal.defs (F := Ideal)) (onTc (τ := Cert.GdnOutRefIdeal.τ) (Cert.GdnOutRefIdeal.main (F := Ideal))) ⟨m, fun _ => 0, g⟩ (fun r => (∀ c : Dev Cert.GdnOutRefIdeal.nD,
      r.2.mem ((c.tc : Thread Cert.GdnOutRefIdeal.nD Cert.GdnOutRefIdeal.τ).loc Cert.GdnOutRefIdeal.main_arg0) = m ((c.tc : Thread Cert.GdnOutRefIdeal.nD Cert.GdnOutRefIdeal.τ).loc Cert.GdnOutRefIdeal.main_arg0)
      ∧ r.2.mem ((c.tc : Thread Cert.GdnOutRefIdeal.nD Cert.GdnOutRefIdeal.τ).loc Cert.GdnOutRefIdeal.main_arg1) = m ((c.tc : Thread Cert.GdnOutRefIdeal.nD Cert.GdnOutRefIdeal.τ).loc Cert.GdnOutRefIdeal.main_arg1)
      ∧ r.2.mem ((c.tc : Thread Cert.GdnOutRefIdeal.nD Cert.GdnOutRefIdeal.τ).loc Cert.GdnOutRefIdeal.main_arg2) = m ((c.tc : Thread Cert.GdnOutRefIdeal.nD Cert.GdnOutRefIdeal.τ).loc Cert.GdnOutRefIdeal.main_arg2)
      ∧ r.2.mem ((c.tc : Thread Cert.GdnOutRefIdeal.nD Cert.GdnOutRefIdeal.τ).loc Cert.GdnOutRefIdeal.main_arg3) = m ((c.tc : Thread Cert.GdnOutRefIdeal.nD Cert.GdnOutRefIdeal.τ).loc Cert.GdnOutRefIdeal.main_arg3)
      ∧ r.2.mem ((c.tc : Thread Cert.GdnOutRefIdeal.nD Cert.GdnOutRefIdeal.τ).loc Cert.GdnOutRefIdeal.main_arg4) = m ((c.tc : Thread Cert.GdnOutRefIdeal.nD Cert.GdnOutRefIdeal.τ).loc Cert.GdnOutRefIdeal.main_arg4))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_Logf [hLogf : Cert.Logf.Facts] : Prop :=
  ∀ (m : (ℓ : Loc Cert.Logf.nD Cert.Logf.τ Cert.Logf.sig) → Buf (Elt Bits) ℓ) (g : Dev Cert.Logf.nD → PrngReg), Pre_Logf m →
    θ_run (Cert.Logf.defs (F := Bits)) (onTc (τ := Cert.Logf.τ) (Cert.Logf.main (F := Bits))) ⟨m, fun _ => 0, g⟩ (fun r => (∀ c : Dev Cert.Logf.nD,
      r.2.mem ((c.tc : Thread Cert.Logf.nD Cert.Logf.τ).loc Cert.Logf.main_arg0) = m ((c.tc : Thread Cert.Logf.nD Cert.Logf.τ).loc Cert.Logf.main_arg0)
      ∧ r.2.mem ((c.tc : Thread Cert.Logf.nD Cert.Logf.τ).loc Cert.Logf.main_arg1) = m ((c.tc : Thread Cert.Logf.nD Cert.Logf.τ).loc Cert.Logf.main_arg1))
      ∧ r.2.sem = fun _ => 0)

def quiescent_LogfIdeal [hLogfIdeal : Cert.LogfIdeal.Facts] : Prop :=
  ∀ (m : (ℓ : Loc Cert.LogfIdeal.nD Cert.LogfIdeal.τ Cert.LogfIdeal.sig) → Buf (Elt Ideal) ℓ) (g : Dev Cert.LogfIdeal.nD → PrngReg), Pre_LogfIdeal m →
    θ_run (Cert.LogfIdeal.defs (F := Ideal)) (onTc (τ := Cert.LogfIdeal.τ) (Cert.LogfIdeal.main (F := Ideal))) ⟨m, fun _ => 0, g⟩ (fun r => (∀ c : Dev Cert.LogfIdeal.nD,
      r.2.mem ((c.tc : Thread Cert.LogfIdeal.nD Cert.LogfIdeal.τ).loc Cert.LogfIdeal.main_arg0) = m ((c.tc : Thread Cert.LogfIdeal.nD Cert.LogfIdeal.τ).loc Cert.LogfIdeal.main_arg0)
      ∧ r.2.mem ((c.tc : Thread Cert.LogfIdeal.nD Cert.LogfIdeal.τ).loc Cert.LogfIdeal.main_arg1) = m ((c.tc : Thread Cert.LogfIdeal.nD Cert.LogfIdeal.τ).loc Cert.LogfIdeal.main_arg1))
      ∧ r.2.sem = fun _ => 0)

def quiescent_LogfRefIdeal [hLogfRefIdeal : Cert.LogfRefIdeal.Facts] : Prop :=
  ∀ (m : (ℓ : Loc Cert.LogfRefIdeal.nD Cert.LogfRefIdeal.τ Cert.LogfRefIdeal.sig) → Buf (Elt Ideal) ℓ) (g : Dev Cert.LogfRefIdeal.nD → PrngReg), Pre_LogfRefIdeal m →
    θ_run (Cert.LogfRefIdeal.defs (F := Ideal)) (onTc (τ := Cert.LogfRefIdeal.τ) (Cert.LogfRefIdeal.main (F := Ideal))) ⟨m, fun _ => 0, g⟩ (fun r => (∀ c : Dev Cert.LogfRefIdeal.nD,
      r.2.mem ((c.tc : Thread Cert.LogfRefIdeal.nD Cert.LogfRefIdeal.τ).loc Cert.LogfRefIdeal.main_arg0) = m ((c.tc : Thread Cert.LogfRefIdeal.nD Cert.LogfRefIdeal.τ).loc Cert.LogfRefIdeal.main_arg0)
      ∧ r.2.mem ((c.tc : Thread Cert.LogfRefIdeal.nD Cert.LogfRefIdeal.τ).loc Cert.LogfRefIdeal.main_arg1) = m ((c.tc : Thread Cert.LogfRefIdeal.nD Cert.LogfRefIdeal.τ).loc Cert.LogfRefIdeal.main_arg1))
      ∧ r.2.sem = fun _ => 0)

def quiescent_GdnInS [hGdnInS : Cert.GdnInS.Facts] : Prop :=
  ∀ (m : (ℓ : Loc Cert.GdnInS.nD Cert.GdnInS.τ Cert.GdnInS.sig) → Buf (Elt Bits) ℓ) (g : Dev Cert.GdnInS.nD → PrngReg), Pre_GdnInS m →
    θ_run (Cert.GdnInS.defs (F := Bits)) (onTc (τ := Cert.GdnInS.τ) (Cert.GdnInS.main (F := Bits))) ⟨m, fun _ => 0, g⟩ (fun r => (∀ c : Dev Cert.GdnInS.nD,
      r.2.mem ((c.tc : Thread Cert.GdnInS.nD Cert.GdnInS.τ).loc Cert.GdnInS.main_arg0) = m ((c.tc : Thread Cert.GdnInS.nD Cert.GdnInS.τ).loc Cert.GdnInS.main_arg0)
      ∧ r.2.mem ((c.tc : Thread Cert.GdnInS.nD Cert.GdnInS.τ).loc Cert.GdnInS.main_arg1) = m ((c.tc : Thread Cert.GdnInS.nD Cert.GdnInS.τ).loc Cert.GdnInS.main_arg1)
      ∧ r.2.mem ((c.tc : Thread Cert.GdnInS.nD Cert.GdnInS.τ).loc Cert.GdnInS.main_arg2) = m ((c.tc : Thread Cert.GdnInS.nD Cert.GdnInS.τ).loc Cert.GdnInS.main_arg2)
      ∧ r.2.mem ((c.tc : Thread Cert.GdnInS.nD Cert.GdnInS.τ).loc Cert.GdnInS.main_arg3) = m ((c.tc : Thread Cert.GdnInS.nD Cert.GdnInS.τ).loc Cert.GdnInS.main_arg3))
      ∧ r.2.sem = fun _ => 0)

def quiescent_GdnInSIdeal [hGdnInSIdeal : Cert.GdnInSIdeal.Facts] : Prop :=
  ∀ (m : (ℓ : Loc Cert.GdnInSIdeal.nD Cert.GdnInSIdeal.τ Cert.GdnInSIdeal.sig) → Buf (Elt Ideal) ℓ) (g : Dev Cert.GdnInSIdeal.nD → PrngReg), Pre_GdnInSIdeal m →
    θ_run (Cert.GdnInSIdeal.defs (F := Ideal)) (onTc (τ := Cert.GdnInSIdeal.τ) (Cert.GdnInSIdeal.main (F := Ideal))) ⟨m, fun _ => 0, g⟩ (fun r => (∀ c : Dev Cert.GdnInSIdeal.nD,
      r.2.mem ((c.tc : Thread Cert.GdnInSIdeal.nD Cert.GdnInSIdeal.τ).loc Cert.GdnInSIdeal.main_arg0) = m ((c.tc : Thread Cert.GdnInSIdeal.nD Cert.GdnInSIdeal.τ).loc Cert.GdnInSIdeal.main_arg0)
      ∧ r.2.mem ((c.tc : Thread Cert.GdnInSIdeal.nD Cert.GdnInSIdeal.τ).loc Cert.GdnInSIdeal.main_arg1) = m ((c.tc : Thread Cert.GdnInSIdeal.nD Cert.GdnInSIdeal.τ).loc Cert.GdnInSIdeal.main_arg1)
      ∧ r.2.mem ((c.tc : Thread Cert.GdnInSIdeal.nD Cert.GdnInSIdeal.τ).loc Cert.GdnInSIdeal.main_arg2) = m ((c.tc : Thread Cert.GdnInSIdeal.nD Cert.GdnInSIdeal.τ).loc Cert.GdnInSIdeal.main_arg2)
      ∧ r.2.mem ((c.tc : Thread Cert.GdnInSIdeal.nD Cert.GdnInSIdeal.τ).loc Cert.GdnInSIdeal.main_arg3) = m ((c.tc : Thread Cert.GdnInSIdeal.nD Cert.GdnInSIdeal.τ).loc Cert.GdnInSIdeal.main_arg3))
      ∧ r.2.sem = fun _ => 0)

def quiescent_GdnInSRefIdeal [hGdnInSRefIdeal : Cert.GdnInSRefIdeal.Facts] : Prop :=
  ∀ (m : (ℓ : Loc Cert.GdnInSRefIdeal.nD Cert.GdnInSRefIdeal.τ Cert.GdnInSRefIdeal.sig) → Buf (Elt Ideal) ℓ) (g : Dev Cert.GdnInSRefIdeal.nD → PrngReg), Pre_GdnInSRefIdeal m →
    θ_run (Cert.GdnInSRefIdeal.defs (F := Ideal)) (onTc (τ := Cert.GdnInSRefIdeal.τ) (Cert.GdnInSRefIdeal.main (F := Ideal))) ⟨m, fun _ => 0, g⟩ (fun r => (∀ c : Dev Cert.GdnInSRefIdeal.nD,
      r.2.mem ((c.tc : Thread Cert.GdnInSRefIdeal.nD Cert.GdnInSRefIdeal.τ).loc Cert.GdnInSRefIdeal.main_arg0) = m ((c.tc : Thread Cert.GdnInSRefIdeal.nD Cert.GdnInSRefIdeal.τ).loc Cert.GdnInSRefIdeal.main_arg0)
      ∧ r.2.mem ((c.tc : Thread Cert.GdnInSRefIdeal.nD Cert.GdnInSRefIdeal.τ).loc Cert.GdnInSRefIdeal.main_arg1) = m ((c.tc : Thread Cert.GdnInSRefIdeal.nD Cert.GdnInSRefIdeal.τ).loc Cert.GdnInSRefIdeal.main_arg1)
      ∧ r.2.mem ((c.tc : Thread Cert.GdnInSRefIdeal.nD Cert.GdnInSRefIdeal.τ).loc Cert.GdnInSRefIdeal.main_arg2) = m ((c.tc : Thread Cert.GdnInSRefIdeal.nD Cert.GdnInSRefIdeal.τ).loc Cert.GdnInSRefIdeal.main_arg2)
      ∧ r.2.mem ((c.tc : Thread Cert.GdnInSRefIdeal.nD Cert.GdnInSRefIdeal.τ).loc Cert.GdnInSRefIdeal.main_arg3) = m ((c.tc : Thread Cert.GdnInSRefIdeal.nD Cert.GdnInSRefIdeal.τ).loc Cert.GdnInSRefIdeal.main_arg3))
      ∧ r.2.sem = fun _ => 0)

def quiescent_FoxInS [hFoxInS : Cert.FoxInS.Facts] : Prop :=
  ∀ (m : (ℓ : Loc Cert.FoxInS.nD Cert.FoxInS.τ Cert.FoxInS.sig) → Buf (Elt Bits) ℓ) (g : Dev Cert.FoxInS.nD → PrngReg), Pre_FoxInS m →
    θ_run (Cert.FoxInS.defs (F := Bits)) (onTc (τ := Cert.FoxInS.τ) (Cert.FoxInS.main (F := Bits))) ⟨m, fun _ => 0, g⟩ (fun r => (∀ c : Dev Cert.FoxInS.nD,
      r.2.mem ((c.tc : Thread Cert.FoxInS.nD Cert.FoxInS.τ).loc Cert.FoxInS.main_arg0) = m ((c.tc : Thread Cert.FoxInS.nD Cert.FoxInS.τ).loc Cert.FoxInS.main_arg0)
      ∧ r.2.mem ((c.tc : Thread Cert.FoxInS.nD Cert.FoxInS.τ).loc Cert.FoxInS.main_arg1) = m ((c.tc : Thread Cert.FoxInS.nD Cert.FoxInS.τ).loc Cert.FoxInS.main_arg1)
      ∧ r.2.mem ((c.tc : Thread Cert.FoxInS.nD Cert.FoxInS.τ).loc Cert.FoxInS.main_arg2) = m ((c.tc : Thread Cert.FoxInS.nD Cert.FoxInS.τ).loc Cert.FoxInS.main_arg2))
      ∧ r.2.sem = fun _ => 0)

def quiescent_FoxInSIdeal [hFoxInSIdeal : Cert.FoxInSIdeal.Facts] : Prop :=
  ∀ (m : (ℓ : Loc Cert.FoxInSIdeal.nD Cert.FoxInSIdeal.τ Cert.FoxInSIdeal.sig) → Buf (Elt Ideal) ℓ) (g : Dev Cert.FoxInSIdeal.nD → PrngReg), Pre_FoxInSIdeal m →
    θ_run (Cert.FoxInSIdeal.defs (F := Ideal)) (onTc (τ := Cert.FoxInSIdeal.τ) (Cert.FoxInSIdeal.main (F := Ideal))) ⟨m, fun _ => 0, g⟩ (fun r => (∀ c : Dev Cert.FoxInSIdeal.nD,
      r.2.mem ((c.tc : Thread Cert.FoxInSIdeal.nD Cert.FoxInSIdeal.τ).loc Cert.FoxInSIdeal.main_arg0) = m ((c.tc : Thread Cert.FoxInSIdeal.nD Cert.FoxInSIdeal.τ).loc Cert.FoxInSIdeal.main_arg0)
      ∧ r.2.mem ((c.tc : Thread Cert.FoxInSIdeal.nD Cert.FoxInSIdeal.τ).loc Cert.FoxInSIdeal.main_arg1) = m ((c.tc : Thread Cert.FoxInSIdeal.nD Cert.FoxInSIdeal.τ).loc Cert.FoxInSIdeal.main_arg1)
      ∧ r.2.mem ((c.tc : Thread Cert.FoxInSIdeal.nD Cert.FoxInSIdeal.τ).loc Cert.FoxInSIdeal.main_arg2) = m ((c.tc : Thread Cert.FoxInSIdeal.nD Cert.FoxInSIdeal.τ).loc Cert.FoxInSIdeal.main_arg2))
      ∧ r.2.sem = fun _ => 0)

def quiescent_FoxInSRefIdeal [hFoxInSRefIdeal : Cert.FoxInSRefIdeal.Facts] : Prop :=
  ∀ (m : (ℓ : Loc Cert.FoxInSRefIdeal.nD Cert.FoxInSRefIdeal.τ Cert.FoxInSRefIdeal.sig) → Buf (Elt Ideal) ℓ) (g : Dev Cert.FoxInSRefIdeal.nD → PrngReg), Pre_FoxInSRefIdeal m →
    θ_run (Cert.FoxInSRefIdeal.defs (F := Ideal)) (onTc (τ := Cert.FoxInSRefIdeal.τ) (Cert.FoxInSRefIdeal.main (F := Ideal))) ⟨m, fun _ => 0, g⟩ (fun r => (∀ c : Dev Cert.FoxInSRefIdeal.nD,
      r.2.mem ((c.tc : Thread Cert.FoxInSRefIdeal.nD Cert.FoxInSRefIdeal.τ).loc Cert.FoxInSRefIdeal.main_arg0) = m ((c.tc : Thread Cert.FoxInSRefIdeal.nD Cert.FoxInSRefIdeal.τ).loc Cert.FoxInSRefIdeal.main_arg0)
      ∧ r.2.mem ((c.tc : Thread Cert.FoxInSRefIdeal.nD Cert.FoxInSRefIdeal.τ).loc Cert.FoxInSRefIdeal.main_arg1) = m ((c.tc : Thread Cert.FoxInSRefIdeal.nD Cert.FoxInSRefIdeal.τ).loc Cert.FoxInSRefIdeal.main_arg1)
      ∧ r.2.mem ((c.tc : Thread Cert.FoxInSRefIdeal.nD Cert.FoxInSRefIdeal.τ).loc Cert.FoxInSRefIdeal.main_arg2) = m ((c.tc : Thread Cert.FoxInSRefIdeal.nD Cert.FoxInSRefIdeal.τ).loc Cert.FoxInSRefIdeal.main_arg2))
      ∧ r.2.sem = fun _ => 0)

def quiescent_FinalS [hFinalS : Cert.FinalS.Facts] : Prop :=
  ∀ (m : (ℓ : Loc Cert.FinalS.nD Cert.FinalS.τ Cert.FinalS.sig) → Buf (Elt Bits) ℓ) (g : Dev Cert.FinalS.nD → PrngReg), Pre_FinalS m →
    θ_run (Cert.FinalS.defs (F := Bits)) (onTc (τ := Cert.FinalS.τ) (Cert.FinalS.main (F := Bits))) ⟨m, fun _ => 0, g⟩ (fun r => (∀ c : Dev Cert.FinalS.nD,
      r.2.mem ((c.tc : Thread Cert.FinalS.nD Cert.FinalS.τ).loc Cert.FinalS.main_arg0) = m ((c.tc : Thread Cert.FinalS.nD Cert.FinalS.τ).loc Cert.FinalS.main_arg0)
      ∧ r.2.mem ((c.tc : Thread Cert.FinalS.nD Cert.FinalS.τ).loc Cert.FinalS.main_arg1) = m ((c.tc : Thread Cert.FinalS.nD Cert.FinalS.τ).loc Cert.FinalS.main_arg1))
      ∧ r.2.sem = fun _ => 0)

def quiescent_FinalSIdeal [hFinalSIdeal : Cert.FinalSIdeal.Facts] : Prop :=
  ∀ (m : (ℓ : Loc Cert.FinalSIdeal.nD Cert.FinalSIdeal.τ Cert.FinalSIdeal.sig) → Buf (Elt Ideal) ℓ) (g : Dev Cert.FinalSIdeal.nD → PrngReg), Pre_FinalSIdeal m →
    θ_run (Cert.FinalSIdeal.defs (F := Ideal)) (onTc (τ := Cert.FinalSIdeal.τ) (Cert.FinalSIdeal.main (F := Ideal))) ⟨m, fun _ => 0, g⟩ (fun r => (∀ c : Dev Cert.FinalSIdeal.nD,
      r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
      ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1))
      ∧ r.2.sem = fun _ => 0)

def quiescent_FinalSRefIdeal [hFinalSRefIdeal : Cert.FinalSRefIdeal.Facts] : Prop :=
  ∀ (m : (ℓ : Loc Cert.FinalSRefIdeal.nD Cert.FinalSRefIdeal.τ Cert.FinalSRefIdeal.sig) → Buf (Elt Ideal) ℓ) (g : Dev Cert.FinalSRefIdeal.nD → PrngReg), Pre_FinalSRefIdeal m →
    θ_run (Cert.FinalSRefIdeal.defs (F := Ideal)) (onTc (τ := Cert.FinalSRefIdeal.τ) (Cert.FinalSRefIdeal.main (F := Ideal))) ⟨m, fun _ => 0, g⟩ (fun r => (∀ c : Dev Cert.FinalSRefIdeal.nD,
      r.2.mem ((c.tc : Thread Cert.FinalSRefIdeal.nD Cert.FinalSRefIdeal.τ).loc Cert.FinalSRefIdeal.main_arg0) = m ((c.tc : Thread Cert.FinalSRefIdeal.nD Cert.FinalSRefIdeal.τ).loc Cert.FinalSRefIdeal.main_arg0)
      ∧ r.2.mem ((c.tc : Thread Cert.FinalSRefIdeal.nD Cert.FinalSRefIdeal.τ).loc Cert.FinalSRefIdeal.main_arg1) = m ((c.tc : Thread Cert.FinalSRefIdeal.nD Cert.FinalSRefIdeal.τ).loc Cert.FinalSRefIdeal.main_arg1))
      ∧ r.2.sem = fun _ => 0)

def quiescent_LogfS [hLogfS : Cert.LogfS.Facts] : Prop :=
  ∀ (m : (ℓ : Loc Cert.LogfS.nD Cert.LogfS.τ Cert.LogfS.sig) → Buf (Elt Bits) ℓ) (g : Dev Cert.LogfS.nD → PrngReg), Pre_LogfS m →
    θ_run (Cert.LogfS.defs (F := Bits)) (onTc (τ := Cert.LogfS.τ) (Cert.LogfS.main (F := Bits))) ⟨m, fun _ => 0, g⟩ (fun r => (∀ c : Dev Cert.LogfS.nD,
      r.2.mem ((c.tc : Thread Cert.LogfS.nD Cert.LogfS.τ).loc Cert.LogfS.main_arg0) = m ((c.tc : Thread Cert.LogfS.nD Cert.LogfS.τ).loc Cert.LogfS.main_arg0)
      ∧ r.2.mem ((c.tc : Thread Cert.LogfS.nD Cert.LogfS.τ).loc Cert.LogfS.main_arg1) = m ((c.tc : Thread Cert.LogfS.nD Cert.LogfS.τ).loc Cert.LogfS.main_arg1))
      ∧ r.2.sem = fun _ => 0)

def quiescent_LogfSIdeal [hLogfSIdeal : Cert.LogfSIdeal.Facts] : Prop :=
  ∀ (m : (ℓ : Loc Cert.LogfSIdeal.nD Cert.LogfSIdeal.τ Cert.LogfSIdeal.sig) → Buf (Elt Ideal) ℓ) (g : Dev Cert.LogfSIdeal.nD → PrngReg), Pre_LogfSIdeal m →
    θ_run (Cert.LogfSIdeal.defs (F := Ideal)) (onTc (τ := Cert.LogfSIdeal.τ) (Cert.LogfSIdeal.main (F := Ideal))) ⟨m, fun _ => 0, g⟩ (fun r => (∀ c : Dev Cert.LogfSIdeal.nD,
      r.2.mem ((c.tc : Thread Cert.LogfSIdeal.nD Cert.LogfSIdeal.τ).loc Cert.LogfSIdeal.main_arg0) = m ((c.tc : Thread Cert.LogfSIdeal.nD Cert.LogfSIdeal.τ).loc Cert.LogfSIdeal.main_arg0)
      ∧ r.2.mem ((c.tc : Thread Cert.LogfSIdeal.nD Cert.LogfSIdeal.τ).loc Cert.LogfSIdeal.main_arg1) = m ((c.tc : Thread Cert.LogfSIdeal.nD Cert.LogfSIdeal.τ).loc Cert.LogfSIdeal.main_arg1))
      ∧ r.2.sem = fun _ => 0)

def quiescent_LogfSRefIdeal [hLogfSRefIdeal : Cert.LogfSRefIdeal.Facts] : Prop :=
  ∀ (m : (ℓ : Loc Cert.LogfSRefIdeal.nD Cert.LogfSRefIdeal.τ Cert.LogfSRefIdeal.sig) → Buf (Elt Ideal) ℓ) (g : Dev Cert.LogfSRefIdeal.nD → PrngReg), Pre_LogfSRefIdeal m →
    θ_run (Cert.LogfSRefIdeal.defs (F := Ideal)) (onTc (τ := Cert.LogfSRefIdeal.τ) (Cert.LogfSRefIdeal.main (F := Ideal))) ⟨m, fun _ => 0, g⟩ (fun r => (∀ c : Dev Cert.LogfSRefIdeal.nD,
      r.2.mem ((c.tc : Thread Cert.LogfSRefIdeal.nD Cert.LogfSRefIdeal.τ).loc Cert.LogfSRefIdeal.main_arg0) = m ((c.tc : Thread Cert.LogfSRefIdeal.nD Cert.LogfSRefIdeal.τ).loc Cert.LogfSRefIdeal.main_arg0)
      ∧ r.2.mem ((c.tc : Thread Cert.LogfSRefIdeal.nD Cert.LogfSRefIdeal.τ).loc Cert.LogfSRefIdeal.main_arg1) = m ((c.tc : Thread Cert.LogfSRefIdeal.nD Cert.LogfSRefIdeal.τ).loc Cert.LogfSRefIdeal.main_arg1))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "scale" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_GdnIn_GdnInIdeal : Prop :=
  True

def algebraic_GdnInIdeal_GdnInRefIdeal [hGdnInIdeal : Cert.GdnInIdeal.Facts] [hGdnInRefIdeal : Cert.GdnInRefIdeal.Facts] : Prop :=
  ∀ (m : (ℓ : Loc Cert.GdnInIdeal.nD Cert.GdnInIdeal.τ Cert.GdnInIdeal.sig) → Buf (Elt Ideal) ℓ) (g : Dev Cert.GdnInIdeal.nD → PrngReg)
    (m' : (ℓ : Loc Cert.GdnInRefIdeal.nD Cert.GdnInRefIdeal.τ Cert.GdnInRefIdeal.sig) → Buf (Elt Ideal) ℓ) (g' : Dev Cert.GdnInRefIdeal.nD → PrngReg), Pre_GdnInIdeal m →
    (∀ c : Dev Cert.GdnInIdeal.nD,
      m' ((c.tc : Thread Cert.GdnInRefIdeal.nD Cert.GdnInRefIdeal.τ).loc Cert.GdnInRefIdeal.main_arg0) = m ((c.tc : Thread Cert.GdnInIdeal.nD Cert.GdnInIdeal.τ).loc Cert.GdnInIdeal.main_arg0)
      ∧ m' ((c.tc : Thread Cert.GdnInRefIdeal.nD Cert.GdnInRefIdeal.τ).loc Cert.GdnInRefIdeal.main_arg1) = m ((c.tc : Thread Cert.GdnInIdeal.nD Cert.GdnInIdeal.τ).loc Cert.GdnInIdeal.main_arg1)
      ∧ m' ((c.tc : Thread Cert.GdnInRefIdeal.nD Cert.GdnInRefIdeal.τ).loc Cert.GdnInRefIdeal.main_arg2) = m ((c.tc : Thread Cert.GdnInIdeal.nD Cert.GdnInIdeal.τ).loc Cert.GdnInIdeal.main_arg2)
      ∧ m' ((c.tc : Thread Cert.GdnInRefIdeal.nD Cert.GdnInRefIdeal.τ).loc Cert.GdnInRefIdeal.main_arg3) = m ((c.tc : Thread Cert.GdnInIdeal.nD Cert.GdnInIdeal.τ).loc Cert.GdnInIdeal.main_arg3)) →
    ∃ (v0 : (c : Dev Cert.GdnInIdeal.nD) → Buf (Elt Ideal) ((c.tc : Thread Cert.GdnInIdeal.nD Cert.GdnInIdeal.τ).loc Cert.GdnInIdeal.main_v13)) (v1 : (c : Dev Cert.GdnInIdeal.nD) → Buf (Elt Ideal) ((c.tc : Thread Cert.GdnInIdeal.nD Cert.GdnInIdeal.τ).loc Cert.GdnInIdeal.main_v15)),
      θ_run (Cert.GdnInIdeal.defs (F := Ideal)) (onTc (τ := Cert.GdnInIdeal.τ) (Cert.GdnInIdeal.main (F := Ideal))) ⟨m, fun _ => 0, g⟩ (fun r => ∀ c : Dev Cert.GdnInIdeal.nD,
          r.2.mem ((c.tc : Thread Cert.GdnInIdeal.nD Cert.GdnInIdeal.τ).loc Cert.GdnInIdeal.main_v13) = v0 c
          ∧ r.2.mem ((c.tc : Thread Cert.GdnInIdeal.nD Cert.GdnInIdeal.τ).loc Cert.GdnInIdeal.main_v15) = v1 c
          ∧ r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
          ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1)
          ∧ r.2.mem ((c.tc : Thread Cert.GdnInIdeal.nD Cert.GdnInIdeal.τ).loc Cert.GdnInIdeal.main_arg2) = m ((c.tc : Thread Cert.GdnInIdeal.nD Cert.GdnInIdeal.τ).loc Cert.GdnInIdeal.main_arg2)
          ∧ r.2.mem ((c.tc : Thread Cert.GdnInIdeal.nD Cert.GdnInIdeal.τ).loc Cert.GdnInIdeal.main_arg3) = m ((c.tc : Thread Cert.GdnInIdeal.nD Cert.GdnInIdeal.τ).loc Cert.GdnInIdeal.main_arg3))
      ∧ θ_run (Cert.GdnInRefIdeal.defs (F := Ideal)) (onTc (τ := Cert.GdnInRefIdeal.τ) (Cert.GdnInRefIdeal.main (F := Ideal))) ⟨m', fun _ => 0, g'⟩ (fun r => ∀ c : Dev Cert.GdnInRefIdeal.nD,
          r.2.mem ((c.tc : Thread Cert.GdnInRefIdeal.nD Cert.GdnInRefIdeal.τ).loc Cert.GdnInRefIdeal.main_v19) = v0 c
          ∧ r.2.mem ((c.tc : Thread Cert.GdnInRefIdeal.nD Cert.GdnInRefIdeal.τ).loc Cert.GdnInRefIdeal.main_v23) = v1 c
          ∧ r.2.mem ((c.tc : Thread Cert.GdnInRefIdeal.nD Cert.GdnInRefIdeal.τ).loc Cert.GdnInRefIdeal.main_arg0) = m' ((c.tc : Thread Cert.GdnInRefIdeal.nD Cert.GdnInRefIdeal.τ).loc Cert.GdnInRefIdeal.main_arg0)
          ∧ r.2.mem ((c.tc : Thread Cert.GdnInRefIdeal.nD Cert.GdnInRefIdeal.τ).loc Cert.GdnInRefIdeal.main_arg1) = m' ((c.tc : Thread Cert.GdnInRefIdeal.nD Cert.GdnInRefIdeal.τ).loc Cert.GdnInRefIdeal.main_arg1)
          ∧ r.2.mem ((c.tc : Thread Cert.GdnInRefIdeal.nD Cert.GdnInRefIdeal.τ).loc Cert.GdnInRefIdeal.main_arg2) = m' ((c.tc : Thread Cert.GdnInRefIdeal.nD Cert.GdnInRefIdeal.τ).loc Cert.GdnInRefIdeal.main_arg2)
          ∧ r.2.mem ((c.tc : Thread Cert.GdnInRefIdeal.nD Cert.GdnInRefIdeal.τ).loc Cert.GdnInRefIdeal.main_arg3) = m' ((c.tc : Thread Cert.GdnInRefIdeal.nD Cert.GdnInRefIdeal.τ).loc Cert.GdnInRefIdeal.main_arg3))

def preserves_FoxIn_FoxInIdeal : Prop :=
  True

def algebraic_FoxInIdeal_FoxInRefIdeal [hFoxInIdeal : Cert.FoxInIdeal.Facts] [hFoxInRefIdeal : Cert.FoxInRefIdeal.Facts] : Prop :=
  ∀ (m : (ℓ : Loc Cert.FoxInIdeal.nD Cert.FoxInIdeal.τ Cert.FoxInIdeal.sig) → Buf (Elt Ideal) ℓ) (g : Dev Cert.FoxInIdeal.nD → PrngReg)
    (m' : (ℓ : Loc Cert.FoxInRefIdeal.nD Cert.FoxInRefIdeal.τ Cert.FoxInRefIdeal.sig) → Buf (Elt Ideal) ℓ) (g' : Dev Cert.FoxInRefIdeal.nD → PrngReg), Pre_FoxInIdeal m →
    (∀ c : Dev Cert.FoxInIdeal.nD,
      m' ((c.tc : Thread Cert.FoxInRefIdeal.nD Cert.FoxInRefIdeal.τ).loc Cert.FoxInRefIdeal.main_arg0) = m ((c.tc : Thread Cert.FoxInIdeal.nD Cert.FoxInIdeal.τ).loc Cert.FoxInIdeal.main_arg0)
      ∧ m' ((c.tc : Thread Cert.FoxInRefIdeal.nD Cert.FoxInRefIdeal.τ).loc Cert.FoxInRefIdeal.main_arg1) = m ((c.tc : Thread Cert.FoxInIdeal.nD Cert.FoxInIdeal.τ).loc Cert.FoxInIdeal.main_arg1)
      ∧ m' ((c.tc : Thread Cert.FoxInRefIdeal.nD Cert.FoxInRefIdeal.τ).loc Cert.FoxInRefIdeal.main_arg2) = m ((c.tc : Thread Cert.FoxInIdeal.nD Cert.FoxInIdeal.τ).loc Cert.FoxInIdeal.main_arg2)) →
    ∃ (v0 : (c : Dev Cert.FoxInIdeal.nD) → Buf (Elt Ideal) ((c.tc : Thread Cert.FoxInIdeal.nD Cert.FoxInIdeal.τ).loc Cert.FoxInIdeal.main_v13)) (v1 : (c : Dev Cert.FoxInIdeal.nD) → Buf (Elt Ideal) ((c.tc : Thread Cert.FoxInIdeal.nD Cert.FoxInIdeal.τ).loc Cert.FoxInIdeal.main_v10)) (v2 : (c : Dev Cert.FoxInIdeal.nD) → Buf (Elt Ideal) ((c.tc : Thread Cert.FoxInIdeal.nD Cert.FoxInIdeal.τ).loc Cert.FoxInIdeal.main_v12)),
      θ_run (Cert.FoxInIdeal.defs (F := Ideal)) (onTc (τ := Cert.FoxInIdeal.τ) (Cert.FoxInIdeal.main (F := Ideal))) ⟨m, fun _ => 0, g⟩ (fun r => ∀ c : Dev Cert.FoxInIdeal.nD,
          r.2.mem ((c.tc : Thread Cert.FoxInIdeal.nD Cert.FoxInIdeal.τ).loc Cert.FoxInIdeal.main_v13) = v0 c
          ∧ r.2.mem ((c.tc : Thread Cert.FoxInIdeal.nD Cert.FoxInIdeal.τ).loc Cert.FoxInIdeal.main_v10) = v1 c
          ∧ r.2.mem ((c.tc : Thread Cert.FoxInIdeal.nD Cert.FoxInIdeal.τ).loc Cert.FoxInIdeal.main_v12) = v2 c
          ∧ r.2.mem ((c.tc : Thread Cert.FoxInIdeal.nD Cert.FoxInIdeal.τ).loc Cert.FoxInIdeal.main_arg0) = m ((c.tc : Thread Cert.FoxInIdeal.nD Cert.FoxInIdeal.τ).loc Cert.FoxInIdeal.main_arg0)
          ∧ r.2.mem ((c.tc : Thread Cert.FoxInIdeal.nD Cert.FoxInIdeal.τ).loc Cert.FoxInIdeal.main_arg1) = m ((c.tc : Thread Cert.FoxInIdeal.nD Cert.FoxInIdeal.τ).loc Cert.FoxInIdeal.main_arg1)
          ∧ r.2.mem ((c.tc : Thread Cert.FoxInIdeal.nD Cert.FoxInIdeal.τ).loc Cert.FoxInIdeal.main_arg2) = m ((c.tc : Thread Cert.FoxInIdeal.nD Cert.FoxInIdeal.τ).loc Cert.FoxInIdeal.main_arg2))
      ∧ θ_run (Cert.FoxInRefIdeal.defs (F := Ideal)) (onTc (τ := Cert.FoxInRefIdeal.τ) (Cert.FoxInRefIdeal.main (F := Ideal))) ⟨m', fun _ => 0, g'⟩ (fun r => ∀ c : Dev Cert.FoxInRefIdeal.nD,
          r.2.mem ((c.tc : Thread Cert.FoxInRefIdeal.nD Cert.FoxInRefIdeal.τ).loc Cert.FoxInRefIdeal.main_v18) = v0 c
          ∧ r.2.mem ((c.tc : Thread Cert.FoxInRefIdeal.nD Cert.FoxInRefIdeal.τ).loc Cert.FoxInRefIdeal.main_v23) = v1 c
          ∧ r.2.mem ((c.tc : Thread Cert.FoxInRefIdeal.nD Cert.FoxInRefIdeal.τ).loc Cert.FoxInRefIdeal.main_v24) = v2 c
          ∧ r.2.mem ((c.tc : Thread Cert.FoxInRefIdeal.nD Cert.FoxInRefIdeal.τ).loc Cert.FoxInRefIdeal.main_arg0) = m' ((c.tc : Thread Cert.FoxInRefIdeal.nD Cert.FoxInRefIdeal.τ).loc Cert.FoxInRefIdeal.main_arg0)
          ∧ r.2.mem ((c.tc : Thread Cert.FoxInRefIdeal.nD Cert.FoxInRefIdeal.τ).loc Cert.FoxInRefIdeal.main_arg1) = m' ((c.tc : Thread Cert.FoxInRefIdeal.nD Cert.FoxInRefIdeal.τ).loc Cert.FoxInRefIdeal.main_arg1)
          ∧ r.2.mem ((c.tc : Thread Cert.FoxInRefIdeal.nD Cert.FoxInRefIdeal.τ).loc Cert.FoxInRefIdeal.main_arg2) = m' ((c.tc : Thread Cert.FoxInRefIdeal.nD Cert.FoxInRefIdeal.τ).loc Cert.FoxInRefIdeal.main_arg2))

def preserves_PeerQ_PeerQIdeal : Prop :=
  True

def algebraic_PeerQIdeal_PeerQRefIdeal [hPeerQIdeal : Cert.PeerQIdeal.Facts] [hPeerQRefIdeal : Cert.PeerQRefIdeal.Facts] : Prop :=
  ∀ (m : (ℓ : Loc Cert.PeerQIdeal.nD Cert.PeerQIdeal.τ Cert.PeerQIdeal.sig) → Buf (Elt Ideal) ℓ) (g : Dev Cert.PeerQIdeal.nD → PrngReg)
    (m' : (ℓ : Loc Cert.PeerQRefIdeal.nD Cert.PeerQRefIdeal.τ Cert.PeerQRefIdeal.sig) → Buf (Elt Ideal) ℓ) (g' : Dev Cert.PeerQRefIdeal.nD → PrngReg), Pre_PeerQIdeal m →
    (∀ c : Dev Cert.PeerQIdeal.nD,
      m' ((c.tc : Thread Cert.PeerQRefIdeal.nD Cert.PeerQRefIdeal.τ).loc Cert.PeerQRefIdeal.main_arg0) = m ((c.tc : Thread Cert.PeerQIdeal.nD Cert.PeerQIdeal.τ).loc Cert.PeerQIdeal.main_arg0)
      ∧ m' ((c.tc : Thread Cert.PeerQRefIdeal.nD Cert.PeerQRefIdeal.τ).loc Cert.PeerQRefIdeal.main_arg1) = m ((c.tc : Thread Cert.PeerQIdeal.nD Cert.PeerQIdeal.τ).loc Cert.PeerQIdeal.main_arg1)
      ∧ m' ((c.tc : Thread Cert.PeerQRefIdeal.nD Cert.PeerQRefIdeal.τ).loc Cert.PeerQRefIdeal.main_arg2) = m ((c.tc : Thread Cert.PeerQIdeal.nD Cert.PeerQIdeal.τ).loc Cert.PeerQIdeal.main_arg2)) →
    ∃ (v0 : (c : Dev Cert.PeerQIdeal.nD) → Buf (Elt Ideal) ((c.tc : Thread Cert.PeerQIdeal.nD Cert.PeerQIdeal.τ).loc Cert.PeerQIdeal.main_v4)) (v1 : (c : Dev Cert.PeerQIdeal.nD) → Buf (Elt Ideal) ((c.tc : Thread Cert.PeerQIdeal.nD Cert.PeerQIdeal.τ).loc Cert.PeerQIdeal.main_v2_1)),
      θ_run (Cert.PeerQIdeal.defs (F := Ideal)) (onTc (τ := Cert.PeerQIdeal.τ) (Cert.PeerQIdeal.main (F := Ideal))) ⟨m, fun _ => 0, g⟩ (fun r => ∀ c : Dev Cert.PeerQIdeal.nD,
          r.2.mem ((c.tc : Thread Cert.PeerQIdeal.nD Cert.PeerQIdeal.τ).loc Cert.PeerQIdeal.main_v4) = v0 c
          ∧ r.2.mem ((c.tc : Thread Cert.PeerQIdeal.nD Cert.PeerQIdeal.τ).loc Cert.PeerQIdeal.main_v2_1) = v1 c
          ∧ r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
          ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1)
          ∧ r.2.mem ((c.tc : Thread Cert.PeerQIdeal.nD Cert.PeerQIdeal.τ).loc Cert.PeerQIdeal.main_arg2) = m ((c.tc : Thread Cert.PeerQIdeal.nD Cert.PeerQIdeal.τ).loc Cert.PeerQIdeal.main_arg2))
      ∧ θ_run (Cert.PeerQRefIdeal.defs (F := Ideal)) (onTc (τ := Cert.PeerQRefIdeal.τ) (Cert.PeerQRefIdeal.main (F := Ideal))) ⟨m', fun _ => 0, g'⟩ (fun r => ∀ c : Dev Cert.PeerQRefIdeal.nD,
          r.2.mem ((c.tc : Thread Cert.PeerQRefIdeal.nD Cert.PeerQRefIdeal.τ).loc Cert.PeerQRefIdeal.main_v14) = v0 c
          ∧ r.2.mem ((c.tc : Thread Cert.PeerQRefIdeal.nD Cert.PeerQRefIdeal.τ).loc Cert.PeerQRefIdeal.main_v12) = v1 c
          ∧ r.2.mem ((c.tc : Thread Cert.PeerQRefIdeal.nD Cert.PeerQRefIdeal.τ).loc Cert.PeerQRefIdeal.main_arg0) = m' ((c.tc : Thread Cert.PeerQRefIdeal.nD Cert.PeerQRefIdeal.τ).loc Cert.PeerQRefIdeal.main_arg0)
          ∧ r.2.mem ((c.tc : Thread Cert.PeerQRefIdeal.nD Cert.PeerQRefIdeal.τ).loc Cert.PeerQRefIdeal.main_arg1) = m' ((c.tc : Thread Cert.PeerQRefIdeal.nD Cert.PeerQRefIdeal.τ).loc Cert.PeerQRefIdeal.main_arg1)
          ∧ r.2.mem ((c.tc : Thread Cert.PeerQRefIdeal.nD Cert.PeerQRefIdeal.τ).loc Cert.PeerQRefIdeal.main_arg2) = m' ((c.tc : Thread Cert.PeerQRefIdeal.nD Cert.PeerQRefIdeal.τ).loc Cert.PeerQRefIdeal.main_arg2))

def preserves_FoxOut_FoxOutIdeal : Prop :=
  True

def algebraic_FoxOutIdeal_FoxOutRefIdeal [hFoxOutIdeal : Cert.FoxOutIdeal.Facts] [hFoxOutRefIdeal : Cert.FoxOutRefIdeal.Facts] : Prop :=
  ∀ (m : (ℓ : Loc Cert.FoxOutIdeal.nD Cert.FoxOutIdeal.τ Cert.FoxOutIdeal.sig) → Buf (Elt Ideal) ℓ) (g : Dev Cert.FoxOutIdeal.nD → PrngReg)
    (m' : (ℓ : Loc Cert.FoxOutRefIdeal.nD Cert.FoxOutRefIdeal.τ Cert.FoxOutRefIdeal.sig) → Buf (Elt Ideal) ℓ) (g' : Dev Cert.FoxOutRefIdeal.nD → PrngReg), Pre_FoxOutIdeal m →
    (∀ c : Dev Cert.FoxOutIdeal.nD,
      m' ((c.tc : Thread Cert.FoxOutRefIdeal.nD Cert.FoxOutRefIdeal.τ).loc Cert.FoxOutRefIdeal.main_arg0) = m ((c.tc : Thread Cert.FoxOutIdeal.nD Cert.FoxOutIdeal.τ).loc Cert.FoxOutIdeal.main_arg0)
      ∧ m' ((c.tc : Thread Cert.FoxOutRefIdeal.nD Cert.FoxOutRefIdeal.τ).loc Cert.FoxOutRefIdeal.main_arg1) = m ((c.tc : Thread Cert.FoxOutIdeal.nD Cert.FoxOutIdeal.τ).loc Cert.FoxOutIdeal.main_arg1)
      ∧ m' ((c.tc : Thread Cert.FoxOutRefIdeal.nD Cert.FoxOutRefIdeal.τ).loc Cert.FoxOutRefIdeal.main_arg2) = m ((c.tc : Thread Cert.FoxOutIdeal.nD Cert.FoxOutIdeal.τ).loc Cert.FoxOutIdeal.main_arg2)) →
    ∃ (v0 : (c : Dev Cert.FoxOutIdeal.nD) → Buf (Elt Ideal) ((c.tc : Thread Cert.FoxOutIdeal.nD Cert.FoxOutIdeal.τ).loc Cert.FoxOutIdeal.main_v2)),
      θ_run (Cert.FoxOutIdeal.defs (F := Ideal)) (onTc (τ := Cert.FoxOutIdeal.τ) (Cert.FoxOutIdeal.main (F := Ideal))) ⟨m, fun _ => 0, g⟩ (fun r => ∀ c : Dev Cert.FoxOutIdeal.nD,
          r.2.mem ((c.tc : Thread Cert.FoxOutIdeal.nD Cert.FoxOutIdeal.τ).loc Cert.FoxOutIdeal.main_v2) = v0 c
          ∧ r.2.mem ((c.tc : Thread Cert.FoxOutIdeal.nD Cert.FoxOutIdeal.τ).loc Cert.FoxOutIdeal.main_arg0) = m ((c.tc : Thread Cert.FoxOutIdeal.nD Cert.FoxOutIdeal.τ).loc Cert.FoxOutIdeal.main_arg0)
          ∧ r.2.mem ((c.tc : Thread Cert.FoxOutIdeal.nD Cert.FoxOutIdeal.τ).loc Cert.FoxOutIdeal.main_arg1) = m ((c.tc : Thread Cert.FoxOutIdeal.nD Cert.FoxOutIdeal.τ).loc Cert.FoxOutIdeal.main_arg1)
          ∧ r.2.mem ((c.tc : Thread Cert.FoxOutIdeal.nD Cert.FoxOutIdeal.τ).loc Cert.FoxOutIdeal.main_arg2) = m ((c.tc : Thread Cert.FoxOutIdeal.nD Cert.FoxOutIdeal.τ).loc Cert.FoxOutIdeal.main_arg2))
      ∧ θ_run (Cert.FoxOutRefIdeal.defs (F := Ideal)) (onTc (τ := Cert.FoxOutRefIdeal.τ) (Cert.FoxOutRefIdeal.main (F := Ideal))) ⟨m', fun _ => 0, g'⟩ (fun r => ∀ c : Dev Cert.FoxOutRefIdeal.nD,
          r.2.mem ((c.tc : Thread Cert.FoxOutRefIdeal.nD Cert.FoxOutRefIdeal.τ).loc Cert.FoxOutRefIdeal.main_v2) = v0 c
          ∧ r.2.mem ((c.tc : Thread Cert.FoxOutRefIdeal.nD Cert.FoxOutRefIdeal.τ).loc Cert.FoxOutRefIdeal.main_arg0) = m' ((c.tc : Thread Cert.FoxOutRefIdeal.nD Cert.FoxOutRefIdeal.τ).loc Cert.FoxOutRefIdeal.main_arg0)
          ∧ r.2.mem ((c.tc : Thread Cert.FoxOutRefIdeal.nD Cert.FoxOutRefIdeal.τ).loc Cert.FoxOutRefIdeal.main_arg1) = m' ((c.tc : Thread Cert.FoxOutRefIdeal.nD Cert.FoxOutRefIdeal.τ).loc Cert.FoxOutRefIdeal.main_arg1)
          ∧ r.2.mem ((c.tc : Thread Cert.FoxOutRefIdeal.nD Cert.FoxOutRefIdeal.τ).loc Cert.FoxOutRefIdeal.main_arg2) = m' ((c.tc : Thread Cert.FoxOutRefIdeal.nD Cert.FoxOutRefIdeal.τ).loc Cert.FoxOutRefIdeal.main_arg2))

def preserves_GdnOut_GdnOutIdeal : Prop :=
  True

def algebraic_GdnOutIdeal_GdnOutRefIdeal [hGdnOutIdeal : Cert.GdnOutIdeal.Facts] [hGdnOutRefIdeal : Cert.GdnOutRefIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg)
    (m' : (ℓ : Loc Cert.GdnOutRefIdeal.nD Cert.GdnOutRefIdeal.τ Cert.GdnOutRefIdeal.sig) → Buf (Elt Ideal) ℓ) (g' : Dev Cert.GdnOutRefIdeal.nD → PrngReg), Pre_GdnOutIdeal m →
    (∀ c : Dev Cert.GdnOutIdeal.nD,
      m' ((c.tc : Thread Cert.GdnOutRefIdeal.nD Cert.GdnOutRefIdeal.τ).loc Cert.GdnOutRefIdeal.main_arg0) = m ((c.tc : Thread Cert.GdnOutIdeal.nD Cert.GdnOutIdeal.τ).loc Cert.GdnOutIdeal.main_arg0)
      ∧ m' ((c.tc : Thread Cert.GdnOutRefIdeal.nD Cert.GdnOutRefIdeal.τ).loc Cert.GdnOutRefIdeal.main_arg1) = m ((c.tc : Thread Cert.GdnOutIdeal.nD Cert.GdnOutIdeal.τ).loc Cert.GdnOutIdeal.main_arg1)
      ∧ m' ((c.tc : Thread Cert.GdnOutRefIdeal.nD Cert.GdnOutRefIdeal.τ).loc Cert.GdnOutRefIdeal.main_arg2) = m ((c.tc : Thread Cert.GdnOutIdeal.nD Cert.GdnOutIdeal.τ).loc Cert.GdnOutIdeal.main_arg2)
      ∧ m' ((c.tc : Thread Cert.GdnOutRefIdeal.nD Cert.GdnOutRefIdeal.τ).loc Cert.GdnOutRefIdeal.main_arg3) = m ((c.tc : Thread Cert.GdnOutIdeal.nD Cert.GdnOutIdeal.τ).loc Cert.GdnOutIdeal.main_arg3)
      ∧ m' ((c.tc : Thread Cert.GdnOutRefIdeal.nD Cert.GdnOutRefIdeal.τ).loc Cert.GdnOutRefIdeal.main_arg4) = m ((c.tc : Thread Cert.GdnOutIdeal.nD Cert.GdnOutIdeal.τ).loc Cert.GdnOutIdeal.main_arg4)) →
    ∃ (v0 : (c : Dev Cert.GdnOutIdeal.nD) → Buf (Elt Ideal) ((c.tc : Thread Cert.GdnOutIdeal.nD Cert.GdnOutIdeal.τ).loc Cert.GdnOutIdeal.main_v4)),
      θ_run (Cert.GdnOutIdeal.defs (F := Ideal)) (onTc (τ := Cert.GdnOutIdeal.τ) (Cert.GdnOutIdeal.main (F := Ideal))) ⟨m, fun _ => 0, g⟩ (fun r => ∀ c : Dev Cert.GdnOutIdeal.nD,
          r.2.mem ((c.tc : Thread Cert.GdnOutIdeal.nD Cert.GdnOutIdeal.τ).loc Cert.GdnOutIdeal.main_v4) = v0 c
          ∧ r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
          ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
          ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
          ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3)
          ∧ r.2.mem ((c.tc : Thread Cert.GdnOutIdeal.nD Cert.GdnOutIdeal.τ).loc Cert.GdnOutIdeal.main_arg4) = m ((c.tc : Thread Cert.GdnOutIdeal.nD Cert.GdnOutIdeal.τ).loc Cert.GdnOutIdeal.main_arg4))
      ∧ θ_run (Cert.GdnOutRefIdeal.defs (F := Ideal)) (onTc (τ := Cert.GdnOutRefIdeal.τ) (Cert.GdnOutRefIdeal.main (F := Ideal))) ⟨m', fun _ => 0, g'⟩ (fun r => ∀ c : Dev Cert.GdnOutRefIdeal.nD,
          r.2.mem ((c.tc : Thread Cert.GdnOutRefIdeal.nD Cert.GdnOutRefIdeal.τ).loc Cert.GdnOutRefIdeal.main_v22) = v0 c
          ∧ r.2.mem ((c.tc : Thread Cert.GdnOutRefIdeal.nD Cert.GdnOutRefIdeal.τ).loc Cert.GdnOutRefIdeal.main_arg0) = m' ((c.tc : Thread Cert.GdnOutRefIdeal.nD Cert.GdnOutRefIdeal.τ).loc Cert.GdnOutRefIdeal.main_arg0)
          ∧ r.2.mem ((c.tc : Thread Cert.GdnOutRefIdeal.nD Cert.GdnOutRefIdeal.τ).loc Cert.GdnOutRefIdeal.main_arg1) = m' ((c.tc : Thread Cert.GdnOutRefIdeal.nD Cert.GdnOutRefIdeal.τ).loc Cert.GdnOutRefIdeal.main_arg1)
          ∧ r.2.mem ((c.tc : Thread Cert.GdnOutRefIdeal.nD Cert.GdnOutRefIdeal.τ).loc Cert.GdnOutRefIdeal.main_arg2) = m' ((c.tc : Thread Cert.GdnOutRefIdeal.nD Cert.GdnOutRefIdeal.τ).loc Cert.GdnOutRefIdeal.main_arg2)
          ∧ r.2.mem ((c.tc : Thread Cert.GdnOutRefIdeal.nD Cert.GdnOutRefIdeal.τ).loc Cert.GdnOutRefIdeal.main_arg3) = m' ((c.tc : Thread Cert.GdnOutRefIdeal.nD Cert.GdnOutRefIdeal.τ).loc Cert.GdnOutRefIdeal.main_arg3)
          ∧ r.2.mem ((c.tc : Thread Cert.GdnOutRefIdeal.nD Cert.GdnOutRefIdeal.τ).loc Cert.GdnOutRefIdeal.main_arg4) = m' ((c.tc : Thread Cert.GdnOutRefIdeal.nD Cert.GdnOutRefIdeal.τ).loc Cert.GdnOutRefIdeal.main_arg4))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v2) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v15) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_Logf_LogfIdeal : Prop :=
  True

def algebraic_LogfIdeal_LogfRefIdeal [hLogfIdeal : Cert.LogfIdeal.Facts] [hLogfRefIdeal : Cert.LogfRefIdeal.Facts] : Prop :=
  ∀ (m : (ℓ : Loc Cert.LogfIdeal.nD Cert.LogfIdeal.τ Cert.LogfIdeal.sig) → Buf (Elt Ideal) ℓ) (g : Dev Cert.LogfIdeal.nD → PrngReg)
    (m' : (ℓ : Loc Cert.LogfRefIdeal.nD Cert.LogfRefIdeal.τ Cert.LogfRefIdeal.sig) → Buf (Elt Ideal) ℓ) (g' : Dev Cert.LogfRefIdeal.nD → PrngReg), Pre_LogfIdeal m →
    (∀ c : Dev Cert.LogfIdeal.nD,
      m' ((c.tc : Thread Cert.LogfRefIdeal.nD Cert.LogfRefIdeal.τ).loc Cert.LogfRefIdeal.main_arg0) = m ((c.tc : Thread Cert.LogfIdeal.nD Cert.LogfIdeal.τ).loc Cert.LogfIdeal.main_arg0)
      ∧ m' ((c.tc : Thread Cert.LogfRefIdeal.nD Cert.LogfRefIdeal.τ).loc Cert.LogfRefIdeal.main_arg1) = m ((c.tc : Thread Cert.LogfIdeal.nD Cert.LogfIdeal.τ).loc Cert.LogfIdeal.main_arg1)) →
    ∃ (v0 : (c : Dev Cert.LogfIdeal.nD) → Buf (Elt Ideal) ((c.tc : Thread Cert.LogfIdeal.nD Cert.LogfIdeal.τ).loc Cert.LogfIdeal.main_v8)),
      θ_run (Cert.LogfIdeal.defs (F := Ideal)) (onTc (τ := Cert.LogfIdeal.τ) (Cert.LogfIdeal.main (F := Ideal))) ⟨m, fun _ => 0, g⟩ (fun r => ∀ c : Dev Cert.LogfIdeal.nD,
          r.2.mem ((c.tc : Thread Cert.LogfIdeal.nD Cert.LogfIdeal.τ).loc Cert.LogfIdeal.main_v8) = v0 c
          ∧ r.2.mem ((c.tc : Thread Cert.LogfIdeal.nD Cert.LogfIdeal.τ).loc Cert.LogfIdeal.main_arg0) = m ((c.tc : Thread Cert.LogfIdeal.nD Cert.LogfIdeal.τ).loc Cert.LogfIdeal.main_arg0)
          ∧ r.2.mem ((c.tc : Thread Cert.LogfIdeal.nD Cert.LogfIdeal.τ).loc Cert.LogfIdeal.main_arg1) = m ((c.tc : Thread Cert.LogfIdeal.nD Cert.LogfIdeal.τ).loc Cert.LogfIdeal.main_arg1))
      ∧ θ_run (Cert.LogfRefIdeal.defs (F := Ideal)) (onTc (τ := Cert.LogfRefIdeal.τ) (Cert.LogfRefIdeal.main (F := Ideal))) ⟨m', fun _ => 0, g'⟩ (fun r => ∀ c : Dev Cert.LogfRefIdeal.nD,
          r.2.mem ((c.tc : Thread Cert.LogfRefIdeal.nD Cert.LogfRefIdeal.τ).loc Cert.LogfRefIdeal.main_v6) = v0 c
          ∧ r.2.mem ((c.tc : Thread Cert.LogfRefIdeal.nD Cert.LogfRefIdeal.τ).loc Cert.LogfRefIdeal.main_arg0) = m' ((c.tc : Thread Cert.LogfRefIdeal.nD Cert.LogfRefIdeal.τ).loc Cert.LogfRefIdeal.main_arg0)
          ∧ r.2.mem ((c.tc : Thread Cert.LogfRefIdeal.nD Cert.LogfRefIdeal.τ).loc Cert.LogfRefIdeal.main_arg1) = m' ((c.tc : Thread Cert.LogfRefIdeal.nD Cert.LogfRefIdeal.τ).loc Cert.LogfRefIdeal.main_arg1))

def preserves_GdnInS_GdnInSIdeal : Prop :=
  True

def algebraic_GdnInSIdeal_GdnInSRefIdeal [hGdnInSIdeal : Cert.GdnInSIdeal.Facts] [hGdnInSRefIdeal : Cert.GdnInSRefIdeal.Facts] : Prop :=
  ∀ (m : (ℓ : Loc Cert.GdnInSIdeal.nD Cert.GdnInSIdeal.τ Cert.GdnInSIdeal.sig) → Buf (Elt Ideal) ℓ) (g : Dev Cert.GdnInSIdeal.nD → PrngReg)
    (m' : (ℓ : Loc Cert.GdnInSRefIdeal.nD Cert.GdnInSRefIdeal.τ Cert.GdnInSRefIdeal.sig) → Buf (Elt Ideal) ℓ) (g' : Dev Cert.GdnInSRefIdeal.nD → PrngReg), Pre_GdnInSIdeal m →
    (∀ c : Dev Cert.GdnInSIdeal.nD,
      m' ((c.tc : Thread Cert.GdnInSRefIdeal.nD Cert.GdnInSRefIdeal.τ).loc Cert.GdnInSRefIdeal.main_arg0) = m ((c.tc : Thread Cert.GdnInSIdeal.nD Cert.GdnInSIdeal.τ).loc Cert.GdnInSIdeal.main_arg0)
      ∧ m' ((c.tc : Thread Cert.GdnInSRefIdeal.nD Cert.GdnInSRefIdeal.τ).loc Cert.GdnInSRefIdeal.main_arg1) = m ((c.tc : Thread Cert.GdnInSIdeal.nD Cert.GdnInSIdeal.τ).loc Cert.GdnInSIdeal.main_arg1)
      ∧ m' ((c.tc : Thread Cert.GdnInSRefIdeal.nD Cert.GdnInSRefIdeal.τ).loc Cert.GdnInSRefIdeal.main_arg2) = m ((c.tc : Thread Cert.GdnInSIdeal.nD Cert.GdnInSIdeal.τ).loc Cert.GdnInSIdeal.main_arg2)
      ∧ m' ((c.tc : Thread Cert.GdnInSRefIdeal.nD Cert.GdnInSRefIdeal.τ).loc Cert.GdnInSRefIdeal.main_arg3) = m ((c.tc : Thread Cert.GdnInSIdeal.nD Cert.GdnInSIdeal.τ).loc Cert.GdnInSIdeal.main_arg3)) →
    ∃ (v0 : (c : Dev Cert.GdnInSIdeal.nD) → Buf (Elt Ideal) ((c.tc : Thread Cert.GdnInSIdeal.nD Cert.GdnInSIdeal.τ).loc Cert.GdnInSIdeal.main_v10)) (v1 : (c : Dev Cert.GdnInSIdeal.nD) → Buf (Elt Ideal) ((c.tc : Thread Cert.GdnInSIdeal.nD Cert.GdnInSIdeal.τ).loc Cert.GdnInSIdeal.main_v12)),
      θ_run (Cert.GdnInSIdeal.defs (F := Ideal)) (onTc (τ := Cert.GdnInSIdeal.τ) (Cert.GdnInSIdeal.main (F := Ideal))) ⟨m, fun _ => 0, g⟩ (fun r => ∀ c : Dev Cert.GdnInSIdeal.nD,
          r.2.mem ((c.tc : Thread Cert.GdnInSIdeal.nD Cert.GdnInSIdeal.τ).loc Cert.GdnInSIdeal.main_v10) = v0 c
          ∧ r.2.mem ((c.tc : Thread Cert.GdnInSIdeal.nD Cert.GdnInSIdeal.τ).loc Cert.GdnInSIdeal.main_v12) = v1 c
          ∧ r.2.mem ((c.tc : Thread Cert.GdnInSIdeal.nD Cert.GdnInSIdeal.τ).loc Cert.GdnInSIdeal.main_arg0) = m ((c.tc : Thread Cert.GdnInSIdeal.nD Cert.GdnInSIdeal.τ).loc Cert.GdnInSIdeal.main_arg0)
          ∧ r.2.mem ((c.tc : Thread Cert.GdnInSIdeal.nD Cert.GdnInSIdeal.τ).loc Cert.GdnInSIdeal.main_arg1) = m ((c.tc : Thread Cert.GdnInSIdeal.nD Cert.GdnInSIdeal.τ).loc Cert.GdnInSIdeal.main_arg1)
          ∧ r.2.mem ((c.tc : Thread Cert.GdnInSIdeal.nD Cert.GdnInSIdeal.τ).loc Cert.GdnInSIdeal.main_arg2) = m ((c.tc : Thread Cert.GdnInSIdeal.nD Cert.GdnInSIdeal.τ).loc Cert.GdnInSIdeal.main_arg2)
          ∧ r.2.mem ((c.tc : Thread Cert.GdnInSIdeal.nD Cert.GdnInSIdeal.τ).loc Cert.GdnInSIdeal.main_arg3) = m ((c.tc : Thread Cert.GdnInSIdeal.nD Cert.GdnInSIdeal.τ).loc Cert.GdnInSIdeal.main_arg3))
      ∧ θ_run (Cert.GdnInSRefIdeal.defs (F := Ideal)) (onTc (τ := Cert.GdnInSRefIdeal.τ) (Cert.GdnInSRefIdeal.main (F := Ideal))) ⟨m', fun _ => 0, g'⟩ (fun r => ∀ c : Dev Cert.GdnInSRefIdeal.nD,
          r.2.mem ((c.tc : Thread Cert.GdnInSRefIdeal.nD Cert.GdnInSRefIdeal.τ).loc Cert.GdnInSRefIdeal.main_v16) = v0 c
          ∧ r.2.mem ((c.tc : Thread Cert.GdnInSRefIdeal.nD Cert.GdnInSRefIdeal.τ).loc Cert.GdnInSRefIdeal.main_v21) = v1 c
          ∧ r.2.mem ((c.tc : Thread Cert.GdnInSRefIdeal.nD Cert.GdnInSRefIdeal.τ).loc Cert.GdnInSRefIdeal.main_arg0) = m' ((c.tc : Thread Cert.GdnInSRefIdeal.nD Cert.GdnInSRefIdeal.τ).loc Cert.GdnInSRefIdeal.main_arg0)
          ∧ r.2.mem ((c.tc : Thread Cert.GdnInSRefIdeal.nD Cert.GdnInSRefIdeal.τ).loc Cert.GdnInSRefIdeal.main_arg1) = m' ((c.tc : Thread Cert.GdnInSRefIdeal.nD Cert.GdnInSRefIdeal.τ).loc Cert.GdnInSRefIdeal.main_arg1)
          ∧ r.2.mem ((c.tc : Thread Cert.GdnInSRefIdeal.nD Cert.GdnInSRefIdeal.τ).loc Cert.GdnInSRefIdeal.main_arg2) = m' ((c.tc : Thread Cert.GdnInSRefIdeal.nD Cert.GdnInSRefIdeal.τ).loc Cert.GdnInSRefIdeal.main_arg2)
          ∧ r.2.mem ((c.tc : Thread Cert.GdnInSRefIdeal.nD Cert.GdnInSRefIdeal.τ).loc Cert.GdnInSRefIdeal.main_arg3) = m' ((c.tc : Thread Cert.GdnInSRefIdeal.nD Cert.GdnInSRefIdeal.τ).loc Cert.GdnInSRefIdeal.main_arg3))

def preserves_FoxInS_FoxInSIdeal : Prop :=
  True

def algebraic_FoxInSIdeal_FoxInSRefIdeal [hFoxInSIdeal : Cert.FoxInSIdeal.Facts] [hFoxInSRefIdeal : Cert.FoxInSRefIdeal.Facts] : Prop :=
  ∀ (m : (ℓ : Loc Cert.FoxInSIdeal.nD Cert.FoxInSIdeal.τ Cert.FoxInSIdeal.sig) → Buf (Elt Ideal) ℓ) (g : Dev Cert.FoxInSIdeal.nD → PrngReg)
    (m' : (ℓ : Loc Cert.FoxInSRefIdeal.nD Cert.FoxInSRefIdeal.τ Cert.FoxInSRefIdeal.sig) → Buf (Elt Ideal) ℓ) (g' : Dev Cert.FoxInSRefIdeal.nD → PrngReg), Pre_FoxInSIdeal m →
    (∀ c : Dev Cert.FoxInSIdeal.nD,
      m' ((c.tc : Thread Cert.FoxInSRefIdeal.nD Cert.FoxInSRefIdeal.τ).loc Cert.FoxInSRefIdeal.main_arg0) = m ((c.tc : Thread Cert.FoxInSIdeal.nD Cert.FoxInSIdeal.τ).loc Cert.FoxInSIdeal.main_arg0)
      ∧ m' ((c.tc : Thread Cert.FoxInSRefIdeal.nD Cert.FoxInSRefIdeal.τ).loc Cert.FoxInSRefIdeal.main_arg1) = m ((c.tc : Thread Cert.FoxInSIdeal.nD Cert.FoxInSIdeal.τ).loc Cert.FoxInSIdeal.main_arg1)
      ∧ m' ((c.tc : Thread Cert.FoxInSRefIdeal.nD Cert.FoxInSRefIdeal.τ).loc Cert.FoxInSRefIdeal.main_arg2) = m ((c.tc : Thread Cert.FoxInSIdeal.nD Cert.FoxInSIdeal.τ).loc Cert.FoxInSIdeal.main_arg2)) →
    ∃ (v0 : (c : Dev Cert.FoxInSIdeal.nD) → Buf (Elt Ideal) ((c.tc : Thread Cert.FoxInSIdeal.nD Cert.FoxInSIdeal.τ).loc Cert.FoxInSIdeal.main_v12)) (v1 : (c : Dev Cert.FoxInSIdeal.nD) → Buf (Elt Ideal) ((c.tc : Thread Cert.FoxInSIdeal.nD Cert.FoxInSIdeal.τ).loc Cert.FoxInSIdeal.main_v9)) (v2 : (c : Dev Cert.FoxInSIdeal.nD) → Buf (Elt Ideal) ((c.tc : Thread Cert.FoxInSIdeal.nD Cert.FoxInSIdeal.τ).loc Cert.FoxInSIdeal.main_v11)),
      θ_run (Cert.FoxInSIdeal.defs (F := Ideal)) (onTc (τ := Cert.FoxInSIdeal.τ) (Cert.FoxInSIdeal.main (F := Ideal))) ⟨m, fun _ => 0, g⟩ (fun r => ∀ c : Dev Cert.FoxInSIdeal.nD,
          r.2.mem ((c.tc : Thread Cert.FoxInSIdeal.nD Cert.FoxInSIdeal.τ).loc Cert.FoxInSIdeal.main_v12) = v0 c
          ∧ r.2.mem ((c.tc : Thread Cert.FoxInSIdeal.nD Cert.FoxInSIdeal.τ).loc Cert.FoxInSIdeal.main_v9) = v1 c
          ∧ r.2.mem ((c.tc : Thread Cert.FoxInSIdeal.nD Cert.FoxInSIdeal.τ).loc Cert.FoxInSIdeal.main_v11) = v2 c
          ∧ r.2.mem ((c.tc : Thread Cert.FoxInSIdeal.nD Cert.FoxInSIdeal.τ).loc Cert.FoxInSIdeal.main_arg0) = m ((c.tc : Thread Cert.FoxInSIdeal.nD Cert.FoxInSIdeal.τ).loc Cert.FoxInSIdeal.main_arg0)
          ∧ r.2.mem ((c.tc : Thread Cert.FoxInSIdeal.nD Cert.FoxInSIdeal.τ).loc Cert.FoxInSIdeal.main_arg1) = m ((c.tc : Thread Cert.FoxInSIdeal.nD Cert.FoxInSIdeal.τ).loc Cert.FoxInSIdeal.main_arg1)
          ∧ r.2.mem ((c.tc : Thread Cert.FoxInSIdeal.nD Cert.FoxInSIdeal.τ).loc Cert.FoxInSIdeal.main_arg2) = m ((c.tc : Thread Cert.FoxInSIdeal.nD Cert.FoxInSIdeal.τ).loc Cert.FoxInSIdeal.main_arg2))
      ∧ θ_run (Cert.FoxInSRefIdeal.defs (F := Ideal)) (onTc (τ := Cert.FoxInSRefIdeal.τ) (Cert.FoxInSRefIdeal.main (F := Ideal))) ⟨m', fun _ => 0, g'⟩ (fun r => ∀ c : Dev Cert.FoxInSRefIdeal.nD,
          r.2.mem ((c.tc : Thread Cert.FoxInSRefIdeal.nD Cert.FoxInSRefIdeal.τ).loc Cert.FoxInSRefIdeal.main_v17) = v0 c
          ∧ r.2.mem ((c.tc : Thread Cert.FoxInSRefIdeal.nD Cert.FoxInSRefIdeal.τ).loc Cert.FoxInSRefIdeal.main_v22) = v1 c
          ∧ r.2.mem ((c.tc : Thread Cert.FoxInSRefIdeal.nD Cert.FoxInSRefIdeal.τ).loc Cert.FoxInSRefIdeal.main_v23) = v2 c
          ∧ r.2.mem ((c.tc : Thread Cert.FoxInSRefIdeal.nD Cert.FoxInSRefIdeal.τ).loc Cert.FoxInSRefIdeal.main_arg0) = m' ((c.tc : Thread Cert.FoxInSRefIdeal.nD Cert.FoxInSRefIdeal.τ).loc Cert.FoxInSRefIdeal.main_arg0)
          ∧ r.2.mem ((c.tc : Thread Cert.FoxInSRefIdeal.nD Cert.FoxInSRefIdeal.τ).loc Cert.FoxInSRefIdeal.main_arg1) = m' ((c.tc : Thread Cert.FoxInSRefIdeal.nD Cert.FoxInSRefIdeal.τ).loc Cert.FoxInSRefIdeal.main_arg1)
          ∧ r.2.mem ((c.tc : Thread Cert.FoxInSRefIdeal.nD Cert.FoxInSRefIdeal.τ).loc Cert.FoxInSRefIdeal.main_arg2) = m' ((c.tc : Thread Cert.FoxInSRefIdeal.nD Cert.FoxInSRefIdeal.τ).loc Cert.FoxInSRefIdeal.main_arg2))

def preserves_FinalS_FinalSIdeal : Prop :=
  True

def algebraic_FinalSIdeal_FinalSRefIdeal [hFinalSIdeal : Cert.FinalSIdeal.Facts] [hFinalSRefIdeal : Cert.FinalSRefIdeal.Facts] : Prop :=
  ∀ (m : (ℓ : Loc Cert.FinalSIdeal.nD Cert.FinalSIdeal.τ Cert.FinalSIdeal.sig) → Buf (Elt Ideal) ℓ) (g : Dev Cert.FinalSIdeal.nD → PrngReg)
    (m' : (ℓ : Loc Cert.FinalSRefIdeal.nD Cert.FinalSRefIdeal.τ Cert.FinalSRefIdeal.sig) → Buf (Elt Ideal) ℓ) (g' : Dev Cert.FinalSRefIdeal.nD → PrngReg), Pre_FinalSIdeal m →
    (∀ c : Dev Cert.FinalSIdeal.nD,
      m' ((c.tc : Thread Cert.FinalSRefIdeal.nD Cert.FinalSRefIdeal.τ).loc Cert.FinalSRefIdeal.main_arg0) = m ((c.tc : Thread Cert.FinalSIdeal.nD Cert.FinalSIdeal.τ).loc Cert.FinalSIdeal.main_arg0)
      ∧ m' ((c.tc : Thread Cert.FinalSRefIdeal.nD Cert.FinalSRefIdeal.τ).loc Cert.FinalSRefIdeal.main_arg1) = m ((c.tc : Thread Cert.FinalSIdeal.nD Cert.FinalSIdeal.τ).loc Cert.FinalSIdeal.main_arg1)) →
    ∃ (v0 : (c : Dev Cert.FinalSIdeal.nD) → Buf (Elt Ideal) ((c.tc : Thread Cert.FinalSIdeal.nD Cert.FinalSIdeal.τ).loc Cert.FinalSIdeal.main_v3)),
      θ_run (Cert.FinalSIdeal.defs (F := Ideal)) (onTc (τ := Cert.FinalSIdeal.τ) (Cert.FinalSIdeal.main (F := Ideal))) ⟨m, fun _ => 0, g⟩ (fun r => ∀ c : Dev Cert.FinalSIdeal.nD,
          r.2.mem ((c.tc : Thread Cert.FinalSIdeal.nD Cert.FinalSIdeal.τ).loc Cert.FinalSIdeal.main_v3) = v0 c
          ∧ r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
          ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1))
      ∧ θ_run (Cert.FinalSRefIdeal.defs (F := Ideal)) (onTc (τ := Cert.FinalSRefIdeal.τ) (Cert.FinalSRefIdeal.main (F := Ideal))) ⟨m', fun _ => 0, g'⟩ (fun r => ∀ c : Dev Cert.FinalSRefIdeal.nD,
          r.2.mem ((c.tc : Thread Cert.FinalSRefIdeal.nD Cert.FinalSRefIdeal.τ).loc Cert.FinalSRefIdeal.main_v13) = v0 c
          ∧ r.2.mem ((c.tc : Thread Cert.FinalSRefIdeal.nD Cert.FinalSRefIdeal.τ).loc Cert.FinalSRefIdeal.main_arg0) = m' ((c.tc : Thread Cert.FinalSRefIdeal.nD Cert.FinalSRefIdeal.τ).loc Cert.FinalSRefIdeal.main_arg0)
          ∧ r.2.mem ((c.tc : Thread Cert.FinalSRefIdeal.nD Cert.FinalSRefIdeal.τ).loc Cert.FinalSRefIdeal.main_arg1) = m' ((c.tc : Thread Cert.FinalSRefIdeal.nD Cert.FinalSRefIdeal.τ).loc Cert.FinalSRefIdeal.main_arg1))

def preserves_LogfS_LogfSIdeal : Prop :=
  True

def algebraic_LogfSIdeal_LogfSRefIdeal [hLogfSIdeal : Cert.LogfSIdeal.Facts] [hLogfSRefIdeal : Cert.LogfSRefIdeal.Facts] : Prop :=
  ∀ (m : (ℓ : Loc Cert.LogfSIdeal.nD Cert.LogfSIdeal.τ Cert.LogfSIdeal.sig) → Buf (Elt Ideal) ℓ) (g : Dev Cert.LogfSIdeal.nD → PrngReg)
    (m' : (ℓ : Loc Cert.LogfSRefIdeal.nD Cert.LogfSRefIdeal.τ Cert.LogfSRefIdeal.sig) → Buf (Elt Ideal) ℓ) (g' : Dev Cert.LogfSRefIdeal.nD → PrngReg), Pre_LogfSIdeal m →
    (∀ c : Dev Cert.LogfSIdeal.nD,
      m' ((c.tc : Thread Cert.LogfSRefIdeal.nD Cert.LogfSRefIdeal.τ).loc Cert.LogfSRefIdeal.main_arg0) = m ((c.tc : Thread Cert.LogfSIdeal.nD Cert.LogfSIdeal.τ).loc Cert.LogfSIdeal.main_arg0)
      ∧ m' ((c.tc : Thread Cert.LogfSRefIdeal.nD Cert.LogfSRefIdeal.τ).loc Cert.LogfSRefIdeal.main_arg1) = m ((c.tc : Thread Cert.LogfSIdeal.nD Cert.LogfSIdeal.τ).loc Cert.LogfSIdeal.main_arg1)) →
    ∃ (v0 : (c : Dev Cert.LogfSIdeal.nD) → Buf (Elt Ideal) ((c.tc : Thread Cert.LogfSIdeal.nD Cert.LogfSIdeal.τ).loc Cert.LogfSIdeal.main_v9)),
      θ_run (Cert.LogfSIdeal.defs (F := Ideal)) (onTc (τ := Cert.LogfSIdeal.τ) (Cert.LogfSIdeal.main (F := Ideal))) ⟨m, fun _ => 0, g⟩ (fun r => ∀ c : Dev Cert.LogfSIdeal.nD,
          r.2.mem ((c.tc : Thread Cert.LogfSIdeal.nD Cert.LogfSIdeal.τ).loc Cert.LogfSIdeal.main_v9) = v0 c
          ∧ r.2.mem ((c.tc : Thread Cert.LogfSIdeal.nD Cert.LogfSIdeal.τ).loc Cert.LogfSIdeal.main_arg0) = m ((c.tc : Thread Cert.LogfSIdeal.nD Cert.LogfSIdeal.τ).loc Cert.LogfSIdeal.main_arg0)
          ∧ r.2.mem ((c.tc : Thread Cert.LogfSIdeal.nD Cert.LogfSIdeal.τ).loc Cert.LogfSIdeal.main_arg1) = m ((c.tc : Thread Cert.LogfSIdeal.nD Cert.LogfSIdeal.τ).loc Cert.LogfSIdeal.main_arg1))
      ∧ θ_run (Cert.LogfSRefIdeal.defs (F := Ideal)) (onTc (τ := Cert.LogfSRefIdeal.τ) (Cert.LogfSRefIdeal.main (F := Ideal))) ⟨m', fun _ => 0, g'⟩ (fun r => ∀ c : Dev Cert.LogfSRefIdeal.nD,
          r.2.mem ((c.tc : Thread Cert.LogfSRefIdeal.nD Cert.LogfSRefIdeal.τ).loc Cert.LogfSRefIdeal.main_v6) = v0 c
          ∧ r.2.mem ((c.tc : Thread Cert.LogfSRefIdeal.nD Cert.LogfSRefIdeal.τ).loc Cert.LogfSRefIdeal.main_arg0) = m' ((c.tc : Thread Cert.LogfSRefIdeal.nD Cert.LogfSRefIdeal.τ).loc Cert.LogfSRefIdeal.main_arg0)
          ∧ r.2.mem ((c.tc : Thread Cert.LogfSRefIdeal.nD Cert.LogfSRefIdeal.τ).loc Cert.LogfSRefIdeal.main_arg1) = m' ((c.tc : Thread Cert.LogfSRefIdeal.nD Cert.LogfSRefIdeal.τ).loc Cert.LogfSRefIdeal.main_arg1))

def Claim : Prop :=
  ∃ (hKernel : Cert.Kernel.Facts) (hKernelIdeal : Cert.KernelIdeal.Facts) (hReferenceIdeal : Cert.ReferenceIdeal.Facts) (hGdnIn : Cert.GdnIn.Facts) (hGdnInIdeal : Cert.GdnInIdeal.Facts) (hGdnInRefIdeal : Cert.GdnInRefIdeal.Facts) (hFoxIn : Cert.FoxIn.Facts) (hFoxInIdeal : Cert.FoxInIdeal.Facts) (hFoxInRefIdeal : Cert.FoxInRefIdeal.Facts) (hPeerQ : Cert.PeerQ.Facts) (hPeerQIdeal : Cert.PeerQIdeal.Facts) (hPeerQRefIdeal : Cert.PeerQRefIdeal.Facts) (hFoxOut : Cert.FoxOut.Facts) (hFoxOutIdeal : Cert.FoxOutIdeal.Facts) (hFoxOutRefIdeal : Cert.FoxOutRefIdeal.Facts) (hGdnOut : Cert.GdnOut.Facts) (hGdnOutIdeal : Cert.GdnOutIdeal.Facts) (hGdnOutRefIdeal : Cert.GdnOutRefIdeal.Facts) (hFinal : Cert.Final.Facts) (hFinalIdeal : Cert.FinalIdeal.Facts) (hFinalRefIdeal : Cert.FinalRefIdeal.Facts) (hLogf : Cert.Logf.Facts) (hLogfIdeal : Cert.LogfIdeal.Facts) (hLogfRefIdeal : Cert.LogfRefIdeal.Facts) (hGdnInS : Cert.GdnInS.Facts) (hGdnInSIdeal : Cert.GdnInSIdeal.Facts) (hGdnInSRefIdeal : Cert.GdnInSRefIdeal.Facts) (hFoxInS : Cert.FoxInS.Facts) (hFoxInSIdeal : Cert.FoxInSIdeal.Facts) (hFoxInSRefIdeal : Cert.FoxInSRefIdeal.Facts) (hFinalS : Cert.FinalS.Facts) (hFinalSIdeal : Cert.FinalSIdeal.Facts) (hFinalSRefIdeal : Cert.FinalSRefIdeal.Facts) (hLogfS : Cert.LogfS.Facts) (hLogfSIdeal : Cert.LogfSIdeal.Facts) (hLogfSRefIdeal : Cert.LogfSRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GdnIn (hGdnIn := hGdnIn)
    ∧ quiescent_GdnInIdeal (hGdnInIdeal := hGdnInIdeal)
    ∧ quiescent_GdnInRefIdeal (hGdnInRefIdeal := hGdnInRefIdeal)
    ∧ quiescent_FoxIn (hFoxIn := hFoxIn)
    ∧ quiescent_FoxInIdeal (hFoxInIdeal := hFoxInIdeal)
    ∧ quiescent_FoxInRefIdeal (hFoxInRefIdeal := hFoxInRefIdeal)
    ∧ quiescent_PeerQ (hPeerQ := hPeerQ)
    ∧ quiescent_PeerQIdeal (hPeerQIdeal := hPeerQIdeal)
    ∧ quiescent_PeerQRefIdeal (hPeerQRefIdeal := hPeerQRefIdeal)
    ∧ quiescent_FoxOut (hFoxOut := hFoxOut)
    ∧ quiescent_FoxOutIdeal (hFoxOutIdeal := hFoxOutIdeal)
    ∧ quiescent_FoxOutRefIdeal (hFoxOutRefIdeal := hFoxOutRefIdeal)
    ∧ quiescent_GdnOut (hGdnOut := hGdnOut)
    ∧ quiescent_GdnOutIdeal (hGdnOutIdeal := hGdnOutIdeal)
    ∧ quiescent_GdnOutRefIdeal (hGdnOutRefIdeal := hGdnOutRefIdeal)
    ∧ quiescent_Final (hFinal := hFinal)
    ∧ quiescent_FinalIdeal (hFinalIdeal := hFinalIdeal)
    ∧ quiescent_FinalRefIdeal (hFinalRefIdeal := hFinalRefIdeal)
    ∧ quiescent_Logf (hLogf := hLogf)
    ∧ quiescent_LogfIdeal (hLogfIdeal := hLogfIdeal)
    ∧ quiescent_LogfRefIdeal (hLogfRefIdeal := hLogfRefIdeal)
    ∧ quiescent_GdnInS (hGdnInS := hGdnInS)
    ∧ quiescent_GdnInSIdeal (hGdnInSIdeal := hGdnInSIdeal)
    ∧ quiescent_GdnInSRefIdeal (hGdnInSRefIdeal := hGdnInSRefIdeal)
    ∧ quiescent_FoxInS (hFoxInS := hFoxInS)
    ∧ quiescent_FoxInSIdeal (hFoxInSIdeal := hFoxInSIdeal)
    ∧ quiescent_FoxInSRefIdeal (hFoxInSRefIdeal := hFoxInSRefIdeal)
    ∧ quiescent_FinalS (hFinalS := hFinalS)
    ∧ quiescent_FinalSIdeal (hFinalSIdeal := hFinalSIdeal)
    ∧ quiescent_FinalSRefIdeal (hFinalSRefIdeal := hFinalSRefIdeal)
    ∧ quiescent_LogfS (hLogfS := hLogfS)
    ∧ quiescent_LogfSIdeal (hLogfSIdeal := hLogfSIdeal)
    ∧ quiescent_LogfSRefIdeal (hLogfSRefIdeal := hLogfSRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GdnIn_GdnInIdeal
    ∧ algebraic_GdnInIdeal_GdnInRefIdeal (hGdnInIdeal := hGdnInIdeal) (hGdnInRefIdeal := hGdnInRefIdeal)
    ∧ preserves_FoxIn_FoxInIdeal
    ∧ algebraic_FoxInIdeal_FoxInRefIdeal (hFoxInIdeal := hFoxInIdeal) (hFoxInRefIdeal := hFoxInRefIdeal)
    ∧ preserves_PeerQ_PeerQIdeal
    ∧ algebraic_PeerQIdeal_PeerQRefIdeal (hPeerQIdeal := hPeerQIdeal) (hPeerQRefIdeal := hPeerQRefIdeal)
    ∧ preserves_FoxOut_FoxOutIdeal
    ∧ algebraic_FoxOutIdeal_FoxOutRefIdeal (hFoxOutIdeal := hFoxOutIdeal) (hFoxOutRefIdeal := hFoxOutRefIdeal)
    ∧ preserves_GdnOut_GdnOutIdeal
    ∧ algebraic_GdnOutIdeal_GdnOutRefIdeal (hGdnOutIdeal := hGdnOutIdeal) (hGdnOutRefIdeal := hGdnOutRefIdeal)
    ∧ preserves_Final_FinalIdeal
    ∧ algebraic_FinalIdeal_FinalRefIdeal (hFinalIdeal := hFinalIdeal) (hFinalRefIdeal := hFinalRefIdeal)
    ∧ preserves_Logf_LogfIdeal
    ∧ algebraic_LogfIdeal_LogfRefIdeal (hLogfIdeal := hLogfIdeal) (hLogfRefIdeal := hLogfRefIdeal)
    ∧ preserves_GdnInS_GdnInSIdeal
    ∧ algebraic_GdnInSIdeal_GdnInSRefIdeal (hGdnInSIdeal := hGdnInSIdeal) (hGdnInSRefIdeal := hGdnInSRefIdeal)
    ∧ preserves_FoxInS_FoxInSIdeal
    ∧ algebraic_FoxInSIdeal_FoxInSRefIdeal (hFoxInSIdeal := hFoxInSIdeal) (hFoxInSRefIdeal := hFoxInSRefIdeal)
    ∧ preserves_FinalS_FinalSIdeal
    ∧ algebraic_FinalSIdeal_FinalSRefIdeal (hFinalSIdeal := hFinalSIdeal) (hFinalSRefIdeal := hFinalSRefIdeal)
    ∧ preserves_LogfS_LogfSIdeal
    ∧ algebraic_LogfSIdeal_LogfSRefIdeal (hLogfSIdeal := hLogfSIdeal) (hLogfSRefIdeal := hLogfSRefIdeal)
-- ==== Pre_finite.lean ====
abbrev S4x4224x3200 : Shape := ⟨3, ![4, 4224, 3200]⟩
abbrev S4x4224x128 : Shape := ⟨3, ![4, 4224, 128]⟩
abbrev S4x4112x3072 : Shape := ⟨3, ![4, 4112, 3072]⟩
abbrev S_ : Shape := ⟨0, ![]⟩
abbrev S4x4112x8 : Shape := ⟨3, ![4, 4112, 8]⟩

class Facts : Prop where
  slices_S4x4224x3200_S4x4112x3072_0_112_0 : S4x4224x3200.Slices ![0, 112, 0] S4x4112x3072
  bcast_S_S4x4112x3072 : S_.BroadcastsInDim S4x4112x3072 (![] : Fin 0 → Fin S4x4112x3072.rank)
  slices_S4x4224x128_S4x4112x8_0_112_0 : S4x4224x128.Slices ![0, 112, 0] S4x4112x8
  bcast_S_S4x4112x8 : S_.BroadcastsInDim S4x4112x8 (![] : Fin 0 → Fin S4x4112x8.rank)

variable [Facts]

def fn {F : FTy → Type} [FloatOps F] (main_arg0 : FVec F S4x4224x3200 .f32) (main_arg1 : FVec F S4x4224x128 .f32) : IVec S4x4112x3072 1 × IVec S4x4112x8 1 :=
  let main_v0 : FVec F S4x4112x3072 .f32 := (extractStridedSlice S4x4112x3072 ![0, 112, 0] · slices_S4x4224x3200_S4x4112x3072_0_112_0) main_arg0
  let main_v1 : FVec F S4x4112x3072 .f32 := Host.absf main_v0
  let main_cst : FVec F S_ .f32 := constant S_ .f32 0x7F800000#32
  let main_v2 : FVec F S4x4112x3072 .f32 := broadcastInDim S4x4112x3072 ![] bcast_S_S4x4112x3072 main_cst
  let main_v3 : IVec S4x4112x3072 1 := cmpf .olt main_v1 main_v2
  let main_v4 : FVec F S4x4112x8 .f32 := (extractStridedSlice S4x4112x8 ![0, 112, 0] · slices_S4x4224x128_S4x4112x8_0_112_0) main_arg1
  let main_v5 : FVec F S4x4112x8 .f32 := Host.absf main_v4
  let main_cst_0 : FVec F S_ .f32 := constant S_ .f32 0x7F800000#32
  let main_v6 : FVec F S4x4112x8 .f32 := broadcastInDim S4x4112x8 ![] bcast_S_S4x4112x8 main_cst_0
  let main_v7 : IVec S4x4112x8 1 := cmpf .olt main_v5 main_v6
  (main_v3, main_v7)
-- ==== Kernel.lean ====
abbrev S4x4224x3200 : Shape := ⟨3, ![4, 4224, 3200]⟩
abbrev S4x4224x128 : Shape := ⟨3, ![4, 4224, 128]⟩
abbrev S4x4224x1024 : Shape := ⟨3, ![4, 4224, 1024]⟩
abbrev S4x4224x8x128 : Shape := ⟨4, ![4, 4224, 8, 128]⟩
abbrev S4x8x128x4224 : Shape := ⟨4, ![4, 8, 128, 4224]⟩
abbrev S1x384x1024 : Shape := ⟨3, ![1, 384, 1024]⟩
abbrev S1x8x128x384 : Shape := ⟨4, ![1, 8, 128, 384]⟩
abbrev S1x384x128 : Shape := ⟨3, ![1, 384, 128]⟩
abbrev S8x1x384 : Shape := ⟨3, ![8, 1, 384]⟩
abbrev S8x128x384 : Shape := ⟨3, ![8, 128, 384]⟩
abbrev S384x128 : Shape := ⟨2, ![384, 128]⟩
abbrev S384x384 : Shape := ⟨2, ![384, 384]⟩
abbrev S1x1x384 : Shape := ⟨3, ![1, 1, 384]⟩
abbrev S1x384 : Shape := ⟨2, ![1, 384]⟩
abbrev S1x128x384 : Shape := ⟨3, ![1, 128, 384]⟩
abbrev S128x384 : Shape := ⟨2, ![128, 384]⟩
abbrev S384x1 : Shape := ⟨2, ![384, 1]⟩
abbrev S384 : Shape := ⟨1, ![384]⟩
abbrev S1x1x128x384 : Shape := ⟨4, ![1, 1, 128, 384]⟩
abbrev S4x4112x1024 : Shape := ⟨3, ![4, 4112, 1024]⟩

abbrev nBuf : Space → Nat
  | .hbm => 7
  | .vmem => 13
  | .smem => 0
  | _ => 0

abbrev bufTy : (tb : Table) → Fin (tcTables nBuf tb) → BufTy
  | .hbm, ⟨0, _⟩ => ⟨S4x4224x3200, .f32⟩
  | .hbm, ⟨1, _⟩ => ⟨S4x4224x128, .f32⟩
  | .hbm, ⟨2, _⟩ => ⟨S4x4224x1024, .f32⟩
  | .hbm, ⟨3, _⟩ => ⟨S4x4224x8x128, .f32⟩
  | .hbm, ⟨4, _⟩ => ⟨S4x8x128x4224, .f32⟩
  | .hbm, ⟨5, _⟩ => ⟨S4x4224x1024, .f32⟩
  | .hbm, ⟨6, _⟩ => ⟨S4x4112x1024, .f32⟩
  | .local _ .vmem, ⟨0, _⟩ => ⟨S1x384x1024, .f32⟩
  | .local _ .vmem, ⟨1, _⟩ => ⟨S1x384x1024, .f32⟩
  | .local _ .vmem, ⟨2, _⟩ => ⟨S1x384x1024, .f32⟩
  | .local _ .vmem, ⟨3, _⟩ => ⟨S1x384x1024, .f32⟩
  | .local _ .vmem, ⟨4, _⟩ => ⟨S1x8x128x384, .f32⟩
  | .local _ .vmem, ⟨5, _⟩ => ⟨S1x8x128x384, .f32⟩
  | .local _ .vmem, ⟨6, _⟩ => ⟨S1x384x128, .f32⟩
  | .local _ .vmem, ⟨7, _⟩ => ⟨S1x384x128, .f32⟩
  | .local _ .vmem, ⟨8, _⟩ => ⟨S1x384x1024, .f32⟩
  | .local _ .vmem, ⟨9, _⟩ => ⟨S1x384x1024, .f32⟩
  | .local _ .vmem, ⟨10, _⟩ => ⟨S8x1x384, .f32⟩
  | .local _ .vmem, ⟨11, _⟩ => ⟨S8x1x384, .f32⟩
  | .local _ .vmem, ⟨12, _⟩ => ⟨S8x128x384, .f32⟩
  | _, _ => ⟨S4x4224x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 11, 11], ![false, false, false]⟩

def k0_cond3 (i : grid0.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c1_i32 : BitVec 32 := 1#32
  let c0_i32 : BitVec 32 := 0#32
  ![arg0.toNat, v0.toNat, c1_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  let c0_i32_1 : BitVec 32 := 0#32
  ![arg0.toNat, c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x128x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== KernelIdeal.lean ====
variable {F : FTy → Type} [FloatOps F] [Named F]
def κ : String → Option EReal := fun
  | "log2e" => some (((Real.log 2)⁻¹ : ℝ) : EReal)
  | "mask" => some ⊥
  | "scale" => some (((11863283 / 134217728) * (Real.log 2)⁻¹ : ℝ) : EReal)
  | _ => none
-- ==== ReferenceIdeal.lean ====
abbrev S4x4224x3200 : Shape := ⟨3, ![4, 4224, 3200]⟩
abbrev S4x4224x128 : Shape := ⟨3, ![4, 4224, 128]⟩
abbrev S4x4112x3200 : Shape := ⟨3, ![4, 4112, 3200]⟩
abbrev S4x4112x8 : Shape := ⟨3, ![4, 4112, 8]⟩
abbrev S4x8x4112 : Shape := ⟨3, ![4, 8, 4112]⟩
abbrev S4x4112x1024 : Shape := ⟨3, ![4, 4112, 1024]⟩
abbrev S4x4112x8x128 : Shape := ⟨4, ![4, 4112, 8, 128]⟩
abbrev S4x8x4112x4112 : Shape := ⟨4, ![4, 8, 4112, 4112]⟩
abbrev S_ : Shape := ⟨0, ![]⟩
abbrev S4x8x4112x1 : Shape := ⟨4, ![4, 8, 4112, 1]⟩
abbrev S4x8x1x4112 : Shape := ⟨4, ![4, 8, 1, 4112]⟩
abbrev S4112 : Shape := ⟨1, ![4112]⟩
abbrev S4112x1 : Shape := ⟨2, ![4112, 1]⟩
abbrev S1x4112 : Shape := ⟨2, ![1, 4112]⟩
abbrev S4112x4112 : Shape := ⟨2, ![4112, 4112]⟩
abbrev S4x8x128x4112 : Shape := ⟨4, ![4, 8, 128, 4112]⟩

abbrev nBuf : Space → Nat
  | .hbm => 49
  | .vmem => 0
  | .smem => 0
  | _ => 0

abbrev bufTy : (tb : Table) → Fin (tcTables nBuf tb) → BufTy
  | .hbm, ⟨0, _⟩ => ⟨S4x4224x3200, .f32⟩
  | .hbm, ⟨1, _⟩ => ⟨S4x4224x128, .f32⟩
  | .hbm, ⟨2, _⟩ => ⟨S4x4112x3200, .f32⟩
  | .hbm, ⟨3, _⟩ => ⟨S4x4112x8, .f32⟩
  | .hbm, ⟨4, _⟩ => ⟨S4x8x4112, .f32⟩
  | .hbm, ⟨5, _⟩ => ⟨S4x4112x1024, .f32⟩
  | .hbm, ⟨6, _⟩ => ⟨S4x4112x8x128, .f32⟩
  | .hbm, ⟨7, _⟩ => ⟨S4x4112x1024, .f32⟩
  | .hbm, ⟨8, _⟩ => ⟨S4x4112x8x128, .f32⟩
  | .hbm, ⟨9, _⟩ => ⟨S4x4112x1024, .f32⟩
  | .hbm, ⟨10, _⟩ => ⟨S4x4112x8x128, .f32⟩
  | .hbm, ⟨11, _⟩ => ⟨S4x8x4112x4112, .f32⟩
  | .hbm, ⟨12, _⟩ => ⟨S_, .f32⟩
  | .hbm, ⟨13, _⟩ => ⟨S4x8x4112x4112, .f32⟩
  | .hbm, ⟨14, _⟩ => ⟨S4x8x4112x4112, .f32⟩
  | .hbm, ⟨15, _⟩ => ⟨S4x8x4112x1, .f32⟩
  | .hbm, ⟨16, _⟩ => ⟨S4x8x1x4112, .f32⟩
  | .hbm, ⟨17, _⟩ => ⟨S4x8x4112x4112, .f32⟩
  | .hbm, ⟨18, _⟩ => ⟨S4x8x4112x4112, .f32⟩
  | .hbm, ⟨19, _⟩ => ⟨S4x8x4112x4112, .f32⟩
  | .hbm, ⟨20, _⟩ => ⟨S4x8x4112x4112, .f32⟩
  | .hbm, ⟨21, _⟩ => ⟨S4112, .i32⟩
  | .hbm, ⟨22, _⟩ => ⟨S4112x1, .i32⟩
  | .hbm, ⟨23, _⟩ => ⟨S1x4112, .i32⟩
  | .hbm, ⟨24, _⟩ => ⟨S4112x4112, .i32⟩
  | .hbm, ⟨25, _⟩ => ⟨S4112x4112, .i32⟩
  | .hbm, ⟨26, _⟩ => ⟨S4112x4112, .i1⟩
  | .hbm, ⟨27, _⟩ => ⟨S_, .f32⟩
  | .hbm, ⟨28, _⟩ => ⟨S_, .f32⟩
  | .hbm, ⟨29, _⟩ => ⟨S4x8x4112x4112, .i1⟩
  | .hbm, ⟨30, _⟩ => ⟨S4x8x4112x4112, .f32⟩
  | .hbm, ⟨31, _⟩ => ⟨S4x8x4112x4112, .f32⟩
  | .hbm, ⟨32, _⟩ => ⟨S_, .f32⟩
  | .hbm, ⟨33, _⟩ => ⟨S4x8x4112, .f32⟩
  | .hbm, ⟨34, _⟩ => ⟨S_, .f32⟩
  | .hbm, ⟨35, _⟩ => ⟨S4x8x4112, .f32⟩
  | .hbm, ⟨36, _⟩ => ⟨S4x8x4112, .f32⟩
  | .hbm, ⟨37, _⟩ => ⟨S4x8x4112x1, .f32⟩
  | .hbm, ⟨38, _⟩ => ⟨S4x8x4112x4112, .f32⟩
  | .hbm, ⟨39, _⟩ => ⟨S4x8x4112x4112, .f32⟩
  | .hbm, ⟨40, _⟩ => ⟨S4x8x4112x4112, .f32⟩
  | .hbm, ⟨41, _⟩ => ⟨S_, .f32⟩
  | .hbm, ⟨42, _⟩ => ⟨S4x8x4112, .f32⟩
  | .hbm, ⟨43, _⟩ => ⟨S4x8x4112x1, .f32⟩
  | .hbm, ⟨44, _⟩ => ⟨S4x8x4112x4112, .f32⟩
  | .hbm, ⟨45, _⟩ => ⟨S4x8x4112x4112, .f32⟩
  | .hbm, ⟨46, _⟩ => ⟨S4x8x128x4112, .f32⟩
  | .hbm, ⟨47, _⟩ => ⟨S4x4112x8x128, .f32⟩
  | .hbm, ⟨48, _⟩ => ⟨S4x4112x1024, .f32⟩
  | _, _ => ⟨S4x4224x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== GdnIn.lean ====
abbrev S4x4096x1024 : Shape := ⟨3, ![4, 4096, 1024]⟩
abbrev S16x1024 : Shape := ⟨2, ![16, 1024]⟩
abbrev S2x1024 : Shape := ⟨2, ![2, 1024]⟩
abbrev S1x1024x4112 : Shape := ⟨3, ![1, 1024, 4112]⟩
abbrev S1x16x1024 : Shape := ⟨3, ![1, 16, 1024]⟩
abbrev S4x16x1024 : Shape := ⟨3, ![4, 16, 1024]⟩
abbrev S_ : Shape := ⟨0, ![]⟩
abbrev S4x112x1024 : Shape := ⟨3, ![4, 112, 1024]⟩
abbrev S4x4224x1024 : Shape := ⟨3, ![4, 4224, 1024]⟩
abbrev S16896x1024 : Shape := ⟨2, ![16896, 1024]⟩
abbrev S1024x4112 : Shape := ⟨2, ![1024, 4112]⟩
abbrev S1024x4224 : Shape := ⟨2, ![1024, 4224]⟩
abbrev S1x1024 : Shape := ⟨2, ![1, 1024]⟩
abbrev S1024 : Shape := ⟨1, ![1024]⟩
abbrev S16896x4224 : Shape := ⟨2, ![16896, 4224]⟩
abbrev S256x1024 : Shape := ⟨2, ![256, 1024]⟩
abbrev S256x4224 : Shape := ⟨2, ![256, 4224]⟩
abbrev S256 : Shape := ⟨1, ![256]⟩
abbrev S256x1 : Shape := ⟨2, ![256, 1]⟩
abbrev S4x4224x4224 : Shape := ⟨3, ![4, 4224, 4224]⟩
abbrev S4x4112x4112 : Shape := ⟨3, ![4, 4112, 4112]⟩
abbrev S4x3x3072 : Shape := ⟨3, ![4, 3, 3072]⟩
abbrev S1x4x3x3072 : Shape := ⟨4, ![1, 4, 3, 3072]⟩

abbrev nBuf : Space → Nat
  | .hbm => 23
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S16x1024, .f32⟩
  | .hbm, ⟨2, _⟩ => ⟨S2x1024, .f32⟩
  | .hbm, ⟨3, _⟩ => ⟨S1x1024x4112, .f32⟩
  | .hbm, ⟨4, _⟩ => ⟨S1x16x1024, .f32⟩
  | .hbm, ⟨5, _⟩ => ⟨S4x16x1024, .f32⟩
  | .hbm, ⟨6, _⟩ => ⟨S_, .f32⟩
  | .hbm, ⟨7, _⟩ => ⟨S4x112x1024, .f32⟩
  | .hbm, ⟨8, _⟩ => ⟨S4x4224x1024, .f32⟩
  | .hbm, ⟨9, _⟩ => ⟨S16896x1024, .f32⟩
  | .hbm, ⟨10, _⟩ => ⟨S1024x4112, .f32⟩
  | .hbm, ⟨11, _⟩ => ⟨S_, .i32⟩
  | .hbm, ⟨12, _⟩ => ⟨S_, .f32⟩
  | .hbm, ⟨13, _⟩ => ⟨S1024x4224, .f32⟩
  | .hbm, ⟨14, _⟩ => ⟨S1024x4224, .bf16⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S16896x4224, .f32⟩
  | .hbm, ⟨19, _⟩ => ⟨S4x4224x4224, .f32⟩
  | .hbm, ⟨20, _⟩ => ⟨S4x4112x4112, .f32⟩
  | .hbm, ⟨21, _⟩ => ⟨S4x3x3072, .f32⟩
  | .hbm, ⟨22, _⟩ => ⟨S1x4x3x3072, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4224, .bf16⟩
  | .local _ .vmem, ⟨4, _⟩ => ⟨S256x4224, .f32⟩
  | .local _ .vmem, ⟨5, _⟩ => ⟨S256x4224, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GdnInRefIdeal.lean ====
abbrev S4x4096x1024 : Shape := ⟨3, ![4, 4096, 1024]⟩
abbrev S16x1024 : Shape := ⟨2, ![16, 1024]⟩
abbrev S2x1024 : Shape := ⟨2, ![2, 1024]⟩
abbrev S1x1024x4112 : Shape := ⟨3, ![1, 1024, 4112]⟩
abbrev S1x16x1024 : Shape := ⟨3, ![1, 16, 1024]⟩
abbrev S4x16x1024 : Shape := ⟨3, ![4, 16, 1024]⟩
abbrev S4x4112x1024 : Shape := ⟨3, ![4, 4112, 1024]⟩
abbrev S_ : Shape := ⟨0, ![]⟩
abbrev S4x4112 : Shape := ⟨2, ![4, 4112]⟩
abbrev S4x4112x1 : Shape := ⟨3, ![4, 4112, 1]⟩
abbrev S1x1024 : Shape := ⟨2, ![1, 1024]⟩
abbrev S1024 : Shape := ⟨1, ![1024]⟩
abbrev S1x1x1024 : Shape := ⟨3, ![1, 1, 1024]⟩
abbrev S1024x4112 : Shape := ⟨2, ![1024, 4112]⟩
abbrev S4x4112x4112 : Shape := ⟨3, ![4, 4112, 4112]⟩
abbrev S4x4112x3072 : Shape := ⟨3, ![4, 4112, 3072]⟩
abbrev S4x4115x3072 : Shape := ⟨3, ![4, 4115, 3072]⟩
abbrev S4x3x3072 : Shape := ⟨3, ![4, 3, 3072]⟩
abbrev S1x4x3x3072 : Shape := ⟨4, ![1, 4, 3, 3072]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16x1024, .f32⟩
  | .hbm, ⟨2, _⟩ => ⟨S2x1024, .f32⟩
  | .hbm, ⟨3, _⟩ => ⟨S1x1024x4112, .f32⟩
  | .hbm, ⟨4, _⟩ => ⟨S1x16x1024, .f32⟩
  | .hbm, ⟨5, _⟩ => ⟨S4x16x1024, .f32⟩
  | .hbm, ⟨6, _⟩ => ⟨S4x4112x1024, .f32⟩
  | .hbm, ⟨7, _⟩ => ⟨S4x4112x1024, .f32⟩
  | .hbm, ⟨8, _⟩ => ⟨S_, .f32⟩
  | .hbm, ⟨9, _⟩ => ⟨S4x4112, .f32⟩
  | .hbm, ⟨10, _⟩ => ⟨S4x4112x1, .f32⟩
  | .hbm, ⟨11, _⟩ => ⟨S_, .f32⟩
  | .hbm, ⟨12, _⟩ => ⟨S4x4112x1, .f32⟩
  | .hbm, ⟨13, _⟩ => ⟨S4x4112x1, .f32⟩
  | .hbm, ⟨14, _⟩ => ⟨S_, .f32⟩
  | .hbm, ⟨15, _⟩ => ⟨S4x4112x1, .f32⟩
  | .hbm, ⟨16, _⟩ => ⟨S4x4112x1, .f32⟩
  | .hbm, ⟨17, _⟩ => ⟨S4x4112x1, .f32⟩
  | .hbm, ⟨18, _⟩ => ⟨S4x4112x1024, .f32⟩
  | .hbm, ⟨19, _⟩ => ⟨S4x4112x1024, .f32⟩
  | .hbm, ⟨20, _⟩ => ⟨S1x1024, .f32⟩
  | .hbm, ⟨21, _⟩ => ⟨S1024, .f32⟩
  | .hbm, ⟨22, _⟩ => ⟨S1x1x1024, .f32⟩
  | .hbm, ⟨23, _⟩ => ⟨S4x4112x1024, .f32⟩
  | .hbm, ⟨24, _⟩ => ⟨S4x4112x1024, .f32⟩
  | .hbm, ⟨25, _⟩ => ⟨S1024x4112, .f32⟩
  | .hbm, ⟨26, _⟩ => ⟨S4x4112x4112, .f32⟩
  | .hbm, ⟨27, _⟩ => ⟨S4x4112x3072, .f32⟩
  | .hbm, ⟨28, _⟩ => ⟨S_, .i32⟩
  | .hbm, ⟨29, _⟩ => ⟨S_, .f32⟩
  | .hbm, ⟨30, _⟩ => ⟨S4x4115x3072, .f32⟩
  | .hbm, ⟨31, _⟩ => ⟨S4x3x3072, .f32⟩
  | .hbm, ⟨32, _⟩ => ⟨S1x4x3x3072, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_call0_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== FoxIn.lean ====
abbrev S16896x1024 : Shape := ⟨2, ![16896, 1024]⟩
abbrev S2x1024 : Shape := ⟨2, ![2, 1024]⟩
abbrev S1x1024x3080 : Shape := ⟨3, ![1, 1024, 3080]⟩
abbrev S1024x3080 : Shape := ⟨2, ![1024, 3080]⟩
abbrev S_ : Shape := ⟨0, ![]⟩
abbrev S1024x3200 : Shape := ⟨2, ![1024, 3200]⟩
abbrev S1x1024 : Shape := ⟨2, ![1, 1024]⟩
abbrev S1024 : Shape := ⟨1, ![1024]⟩
abbrev S16896x3200 : Shape := ⟨2, ![16896, 3200]⟩
abbrev S256x1024 : Shape := ⟨2, ![256, 1024]⟩
abbrev S256x3200 : Shape := ⟨2, ![256, 3200]⟩
abbrev S256 : Shape := ⟨1, ![256]⟩
abbrev S256x1 : Shape := ⟨2, ![256, 1]⟩
abbrev S4x4224x3200 : Shape := ⟨3, ![4, 4224, 3200]⟩
abbrev S4x4112x2048 : Shape := ⟨3, ![4, 4112, 2048]⟩
abbrev S4x4112x1024 : Shape := ⟨3, ![4, 4112, 1024]⟩
abbrev S1x4x4112x8x128 : Shape := ⟨5, ![1, 4, 4112, 8, 128]⟩
abbrev S4x4112x3080 : Shape := ⟨3, ![4, 4112, 3080]⟩

abbrev nBuf : Space → Nat
  | .hbm => 19
  | .vmem => 6
  | .smem => 0
  | _ => 0

abbrev bufTy : (tb : Table) → Fin (tcTables nBuf tb) → BufTy
  | .hbm, ⟨0, _⟩ => ⟨S16896x1024, .f32⟩
  | .hbm, ⟨1, _⟩ => ⟨S2x1024, .f32⟩
  | .hbm, ⟨2, _⟩ => ⟨S1x1024x3080, .f32⟩
  | .hbm, ⟨3, _⟩ => ⟨S1024x3080, .f32⟩
  | .hbm, ⟨4, _⟩ => ⟨S_, .i32⟩
  | .hbm, ⟨5, _⟩ => ⟨S_, .f32⟩
  | .hbm, ⟨6, _⟩ => ⟨S1024x3200, .f32⟩
  | .hbm, ⟨7, _⟩ => ⟨S1024x3200, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S16896x3200, .f32⟩
  | .hbm, ⟨12, _⟩ => ⟨S4x4224x3200, .f32⟩
  | .hbm, ⟨13, _⟩ => ⟨S4x4112x2048, .f32⟩
  | .hbm, ⟨14, _⟩ => ⟨S4x4112x1024, .f32⟩
  | .hbm, ⟨15, _⟩ => ⟨S1x4x4112x8x128, .f32⟩
  | .hbm, ⟨16, _⟩ => ⟨S4x4112x1024, .f32⟩
  | .hbm, ⟨17, _⟩ => ⟨S1x4x4112x8x128, .f32⟩
  | .hbm, ⟨18, _⟩ => ⟨S4x4112x3080, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3200, .bf16⟩
  | .local _ .vmem, ⟨4, _⟩ => ⟨S256x3200, .f32⟩
  | .local _ .vmem, ⟨5, _⟩ => ⟨S256x3200, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FoxInRefIdeal.lean ====
abbrev S16896x1024 : Shape := ⟨2, ![16896, 1024]⟩
abbrev S2x1024 : Shape := ⟨2, ![2, 1024]⟩
abbrev S1x1024x3080 : Shape := ⟨3, ![1, 1024, 3080]⟩
abbrev S4x4224x1024 : Shape := ⟨3, ![4, 4224, 1024]⟩
abbrev S4x4112x1024 : Shape := ⟨3, ![4, 4112, 1024]⟩
abbrev S_ : Shape := ⟨0, ![]⟩
abbrev S4x4112 : Shape := ⟨2, ![4, 4112]⟩
abbrev S4x4112x1 : Shape := ⟨3, ![4, 4112, 1]⟩
abbrev S1x1024 : Shape := ⟨2, ![1, 1024]⟩
abbrev S1024 : Shape := ⟨1, ![1024]⟩
abbrev S1x1x1024 : Shape := ⟨3, ![1, 1, 1024]⟩
abbrev S1024x3080 : Shape := ⟨2, ![1024, 3080]⟩
abbrev S4x4112x3080 : Shape := ⟨3, ![4, 4112, 3080]⟩
abbrev S4x4112x8x128 : Shape := ⟨4, ![4, 4112, 8, 128]⟩
abbrev S1x4x4112x8x128 : Shape := ⟨5, ![1, 4, 4112, 8, 128]⟩

abbrev nBuf : Space → Nat
  | .hbm => 31
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S2x1024, .f32⟩
  | .hbm, ⟨2, _⟩ => ⟨S1x1024x3080, .f32⟩
  | .hbm, ⟨3, _⟩ => ⟨S4x4224x1024, .f32⟩
  | .hbm, ⟨4, _⟩ => ⟨S4x4112x1024, .f32⟩
  | .hbm, ⟨5, _⟩ => ⟨S4x4112x1024, .f32⟩
  | .hbm, ⟨6, _⟩ => ⟨S_, .f32⟩
  | .hbm, ⟨7, _⟩ => ⟨S4x4112, .f32⟩
  | .hbm, ⟨8, _⟩ => ⟨S4x4112x1, .f32⟩
  | .hbm, ⟨9, _⟩ => ⟨S_, .f32⟩
  | .hbm, ⟨10, _⟩ => ⟨S4x4112x1, .f32⟩
  | .hbm, ⟨11, _⟩ => ⟨S4x4112x1, .f32⟩
  | .hbm, ⟨12, _⟩ => ⟨S_, .f32⟩
  | .hbm, ⟨13, _⟩ => ⟨S4x4112x1, .f32⟩
  | .hbm, ⟨14, _⟩ => ⟨S4x4112x1, .f32⟩
  | .hbm, ⟨15, _⟩ => ⟨S4x4112x1, .f32⟩
  | .hbm, ⟨16, _⟩ => ⟨S4x4112x1024, .f32⟩
  | .hbm, ⟨17, _⟩ => ⟨S4x4112x1024, .f32⟩
  | .hbm, ⟨18, _⟩ => ⟨S1x1024, .f32⟩
  | .hbm, ⟨19, _⟩ => ⟨S1024, .f32⟩
  | .hbm, ⟨20, _⟩ => ⟨S1x1x1024, .f32⟩
  | .hbm, ⟨21, _⟩ => ⟨S4x4112x1024, .f32⟩
  | .hbm, ⟨22, _⟩ => ⟨S4x4112x1024, .f32⟩
  | .hbm, ⟨23, _⟩ => ⟨S1024x3080, .f32⟩
  | .hbm, ⟨24, _⟩ => ⟨S4x4112x3080, .f32⟩
  | .hbm, ⟨25, _⟩ => ⟨S4x4112x1024, .f32⟩
  | .hbm, ⟨26, _⟩ => ⟨S4x4112x8x128, .f32⟩
  | .hbm, ⟨27, _⟩ => ⟨S4x4112x1024, .f32⟩
  | .hbm, ⟨28, _⟩ => ⟨S4x4112x8x128, .f32⟩
  | .hbm, ⟨29, _⟩ => ⟨S1x4x4112x8x128, .f32⟩
  | .hbm, ⟨30, _⟩ => ⟨S1x4x4112x8x128, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== PeerQ.lean ====
abbrev S16896x1024 : Shape := ⟨2, ![16896, 1024]⟩
abbrev S1024 : Shape := ⟨1, ![1024]⟩
abbrev S1024x2048 : Shape := ⟨2, ![1024, 2048]⟩
abbrev S1x1024 : Shape := ⟨2, ![1, 1024]⟩
abbrev S16x16896x128 : Shape := ⟨3, ![16, 16896, 128]⟩
abbrev S256x1024 : Shape := ⟨2, ![256, 1024]⟩
abbrev S16x256x128 : Shape := ⟨3, ![16, 256, 128]⟩
abbrev S256 : Shape := ⟨1, ![256]⟩
abbrev S256x1 : Shape := ⟨2, ![256, 1]⟩
abbrev S256x2048 : Shape := ⟨2, ![256, 2048]⟩
abbrev S256x128 : Shape := ⟨2, ![256, 128]⟩
abbrev S1x256x128 : Shape := ⟨3, ![1, 256, 128]⟩
abbrev S16896x16x128 : Shape := ⟨3, ![16896, 16, 128]⟩
abbrev S16896x8x2x128 : Shape := ⟨4, ![16896, 8, 2, 128]⟩

abbrev nBuf : Space → Nat
  | .hbm => 9
  | .vmem => 8
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1x1024, .f32⟩
  | .hbm, ⟨5, _⟩ => ⟨S16x16896x128, .f32⟩
  | .hbm, ⟨6, _⟩ => ⟨S16896x1024, .f32⟩
  | .hbm, ⟨7, _⟩ => ⟨S16896x16x128, .f32⟩
  | .hbm, ⟨8, _⟩ => ⟨S16896x8x2x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S16x256x128, .f32⟩
  | .local _ .vmem, ⟨5, _⟩ => ⟨S16x256x128, .f32⟩
  | .local _ .vmem, ⟨6, _⟩ => ⟨S256x1024, .f32⟩
  | .local _ .vmem, ⟨7, _⟩ => ⟨S256x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PeerQRefIdeal.lean ====
abbrev S16896x1024 : Shape := ⟨2, ![16896, 1024]⟩
abbrev S1024 : Shape := ⟨1, ![1024]⟩
abbrev S1024x2048 : Shape := ⟨2, ![1024, 2048]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S16896x2048 : Shape := ⟨2, ![16896, 2048]⟩
abbrev S16896x8x2x128 : Shape := ⟨4, ![16896, 8, 2, 128]⟩

abbrev nBuf : Space → Nat
  | .hbm => 21
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x2048, .f32⟩
  | .hbm, ⟨3, _⟩ => ⟨S16896x1024, .f32⟩
  | .hbm, ⟨4, _⟩ => ⟨S_, .f32⟩
  | .hbm, ⟨5, _⟩ => ⟨S16896, .f32⟩
  | .hbm, ⟨6, _⟩ => ⟨S16896x1, .f32⟩
  | .hbm, ⟨7, _⟩ => ⟨S_, .f32⟩
  | .hbm, ⟨8, _⟩ => ⟨S16896x1, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S16896x1, .f32⟩
  | .hbm, ⟨14, _⟩ => ⟨S16896x1024, .f32⟩
  | .hbm, ⟨15, _⟩ => ⟨S16896x1024, .f32⟩
  | .hbm, ⟨16, _⟩ => ⟨S1x1024, .f32⟩
  | .hbm, ⟨17, _⟩ => ⟨S16896x1024, .f32⟩
  | .hbm, ⟨18, _⟩ => ⟨S16896x1024, .f32⟩
  | .hbm, ⟨19, _⟩ => ⟨S16896x2048, .f32⟩
  | .hbm, ⟨20, _⟩ => ⟨S16896x8x2x128, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== FoxOut.lean ====
abbrev S16896x1024 : Shape := ⟨2, ![16896, 1024]⟩
abbrev S1x1024x1024 : Shape := ⟨3, ![1, 1024, 1024]⟩
abbrev S1024x1024 : Shape := ⟨2, ![1024, 1024]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16896x1024, .f32⟩
  | .hbm, ⟨1, _⟩ => ⟨S1x1024x1024, .f32⟩
  | .hbm, ⟨2, _⟩ => ⟨S16896x1024, .f32⟩
  | .hbm, ⟨3, _⟩ => ⟨S1024x1024, .f32⟩
  | .hbm, ⟨4, _⟩ => ⟨S1024x1024, .bf16⟩
  | .hbm, ⟨5, _⟩ => ⟨S16896x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FoxOutRefIdeal.lean ====
abbrev S16896x1024 : Shape := ⟨2, ![16896, 1024]⟩
abbrev S1x1024x1024 : Shape := ⟨3, ![1, 1024, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1x1024x1024, .f32⟩
  | .hbm, ⟨2, _⟩ => ⟨S16896x1024, .f32⟩
  | .hbm, ⟨3, _⟩ => ⟨S1024x1024, .f32⟩
  | .hbm, ⟨4, _⟩ => ⟨S16896x1024, .f32⟩
  | .hbm, ⟨5, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GdnOut.lean ====
abbrev S16896x1024 : Shape := ⟨2, ![16896, 1024]⟩
abbrev S16896x4224 : Shape := ⟨2, ![16896, 4224]⟩
abbrev S1x128 : Shape := ⟨2, ![1, 128]⟩
abbrev S1x1024x1024 : Shape := ⟨3, ![1, 1024, 1024]⟩
abbrev S128 : Shape := ⟨1, ![128]⟩
abbrev S1024x1024 : Shape := ⟨2, ![1024, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S16896x1024, .f32⟩
  | .hbm, ⟨1, _⟩ => ⟨S16896x4224, .f32⟩
  | .hbm, ⟨2, _⟩ => ⟨S1x128, .f32⟩
  | .hbm, ⟨3, _⟩ => ⟨S1x1024x1024, .f32⟩
  | .hbm, ⟨4, _⟩ => ⟨S16896x1024, .f32⟩
  | .hbm, ⟨5, _⟩ => ⟨S128, .f32⟩
  | .hbm, ⟨6, _⟩ => ⟨S1024x1024, .f32⟩
  | .hbm, ⟨7, _⟩ => ⟨S1024x1024, .bf16⟩
  | .hbm, ⟨8, _⟩ => ⟨S1x128, .f32⟩
  | .hbm, ⟨9, _⟩ => ⟨S16896x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x128, .f32⟩
  | .local _ .vmem, ⟨5, _⟩ => ⟨S1024x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GdnOutRefIdeal.lean ====
abbrev S16896x1024 : Shape := ⟨2, ![16896, 1024]⟩
abbrev S16896x4224 : Shape := ⟨2, ![16896, 4224]⟩
abbrev S1x128 : Shape := ⟨2, ![1, 128]⟩
abbrev S1x1024x1024 : Shape := ⟨3, ![1, 1024, 1024]⟩
abbrev S16896x8x128 : Shape := ⟨3, ![16896, 8, 128]⟩
abbrev S_ : Shape := ⟨0, ![]⟩
abbrev S16896x8 : Shape := ⟨2, ![16896, 8]⟩
abbrev S16896x8x1 : Shape := ⟨3, ![16896, 8, 1]⟩
abbrev S128 : Shape := ⟨1, ![128]⟩
abbrev S1x1x128 : Shape := ⟨3, ![1, 1, 128]⟩
abbrev S1024x1024 : Shape := ⟨2, ![1024, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896x4224, .f32⟩
  | .hbm, ⟨2, _⟩ => ⟨S1x128, .f32⟩
  | .hbm, ⟨3, _⟩ => ⟨S1x1024x1024, .f32⟩
  | .hbm, ⟨4, _⟩ => ⟨S16896x1024, .f32⟩
  | .hbm, ⟨5, _⟩ => ⟨S16896x8x128, .f32⟩
  | .hbm, ⟨6, _⟩ => ⟨S16896x1024, .f32⟩
  | .hbm, ⟨7, _⟩ => ⟨S16896x8x128, .f32⟩
  | .hbm, ⟨8, _⟩ => ⟨S16896x8x128, .f32⟩
  | .hbm, ⟨9, _⟩ => ⟨S_, .f32⟩
  | .hbm, ⟨10, _⟩ => ⟨S16896x8, .f32⟩
  | .hbm, ⟨11, _⟩ => ⟨S16896x8x1, .f32⟩
  | .hbm, ⟨12, _⟩ => ⟨S_, .f32⟩
  | .hbm, ⟨13, _⟩ => ⟨S16896x8x1, .f32⟩
  | .hbm, ⟨14, _⟩ => ⟨S16896x8x1, .f32⟩
  | .hbm, ⟨15, _⟩ => ⟨S_, .f32⟩
  | .hbm, ⟨16, _⟩ => ⟨S16896x8x1, .f32⟩
  | .hbm, ⟨17, _⟩ => ⟨S16896x8x1, .f32⟩
  | .hbm, ⟨18, _⟩ => ⟨S16896x8x1, .f32⟩
  | .hbm, ⟨19, _⟩ => ⟨S16896x8x128, .f32⟩
  | .hbm, ⟨20, _⟩ => ⟨S16896x8x128, .f32⟩
  | .hbm, ⟨21, _⟩ => ⟨S128, .f32⟩
  | .hbm, ⟨22, _⟩ => ⟨S1x1x128, .f32⟩
  | .hbm, ⟨23, _⟩ => ⟨S16896x8x128, .f32⟩
  | .hbm, ⟨24, _⟩ => ⟨S16896x8x128, .f32⟩
  | .hbm, ⟨25, _⟩ => ⟨S16896x8x128, .f32⟩
  | .hbm, ⟨26, _⟩ => ⟨S16896x8x128, .f32⟩
  | .hbm, ⟨27, _⟩ => ⟨S_, .f32⟩
  | .hbm, ⟨28, _⟩ => ⟨S16896x8x128, .f32⟩
  | .hbm, ⟨29, _⟩ => ⟨S16896x8x128, .f32⟩
  | .hbm, ⟨30, _⟩ => ⟨S_, .f32⟩
  | .hbm, ⟨31, _⟩ => ⟨S16896x8x128, .f32⟩
  | .hbm, ⟨32, _⟩ => ⟨S16896x8x128, .f32⟩
  | .hbm, ⟨33, _⟩ => ⟨S16896x8x128, .f32⟩
  | .hbm, ⟨34, _⟩ => ⟨S16896x8x128, .f32⟩
  | .hbm, ⟨35, _⟩ => ⟨S16896x1024, .f32⟩
  | .hbm, ⟨36, _⟩ => ⟨S1024x1024, .f32⟩
  | .hbm, ⟨37, _⟩ => ⟨S16896x1024, .f32⟩
  | .hbm, ⟨38, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Final.lean ====
abbrev S16896x1024 : Shape := ⟨2, ![16896, 1024]⟩
abbrev S1024 : Shape := ⟨1, ![1024]⟩
abbrev S4x4224x1024 : Shape := ⟨3, ![4, 4224, 1024]⟩
abbrev S1x1024 : Shape := ⟨2, ![1, 1024]⟩
abbrev S4x4096x1024 : Shape := ⟨3, ![4, 4096, 1024]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩

abbrev nBuf : Space → Nat
  | .hbm => 5
  | .vmem => 5
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S4x4224x1024, .f32⟩
  | .hbm, ⟨3, _⟩ => ⟨S1x1024, .f32⟩
  | .hbm, ⟨4, _⟩ => ⟨S4x4096x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x1024, .f32⟩
  | .local _ .vmem, ⟨3, _⟩ => ⟨S1x128x1024, .f32⟩
  | .local _ .vmem, ⟨4, _⟩ => ⟨S1x128x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FinalRefIdeal.lean ====
abbrev S16896x1024 : Shape := ⟨2, ![16896, 1024]⟩
abbrev S1024 : Shape := ⟨1, ![1024]⟩
abbrev S4x4224x1024 : Shape := ⟨3, ![4, 4224, 1024]⟩
abbrev S4x4112x1024 : Shape := ⟨3, ![4, 4112, 1024]⟩
abbrev S_ : Shape := ⟨0, ![]⟩
abbrev S4x4112 : Shape := ⟨2, ![4, 4112]⟩
abbrev S4x4112x1 : Shape := ⟨3, ![4, 4112, 1]⟩
abbrev S1x1x1024 : Shape := ⟨3, ![1, 1, 1024]⟩
abbrev S4x4096x1024 : Shape := ⟨3, ![4, 4096, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S4x4224x1024, .f32⟩
  | .hbm, ⟨3, _⟩ => ⟨S4x4112x1024, .f32⟩
  | .hbm, ⟨4, _⟩ => ⟨S4x4112x1024, .f32⟩
  | .hbm, ⟨5, _⟩ => ⟨S_, .f32⟩
  | .hbm, ⟨6, _⟩ => ⟨S4x4112, .f32⟩
  | .hbm, ⟨7, _⟩ => ⟨S4x4112x1, .f32⟩
  | .hbm, ⟨8, _⟩ => ⟨S_, .f32⟩
  | .hbm, ⟨9, _⟩ => ⟨S4x4112x1, .f32⟩
  | .hbm, ⟨10, _⟩ => ⟨S4x4112x1, .f32⟩
  | .hbm, ⟨11, _⟩ => ⟨S_, .f32⟩
  | .hbm, ⟨12, _⟩ => ⟨S4x4112x1, .f32⟩
  | .hbm, ⟨13, _⟩ => ⟨S4x4112x1, .f32⟩
  | .hbm, ⟨14, _⟩ => ⟨S4x4112x1, .f32⟩
  | .hbm, ⟨15, _⟩ => ⟨S4x4112x1024, .f32⟩
  | .hbm, ⟨16, _⟩ => ⟨S4x4112x1024, .f32⟩
  | .hbm, ⟨17, _⟩ => ⟨S1x1x1024, .f32⟩
  | .hbm, ⟨18, _⟩ => ⟨S4x4112x1024, .f32⟩
  | .hbm, ⟨19, _⟩ => ⟨S4x4112x1024, .f32⟩
  | .hbm, ⟨20, _⟩ => ⟨S4x4096x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Logf.lean ====
abbrev S4x4224x3200 : Shape := ⟨3, ![4, 4224, 3200]⟩
abbrev S1x8 : Shape := ⟨2, ![1, 8]⟩
abbrev S8 : Shape := ⟨1, ![8]⟩
abbrev S_ : Shape := ⟨0, ![]⟩
abbrev S1x128 : Shape := ⟨2, ![1, 128]⟩
abbrev S1 : Shape := ⟨1, ![1]⟩
abbrev S2 : Shape := ⟨1, ![2]⟩
abbrev S4x4224x128 : Shape := ⟨3, ![4, 4224, 128]⟩
abbrev S1x128x128 : Shape := ⟨3, ![1, 128, 128]⟩
abbrev S128x128 : Shape := ⟨2, ![128, 128]⟩
abbrev S4x4112x8 : Shape := ⟨3, ![4, 4112, 8]⟩
abbrev S1x4x4112x8 : Shape := ⟨4, ![1, 4, 4112, 8]⟩

abbrev nBuf : Space → Nat
  | .hbm => 15
  | .vmem => 8
  | .smem => 0
  | _ => 0

abbrev bufTy : (tb : Table) → Fin (tcTables nBuf tb) → BufTy
  | .hbm, ⟨0, _⟩ => ⟨S4x4224x3200, .f32⟩
  | .hbm, ⟨1, _⟩ => ⟨S1x8, .f32⟩
  | .hbm, ⟨2, _⟩ => ⟨S8, .f32⟩
  | .hbm, ⟨3, _⟩ => ⟨S_, .f32⟩
  | .hbm, ⟨4, _⟩ => ⟨S1x128, .f32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S1, .i32⟩
  | .hbm, ⟨9, _⟩ => ⟨S2, .i32⟩
  | .hbm, ⟨10, _⟩ => ⟨S1x128, .f32⟩
  | .hbm, ⟨11, _⟩ => ⟨S4x4224x128, .f32⟩
  | .hbm, ⟨12, _⟩ => ⟨S4x4224x128, .f32⟩
  | .hbm, ⟨13, _⟩ => ⟨S4x4112x8, .f32⟩
  | .hbm, ⟨14, _⟩ => ⟨S1x4x4112x8, .f32⟩
  | .local _ .vmem, ⟨0, _⟩ => ⟨S1x128x128, .f32⟩
  | .local _ .vmem, ⟨1, _⟩ => ⟨S1x128x128, .f32⟩
  | .local _ .vmem, ⟨2, _⟩ => ⟨S1x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128, .f32⟩
  | _, _ => ⟨S4x4224x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c24_i32 : BitVec 32 := 24#32
  let c0_i32 : BitVec 32 := 0#32
  ![arg0.toNat, arg1.toNat, c24_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LogfRefIdeal.lean ====
abbrev S4x4224x3200 : Shape := ⟨3, ![4, 4224, 3200]⟩
abbrev S1x8 : Shape := ⟨2, ![1, 8]⟩
abbrev S4x4112x8 : Shape := ⟨3, ![4, 4112, 8]⟩
abbrev S8 : Shape := ⟨1, ![8]⟩
abbrev S1x1x8 : Shape := ⟨3, ![1, 1, 8]⟩
abbrev S_ : Shape := ⟨0, ![]⟩
abbrev S1x4x4112x8 : Shape := ⟨4, ![1, 4, 4112, 8]⟩

abbrev nBuf : Space → Nat
  | .hbm => 24
  | .vmem => 0
  | .smem => 0
  | _ => 0

abbrev bufTy : (tb : Table) → Fin (tcTables nBuf tb) → BufTy
  | .hbm, ⟨0, _⟩ => ⟨S4x4224x3200, .f32⟩
  | .hbm, ⟨1, _⟩ => ⟨S1x8, .f32⟩
  | .hbm, ⟨2, _⟩ => ⟨S4x4112x8, .f32⟩
  | .hbm, ⟨3, _⟩ => ⟨S8, .f32⟩
  | .hbm, ⟨4, _⟩ => ⟨S1x1x8, .f32⟩
  | .hbm, ⟨5, _⟩ => ⟨S4x4112x8, .f32⟩
  | .hbm, ⟨6, _⟩ => ⟨S4x4112x8, .f32⟩
  | .hbm, ⟨7, _⟩ => ⟨S4x4112x8, .f32⟩
  | .hbm, ⟨8, _⟩ => ⟨S_, .f32⟩
  | .hbm, ⟨9, _⟩ => ⟨S4x4112x8, .f32⟩
  | .hbm, ⟨10, _⟩ => ⟨S4x4112x8, .f32⟩
  | .hbm, ⟨11, _⟩ => ⟨S4x4112x8, .f32⟩
  | .hbm, ⟨12, _⟩ => ⟨S4x4112x8, .f32⟩
  | .hbm, ⟨13, _⟩ => ⟨S4x4112x8, .i1⟩
  | .hbm, ⟨14, _⟩ => ⟨S4x4112x8, .f32⟩
  | .hbm, ⟨15, _⟩ => ⟨S4x4112x8, .f32⟩
  | .hbm, ⟨16, _⟩ => ⟨S4x4112x8, .f32⟩
  | .hbm, ⟨17, _⟩ => ⟨S4x4112x8, .f32⟩
  | .hbm, ⟨18, _⟩ => ⟨S4x4112x8, .f32⟩
  | .hbm, ⟨19, _⟩ => ⟨S4x4112x8, .f32⟩
  | .hbm, ⟨20, _⟩ => ⟨S4x4112x8, .f32⟩
  | .hbm, ⟨21, _⟩ => ⟨S4x4112x8, .f32⟩
  | .hbm, ⟨22, _⟩ => ⟨S4x4112x8, .f32⟩
  | .hbm, ⟨23, _⟩ => ⟨S1x4x4112x8, .f32⟩
  | _, _ => ⟨S4x4224x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v5 : Ref sig .tc := ⟨.hbm, 22, rfl⟩
abbrev main_v6 : Ref sig .tc := ⟨.hbm, 23, rfl⟩

abbrev nD : Nat := 1
abbrev τ : Topo := Topo.v7x

variable {F : FTy → Type} [FloatOps F]
-- ==== GdnInS.lean ====
abbrev S128x4x1024 : Shape := ⟨3, ![128, 4, 1024]⟩
abbrev S1x128x3x3072 : Shape := ⟨4, ![1, 128, 3, 3072]⟩
abbrev S2x1024 : Shape := ⟨2, ![2, 1024]⟩
abbrev S1x1024x4112 : Shape := ⟨3, ![1, 1024, 4112]⟩
abbrev S512x1024 : Shape := ⟨2, ![512, 1024]⟩
abbrev S1024x4112 : Shape := ⟨2, ![1024, 4112]⟩
abbrev S_ : Shape := ⟨0, ![]⟩
abbrev S1024x4224 : Shape := ⟨2, ![1024, 4224]⟩
abbrev S1x1024 : Shape := ⟨2, ![1, 1024]⟩
abbrev S1024 : Shape := ⟨1, ![1024]⟩
abbrev S512x4224 : Shape := ⟨2, ![512, 4224]⟩
abbrev S256x1024 : Shape := ⟨2, ![256, 1024]⟩
abbrev S256x4224 : Shape := ⟨2, ![256, 4224]⟩
abbrev S256 : Shape := ⟨1, ![256]⟩
abbrev S256x1 : Shape := ⟨2, ![256, 1]⟩
abbrev S128x4x4224 : Shape := ⟨3, ![128, 4, 4224]⟩
abbrev S128x16x4224 : Shape := ⟨3, ![128, 16, 4224]⟩
abbrev S128x4x4112 : Shape := ⟨3, ![128, 4, 4112]⟩
abbrev S128x3x3072 : Shape := ⟨3, ![128, 3, 3072]⟩

abbrev nBuf : Space → Nat
  | .hbm => 21
  | .vmem => 6
  | .smem => 0
  | _ => 0

abbrev bufTy : (tb : Table) → Fin (tcTables nBuf tb) → BufTy
  | .hbm, ⟨0, _⟩ => ⟨S128x4x1024, .f32⟩
  | .hbm, ⟨1, _⟩ => ⟨S1x128x3x3072, .f32⟩
  | .hbm, ⟨2, _⟩ => ⟨S2x1024, .f32⟩
  | .hbm, ⟨3, _⟩ => ⟨S1x1024x4112, .f32⟩
  | .hbm, ⟨4, _⟩ => ⟨S512x1024, .f32⟩
  | .hbm, ⟨5, _⟩ => ⟨S1024x4112, .f32⟩
  | .hbm, ⟨6, _⟩ => ⟨S_, .i32⟩
  | .hbm, ⟨7, _⟩ => ⟨S_, .f32⟩
  | .hbm, ⟨8, _⟩ => ⟨S1024x4224, .f32⟩
  | .hbm, ⟨9, _⟩ => ⟨S1024x4224, .bf16⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S512x4224, .f32⟩
  | .hbm, ⟨14, _⟩ => ⟨S128x4x4224, .f32⟩
  | .hbm, ⟨15, _⟩ => ⟨S_, .i32⟩
  | .hbm, ⟨16, _⟩ => ⟨S_, .f32⟩
  | .hbm, ⟨17, _⟩ => ⟨S128x16x4224, .f32⟩
  | .hbm, ⟨18, _⟩ => ⟨S128x4x4112, .f32⟩
  | .hbm, ⟨19, _⟩ => ⟨S128x3x3072, .f32⟩
  | .hbm, ⟨20, _⟩ => ⟨S1x128x3x3072, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4224, .bf16⟩
  | .local _ .vmem, ⟨4, _⟩ => ⟨S256x4224, .f32⟩
  | .local _ .vmem, ⟨5, _⟩ => ⟨S256x4224, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GdnInSRefIdeal.lean ====
abbrev S128x4x1024 : Shape := ⟨3, ![128, 4, 1024]⟩
abbrev S1x128x3x3072 : Shape := ⟨4, ![1, 128, 3, 3072]⟩
abbrev S2x1024 : Shape := ⟨2, ![2, 1024]⟩
abbrev S1x1024x4112 : Shape := ⟨3, ![1, 1024, 4112]⟩
abbrev S_ : Shape := ⟨0, ![]⟩
abbrev S128x4 : Shape := ⟨2, ![128, 4]⟩
abbrev S128x4x1 : Shape := ⟨3, ![128, 4, 1]⟩
abbrev S1x1024 : Shape := ⟨2, ![1, 1024]⟩
abbrev S1024 : Shape := ⟨1, ![1024]⟩
abbrev S1x1x1024 : Shape := ⟨3, ![1, 1, 1024]⟩
abbrev S1024x4112 : Shape := ⟨2, ![1024, 4112]⟩
abbrev S128x4x4112 : Shape := ⟨3, ![128, 4, 4112]⟩
abbrev S128x3x3072 : Shape := ⟨3, ![128, 3, 3072]⟩
abbrev S128x4x3072 : Shape := ⟨3, ![128, 4, 3072]⟩
abbrev S128x7x3072 : Shape := ⟨3, ![128, 7, 3072]⟩

abbrev nBuf : Space → Nat
  | .hbm => 29
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1x128x3x3072, .f32⟩
  | .hbm, ⟨2, _⟩ => ⟨S2x1024, .f32⟩
  | .hbm, ⟨3, _⟩ => ⟨S1x1024x4112, .f32⟩
  | .hbm, ⟨4, _⟩ => ⟨S128x4x1024, .f32⟩
  | .hbm, ⟨5, _⟩ => ⟨S_, .f32⟩
  | .hbm, ⟨6, _⟩ => ⟨S128x4, .f32⟩
  | .hbm, ⟨7, _⟩ => ⟨S128x4x1, .f32⟩
  | .hbm, ⟨8, _⟩ => ⟨S_, .f32⟩
  | .hbm, ⟨9, _⟩ => ⟨S128x4x1, .f32⟩
  | .hbm, ⟨10, _⟩ => ⟨S128x4x1, .f32⟩
  | .hbm, ⟨11, _⟩ => ⟨S_, .f32⟩
  | .hbm, ⟨12, _⟩ => ⟨S128x4x1, .f32⟩
  | .hbm, ⟨13, _⟩ => ⟨S128x4x1, .f32⟩
  | .hbm, ⟨14, _⟩ => ⟨S128x4x1, .f32⟩
  | .hbm, ⟨15, _⟩ => ⟨S128x4x1024, .f32⟩
  | .hbm, ⟨16, _⟩ => ⟨S128x4x1024, .f32⟩
  | .hbm, ⟨17, _⟩ => ⟨S1x1024, .f32⟩
  | .hbm, ⟨18, _⟩ => ⟨S1024, .f32⟩
  | .hbm, ⟨19, _⟩ => ⟨S1x1x1024, .f32⟩
  | .hbm, ⟨20, _⟩ => ⟨S128x4x1024, .f32⟩
  | .hbm, ⟨21, _⟩ => ⟨S128x4x1024, .f32⟩
  | .hbm, ⟨22, _⟩ => ⟨S1024x4112, .f32⟩
  | .hbm, ⟨23, _⟩ => ⟨S128x4x4112, .f32⟩
  | .hbm, ⟨24, _⟩ => ⟨S128x3x3072, .f32⟩
  | .hbm, ⟨25, _⟩ => ⟨S128x4x3072, .f32⟩
  | .hbm, ⟨26, _⟩ => ⟨S128x7x3072, .f32⟩
  | .hbm, ⟨27, _⟩ => ⟨S128x3x3072, .f32⟩
  | .hbm, ⟨28, _⟩ => ⟨S1x128x3x3072, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== FoxInS.lean ====
abbrev S512x1024 : Shape := ⟨2, ![512, 1024]⟩
abbrev S2x1024 : Shape := ⟨2, ![2, 1024]⟩
abbrev S1x1024x3080 : Shape := ⟨3, ![1, 1024, 3080]⟩
abbrev S1024x3080 : Shape := ⟨2, ![1024, 3080]⟩
abbrev S_ : Shape := ⟨0, ![]⟩
abbrev S1024x3200 : Shape := ⟨2, ![1024, 3200]⟩
abbrev S1x1024 : Shape := ⟨2, ![1, 1024]⟩
abbrev S1024 : Shape := ⟨1, ![1024]⟩
abbrev S512x3200 : Shape := ⟨2, ![512, 3200]⟩
abbrev S256x1024 : Shape := ⟨2, ![256, 1024]⟩
abbrev S256x3200 : Shape := ⟨2, ![256, 3200]⟩
abbrev S256 : Shape := ⟨1, ![256]⟩
abbrev S256x1 : Shape := ⟨2, ![256, 1]⟩
abbrev S128x4x3200 : Shape := ⟨3, ![128, 4, 3200]⟩
abbrev S128x4x1024 : Shape := ⟨3, ![128, 4, 1024]⟩
abbrev S1x128x4x8x128 : Shape := ⟨5, ![1, 128, 4, 8, 128]⟩
abbrev S128x4x3080 : Shape := ⟨3, ![128, 4, 3080]⟩

abbrev nBuf : Space → Nat
  | .hbm => 18
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S2x1024, .f32⟩
  | .hbm, ⟨2, _⟩ => ⟨S1x1024x3080, .f32⟩
  | .hbm, ⟨3, _⟩ => ⟨S1024x3080, .f32⟩
  | .hbm, ⟨4, _⟩ => ⟨S_, .i32⟩
  | .hbm, ⟨5, _⟩ => ⟨S_, .f32⟩
  | .hbm, ⟨6, _⟩ => ⟨S1024x3200, .f32⟩
  | .hbm, ⟨7, _⟩ => ⟨S1024x3200, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S512x3200, .f32⟩
  | .hbm, ⟨12, _⟩ => ⟨S128x4x3200, .f32⟩
  | .hbm, ⟨13, _⟩ => ⟨S128x4x1024, .f32⟩
  | .hbm, ⟨14, _⟩ => ⟨S1x128x4x8x128, .f32⟩
  | .hbm, ⟨15, _⟩ => ⟨S128x4x1024, .f32⟩
  | .hbm, ⟨16, _⟩ => ⟨S1x128x4x8x128, .f32⟩
  | .hbm, ⟨17, _⟩ => ⟨S128x4x3080, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3200, .bf16⟩
  | .local _ .vmem, ⟨4, _⟩ => ⟨S256x3200, .f32⟩
  | .local _ .vmem, ⟨5, _⟩ => ⟨S256x3200, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FoxInSRefIdeal.lean ====
abbrev S512x1024 : Shape := ⟨2, ![512, 1024]⟩
abbrev S2x1024 : Shape := ⟨2, ![2, 1024]⟩
abbrev S1x1024x3080 : Shape := ⟨3, ![1, 1024, 3080]⟩
abbrev S128x4x1024 : Shape := ⟨3, ![128, 4, 1024]⟩
abbrev S_ : Shape := ⟨0, ![]⟩
abbrev S128x4 : Shape := ⟨2, ![128, 4]⟩
abbrev S128x4x1 : Shape := ⟨3, ![128, 4, 1]⟩
abbrev S1x1024 : Shape := ⟨2, ![1, 1024]⟩
abbrev S1024 : Shape := ⟨1, ![1024]⟩
abbrev S1x1x1024 : Shape := ⟨3, ![1, 1, 1024]⟩
abbrev S1024x3080 : Shape := ⟨2, ![1024, 3080]⟩
abbrev S128x4x3080 : Shape := ⟨3, ![128, 4, 3080]⟩
abbrev S128x4x8x128 : Shape := ⟨4, ![128, 4, 8, 128]⟩
abbrev S1x128x4x8x128 : Shape := ⟨5, ![1, 128, 4, 8, 128]⟩

abbrev nBuf : Space → Nat
  | .hbm => 30
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S2x1024, .f32⟩
  | .hbm, ⟨2, _⟩ => ⟨S1x1024x3080, .f32⟩
  | .hbm, ⟨3, _⟩ => ⟨S128x4x1024, .f32⟩
  | .hbm, ⟨4, _⟩ => ⟨S128x4x1024, .f32⟩
  | .hbm, ⟨5, _⟩ => ⟨S_, .f32⟩
  | .hbm, ⟨6, _⟩ => ⟨S128x4, .f32⟩
  | .hbm, ⟨7, _⟩ => ⟨S128x4x1, .f32⟩
  | .hbm, ⟨8, _⟩ => ⟨S_, .f32⟩
  | .hbm, ⟨9, _⟩ => ⟨S128x4x1, .f32⟩
  | .hbm, ⟨10, _⟩ => ⟨S128x4x1, .f32⟩
  | .hbm, ⟨11, _⟩ => ⟨S_, .f32⟩
  | .hbm, ⟨12, _⟩ => ⟨S128x4x1, .f32⟩
  | .hbm, ⟨13, _⟩ => ⟨S128x4x1, .f32⟩
  | .hbm, ⟨14, _⟩ => ⟨S128x4x1, .f32⟩
  | .hbm, ⟨15, _⟩ => ⟨S128x4x1024, .f32⟩
  | .hbm, ⟨16, _⟩ => ⟨S128x4x1024, .f32⟩
  | .hbm, ⟨17, _⟩ => ⟨S1x1024, .f32⟩
  | .hbm, ⟨18, _⟩ => ⟨S1024, .f32⟩
  | .hbm, ⟨19, _⟩ => ⟨S1x1x1024, .f32⟩
  | .hbm, ⟨20, _⟩ => ⟨S128x4x1024, .f32⟩
  | .hbm, ⟨21, _⟩ => ⟨S128x4x1024, .f32⟩
  | .hbm, ⟨22, _⟩ => ⟨S1024x3080, .f32⟩
  | .hbm, ⟨23, _⟩ => ⟨S128x4x3080, .f32⟩
  | .hbm, ⟨24, _⟩ => ⟨S128x4x1024, .f32⟩
  | .hbm, ⟨25, _⟩ => ⟨S128x4x8x128, .f32⟩
  | .hbm, ⟨26, _⟩ => ⟨S128x4x1024, .f32⟩
  | .hbm, ⟨27, _⟩ => ⟨S128x4x8x128, .f32⟩
  | .hbm, ⟨28, _⟩ => ⟨S1x128x4x8x128, .f32⟩
  | .hbm, ⟨29, _⟩ => ⟨S1x128x4x8x128, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== FinalS.lean ====
abbrev S512x1024 : Shape := ⟨2, ![512, 1024]⟩
abbrev S1024 : Shape := ⟨1, ![1024]⟩
abbrev S1x512x1024 : Shape := ⟨3, ![1, 512, 1024]⟩
abbrev S1x1024 : Shape := ⟨2, ![1, 1024]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩
abbrev S128x4x1024 : Shape := ⟨3, ![128, 4, 1024]⟩

abbrev nBuf : Space → Nat
  | .hbm => 6
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1x512x1024, .f32⟩
  | .hbm, ⟨3, _⟩ => ⟨S1x1024, .f32⟩
  | .hbm, ⟨4, _⟩ => ⟨S1x512x1024, .f32⟩
  | .hbm, ⟨5, _⟩ => ⟨S128x4x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x1024, .f32⟩
  | .local _ .vmem, ⟨3, _⟩ => ⟨S1x128x1024, .f32⟩
  | .local _ .vmem, ⟨4, _⟩ => ⟨S1x128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FinalSRefIdeal.lean ====
abbrev S512x1024 : Shape := ⟨2, ![512, 1024]⟩
abbrev S1024 : Shape := ⟨1, ![1024]⟩
abbrev S128x4x1024 : Shape := ⟨3, ![128, 4, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S128x4x1024, .f32⟩
  | .hbm, ⟨3, _⟩ => ⟨S128x4x1024, .f32⟩
  | .hbm, ⟨4, _⟩ => ⟨S_, .f32⟩
  | .hbm, ⟨5, _⟩ => ⟨S128x4, .f32⟩
  | .hbm, ⟨6, _⟩ => ⟨S128x4x1, .f32⟩
  | .hbm, ⟨7, _⟩ => ⟨S_, .f32⟩
  | .hbm, ⟨8, _⟩ => ⟨S128x4x1, .f32⟩
  | .hbm, ⟨9, _⟩ => ⟨S128x4x1, .f32⟩
  | .hbm, ⟨10, _⟩ => ⟨S_, .f32⟩
  | .hbm, ⟨11, _⟩ => ⟨S128x4x1, .f32⟩
  | .hbm, ⟨12, _⟩ => ⟨S128x4x1, .f32⟩
  | .hbm, ⟨13, _⟩ => ⟨S128x4x1, .f32⟩
  | .hbm, ⟨14, _⟩ => ⟨S128x4x1024, .f32⟩
  | .hbm, ⟨15, _⟩ => ⟨S128x4x1024, .f32⟩
  | .hbm, ⟨16, _⟩ => ⟨S1x1x1024, .f32⟩
  | .hbm, ⟨17, _⟩ => ⟨S128x4x1024, .f32⟩
  | .hbm, ⟨18, _⟩ => ⟨S128x4x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== LogfS.lean ====
abbrev S128x4x3200 : Shape := ⟨3, ![128, 4, 3200]⟩
abbrev S1x8 : Shape := ⟨2, ![1, 8]⟩
abbrev S_ : Shape := ⟨0, ![]⟩
abbrev S128x8x3200 : Shape := ⟨3, ![128, 8, 3200]⟩
abbrev S8 : Shape := ⟨1, ![8]⟩
abbrev S1x128 : Shape := ⟨2, ![1, 128]⟩
abbrev S1 : Shape := ⟨1, ![1]⟩
abbrev S2 : Shape := ⟨1, ![2]⟩
abbrev S128x8x128 : Shape := ⟨3, ![128, 8, 128]⟩
abbrev S1x8x128 : Shape := ⟨3, ![1, 8, 128]⟩
abbrev S8x128 : Shape := ⟨2, ![8, 128]⟩
abbrev S8x8 : Shape := ⟨2, ![8, 8]⟩
abbrev S128x4x8 : Shape := ⟨3, ![128, 4, 8]⟩
abbrev S1x128x4x8 : Shape := ⟨4, ![1, 128, 4, 8]⟩

abbrev nBuf : Space → Nat
  | .hbm => 18
  | .vmem => 8
  | .smem => 0
  | _ => 0

abbrev bufTy : (tb : Table) → Fin (tcTables nBuf tb) → BufTy
  | .hbm, ⟨0, _⟩ => ⟨S128x4x3200, .f32⟩
  | .hbm, ⟨1, _⟩ => ⟨S1x8, .f32⟩
  | .hbm, ⟨2, _⟩ => ⟨S_, .i32⟩
  | .hbm, ⟨3, _⟩ => ⟨S_, .f32⟩
  | .hbm, ⟨4, _⟩ => ⟨S128x8x3200, .f32⟩
  | .hbm, ⟨5, _⟩ => ⟨S8, .f32⟩
  | .hbm, ⟨6, _⟩ => ⟨S_, .f32⟩
  | .hbm, ⟨7, _⟩ => ⟨S1x128, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S1x128, .f32⟩
  | .hbm, ⟨14, _⟩ => ⟨S128x8x128, .f32⟩
  | .hbm, ⟨15, _⟩ => ⟨S128x8x128, .f32⟩
  | .hbm, ⟨16, _⟩ => ⟨S128x4x8, .f32⟩
  | .hbm, ⟨17, _⟩ => ⟨S1x128x4x8, .f32⟩
  | .local _ .vmem, ⟨0, _⟩ => ⟨S1x8x128, .f32⟩
  | .local _ .vmem, ⟨1, _⟩ => ⟨S1x8x128, .f32⟩
  | .local _ .vmem, ⟨2, _⟩ => ⟨S1x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x128, .f32⟩
  | _, _ => ⟨S128x4x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![128, 1], ![false, false]⟩

def cc0_transform_0 (i : grid0.Coords) : Fin 3 → Nat :=
  let arg0 : BitVec 32 := BitVec.ofNat 32 (i 0).val
  let arg1 : BitVec 32 := BitVec.ofNat 32 (i 1).val
  let c24_i32 : BitVec 32 := 24#32
  let c0_i32 : BitVec 32 := 0#32
  ![arg0.toNat, arg1.toNat, c24_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LogfSRefIdeal.lean ====
abbrev S128x4x3200 : Shape := ⟨3, ![128, 4, 3200]⟩
abbrev S1x8 : Shape := ⟨2, ![1, 8]⟩
abbrev S128x4x8 : Shape := ⟨3, ![128, 4, 8]⟩
abbrev S8 : Shape := ⟨1, ![8]⟩
abbrev S1x1x8 : Shape := ⟨3, ![1, 1, 8]⟩
abbrev S_ : Shape := ⟨0, ![]⟩
abbrev S1x128x4x8 : Shape := ⟨4, ![1, 128, 4, 8]⟩

abbrev nBuf : Space → Nat
  | .hbm => 24
  | .vmem => 0
  | .smem => 0
  | _ => 0

abbrev bufTy : (tb : Table) → Fin (tcTables nBuf tb) → BufTy
  | .hbm, ⟨0, _⟩ => ⟨S128x4x3200, .f32⟩
  | .hbm, ⟨1, _⟩ => ⟨S1x8, .f32⟩
  | .hbm, ⟨2, _⟩ => ⟨S128x4x8, .f32⟩
  | .hbm, ⟨3, _⟩ => ⟨S8, .f32⟩
  | .hbm, ⟨4, _⟩ => ⟨S1x1x8, .f32⟩
  | .hbm, ⟨5, _⟩ => ⟨S128x4x8, .f32⟩
  | .hbm, ⟨6, _⟩ => ⟨S128x4x8, .f32⟩
  | .hbm, ⟨7, _⟩ => ⟨S128x4x8, .f32⟩
  | .hbm, ⟨8, _⟩ => ⟨S_, .f32⟩
  | .hbm, ⟨9, _⟩ => ⟨S128x4x8, .f32⟩
  | .hbm, ⟨10, _⟩ => ⟨S128x4x8, .f32⟩
  | .hbm, ⟨11, _⟩ => ⟨S128x4x8, .f32⟩
  | .hbm, ⟨12, _⟩ => ⟨S128x4x8, .f32⟩
  | .hbm, ⟨13, _⟩ => ⟨S128x4x8, .i1⟩
  | .hbm, ⟨14, _⟩ => ⟨S128x4x8, .f32⟩
  | .hbm, ⟨15, _⟩ => ⟨S128x4x8, .f32⟩
  | .hbm, ⟨16, _⟩ => ⟨S128x4x8, .f32⟩
  | .hbm, ⟨17, _⟩ => ⟨S128x4x8, .f32⟩
  | .hbm, ⟨18, _⟩ => ⟨S128x4x8, .f32⟩
  | .hbm, ⟨19, _⟩ => ⟨S128x4x8, .f32⟩
  | .hbm, ⟨20, _⟩ => ⟨S128x4x8, .f32⟩
  | .hbm, ⟨21, _⟩ => ⟨S128x4x8, .f32⟩
  | .hbm, ⟨22, _⟩ => ⟨S128x4x8, .f32⟩
  | .hbm, ⟨23, _⟩ => ⟨S1x128x4x8, .f32⟩
  | _, _ => ⟨S128x4x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v5 : Ref sig .tc := ⟨.hbm, 22, rfl⟩
abbrev main_v6 : Ref sig .tc := ⟨.hbm, 23, rfl⟩

abbrev nD : Nat := 1
abbrev τ : Topo := Topo.v7x

variable {F : FTy → Type} [FloatOps F]
-- ==== Proof.Head.lean ====
/-
  One head of the prompt attention, as the kernel computes it on one key block: the masked scores of
  the block, the running maximum, the running denominator and the running numerator. The head number
  is an argument, so each definition is stated once for the eight heads the kernel writes out.
-/
module

public import proofs.«01_k».proof.Proof.Gen.KernelIdeal.Skeleton
public import proofs.«01_k».proof.Proof.Gen.KernelIdeal.Frame
public import Idealize.ShloMosaic.Lib.WritesUnit
public import Idealize.ShloMosaic.Lib.VecWindow
public import Idealize.ShloMosaic.Lib.ValueIdx

@[expose] public section

noncomputable section

namespace Cert.KernelIdeal.Fox

open Idealize.ShloMosaic Idealize.ShloMosaic.TcCoe
open Idealize.SL Idealize.SL.Sem
open Idealize.ShloMosaic.ValueIdx
open Cert.KernelIdeal Cert.KernelIdeal.Gen

variable {F : FTy → Type} [FloatOps F] [Named F]

/-! ## The parts of a block that belong to head `h` -/

theorem inbRow (h : Fin 8) : ∀ a, (![h.val, 0, 0] : Fin 3 → Nat) a + S1x1x384.size a ≤ S8x1x384.size a :=
  by revert h; decide

theorem inbSlab (h : Fin 8) : ∀ a, (![h.val, 0, 0] : Fin 3 → Nat) a + S1x128x384.size a ≤ S8x128x384.size a :=
  by revert h; decide

theorem inbCols (h : Fin 8) : ∀ a, (![0, 0, 128 * h.val] : Fin 3 → Nat) a + S1x384x128.size a ≤ S1x384x1024.size a :=
  by revert h; decide

theorem inbVal (h : Fin 8) : ∀ a, (![0, h.val, 0, 0] : Fin 4 → Nat) a + S1x1x128x384.size a ≤ S1x8x128x384.size a :=
  by revert h; decide

theorem slicesCol (h : Fin 8) : S384x128.Slices ![0, h.val] S384x1 := by revert h; decide

/-- Row `h` of an [8, 1, 384] array of running maxima or denominators. -/
abbrev rowOf (X : Vec F S8x1x384 .f32) (h : Fin 8) : Vec F S1x1x384 .f32 :=
  View.ld X (Rect.unit (s := S8x1x384) ![h.val, 0, 0] S1x1x384.size (inbRow h))

/-- Slab `h` of the [8, 128, 384] array of running numerators. -/
abbrev slabOf (X : Vec F S8x128x384 .f32) (h : Fin 8) : Vec F S1x128x384 .f32 :=
  View.ld X (Rect.unit (s := S8x128x384) ![h.val, 0, 0] S1x128x384.size (inbSlab h))

/-- The 128 columns of head `h` of a block of queries or keys. -/
abbrev colsOf (X : Vec F S1x384x1024 .f32) (h : Fin 8) : Vec F S1x384x128 .f32 :=
  View.ld X (Rect.unit (s := S1x384x1024) ![0, 0, 128 * h.val] S1x384x128.size (inbCols h))

/-- Head `h` of a block of transposed values. -/
abbrev valOf (X : Vec F S1x8x128x384 .f32) (h : Fin 8) : Vec F S1x1x128x384 .f32 :=
  View.ld X (Rect.unit (s := S1x8x128x384) ![0, h.val, 0, 0] S1x1x128x384.size (inbVal h))

/-! ## What the kernel computes for head `h` -/

/-- The masked scores of a key block (rows) against a query block (columns), in base 2. -/
def score (x0 x1 : Vec F S1x384x1024 .f32) (x3 : Vec F S1x384x128 .f32) (mask : IVec S384x384 1) (h : Fin 8) : FVec F S384x384 .f32 :=
  select mask
    (subf
      (mulf
        (matmul dot_S384x128_S384x128_S384x384_1_1_0_0_n_n none
          (truncf .bf16 (shapeCast S384x128 (colsOf x1 h) shapeCasts_S1x384x128_S384x128) bitsLt_bf16_f32)
          (truncf .bf16 (shapeCast S384x128 (colsOf x0 h) shapeCasts_S1x384x128_S384x128) bitsLt_bf16_f32)
          (constant S384x384 .f32 0x00000000#32))
        (broadcast S384x384 (Named.named κ "scale" 0x3E0293EE#32)))
      (broadcastTo S384x384 (extractStridedSlice S384x1 ![0, h.val] (k0_pay7 (View.ld x3 (Rect.unit (s := S1x384x128) ![0, 0, 0] S1x384x128.size inb_S1x384x128_S1x384x128_0_0_0))) (slicesCol h)) broadcasts_S384x1_S384x384))
    (broadcast S384x384 (Named.named κ "mask" 0xF149F2CA#32))

/-- The running maximum of head `h` before the block. -/
def mOld (M : Vec F S8x1x384 .f32) (h : Fin 8) : FVec F S1x384 .f32 :=
  shapeCast S1x384 (rowOf M h) shapeCasts_S1x1x384_S1x384

/-- The running maximum after it. -/
def mNew (s : FVec F S384x384 .f32) (M : Vec F S8x1x384 .f32) (h : Fin 8) : FVec F S1x384 .f32 :=
  maximumf (mOld M h)
    (shapeCast S1x384 (multiReduction .maximumf [0] S384 s 0xFF800000#32 reduces_S384x384_S384 (.inl rfl) rfl) shapeCasts_S384_S1x384)

/-- The factor that moves the old sums to the new maximum. -/
def corr (s : FVec F S384x384 .f32) (M : Vec F S8x1x384 .f32) (h : Fin 8) : FVec F S1x384 .f32 :=
  exp2 (subf (mOld M h) (mNew s M h))

/-- The block's weights under the new maximum. -/
def wts (s : FVec F S384x384 .f32) (M : Vec F S8x1x384 .f32) (h : Fin 8) : FVec F S384x384 .f32 :=
  exp2 (subf s (broadcastTo S384x384 (mNew s M h) broadcasts_S1x384_S384x384))

/-- The running denominator after the block. -/
def lNew (s : FVec F S384x384 .f32) (M L : Vec F S8x1x384 .f32) (h : Fin 8) : FVec F S1x384 .f32 :=
  addf (mulf (corr s M h) (mOld L h))
    (shapeCast S1x384 (multiReduction .add [0] S384 (wts s M h) 0x00000000#32 reduces_S384x384_S384 (.inl rfl) rfl) shapeCasts_S384_S1x384)

/-- The running numerator after the block. -/
def aNew (s : FVec F S384x384 .f32) (x2 : Vec F S1x8x128x384 .f32) (M : Vec F S8x1x384 .f32) (A : Vec F S8x128x384 .f32) (h : Fin 8) : FVec F S128x384 .f32 :=
  addf
    (mulf (broadcastTo S128x384 (corr s M h) broadcasts_S1x384_S128x384)
      (shapeCast S128x384 (slabOf A h) shapeCasts_S1x128x384_S128x384))
    (matmul dot_S128x384_S384x384_S128x384_1_0_0_1_n_n none
      (truncf .bf16 (shapeCast S128x384 (valOf x2 h) shapeCasts_S1x1x128x384_S128x384) bitsLt_bf16_f32)
      (truncf .bf16 (wts s M h) bitsLt_bf16_f32)
      (constant S128x384 .f32 0x00000000#32))

/-- The finished block of head `h`: numerator over denominator, queries as rows. -/
def outHead (L : Vec F S8x1x384 .f32) (A : Vec F S8x128x384 .f32) (h : Fin 8) : FVec F S384x128 .f32 :=
  transpose S384x128 [1, 0]
    (divf (shapeCast S128x384 (slabOf A h) shapeCasts_S1x128x384_S128x384)
      (broadcastTo S128x384 (mOld L h) broadcasts_S1x384_S128x384))
    transposes_S128x384_p1_0_S384x128

/-! ## The stored pieces, and the arrays the eight of them make -/

def mPiece (x0 x1 : Vec F S1x384x1024 .f32) (x3 : Vec F S1x384x128 .f32) (mask : IVec S384x384 1) (M : Vec F S8x1x384 .f32) (h : Fin 8) : Vec F S1x1x384 .f32 :=
  shapeCast S1x1x384 (mNew (score x0 x1 x3 mask h) M h) shapeCasts_S1x384_S1x1x384

def lPiece (x0 x1 : Vec F S1x384x1024 .f32) (x3 : Vec F S1x384x128 .f32) (mask : IVec S384x384 1) (M L : Vec F S8x1x384 .f32) (h : Fin 8) : Vec F S1x1x384 .f32 :=
  shapeCast S1x1x384 (lNew (score x0 x1 x3 mask h) M L h) shapeCasts_S1x384_S1x1x384

def aPiece (x0 x1 : Vec F S1x384x1024 .f32) (x2 : Vec F S1x8x128x384 .f32) (x3 : Vec F S1x384x128 .f32) (mask : IVec S384x384 1) (M : Vec F S8x1x384 .f32) (A : Vec F S8x128x384 .f32) (h : Fin 8) : Vec F S1x128x384 .f32 :=
  shapeCast S1x128x384 (aNew (score x0 x1 x3 mask h) x2 M A h) shapeCasts_S128x384_S1x128x384

def oPiece (L : Vec F S8x1x384 .f32) (A : Vec F S8x128x384 .f32) (h : Fin 8) : Vec F S1x384x128 .f32 :=
  shapeCast S1x384x128 (outHead L A h) shapeCasts_S384x128_S1x384x128

/-! ## The eight pieces as one array -/

/-- The [8, 1, 384] array whose row `h` is `p h`. -/
def ofRows (p : Fin 8 → Vec F S1x1x384 .f32) : Vec F S8x1x384 .f32 :=
  fun y => p (y 0) (ix3 (0 : Fin 1) (y 1) (y 2))

/-- The [8, 128, 384] array whose slab `h` is `p h`. -/
def ofSlabs (p : Fin 8 → Vec F S1x128x384 .f32) : Vec F S8x128x384 .f32 :=
  fun y => p (y 0) (ix3 (0 : Fin 1) (y 1) (y 2))

/-- The [1, 384, 1024] block whose columns `128 h …` are `p h`. -/
def ofCols (p : Fin 8 → Vec F S1x384x128 .f32) : Vec F S1x384x1024 .f32 :=
  fun y => p ⟨(y 2).val / 128, Nat.div_lt_of_lt_mul (y 2).isLt⟩
    (ix3 (0 : Fin 1) (y 1) (⟨(y 2).val % 128, Nat.mod_lt _ (by decide)⟩ : Fin 128))

/-- Writing the eight rows leaves the array they make. -/
theorem read_rows {kd : Kind} {sp : Space} (v : View sig kd sp S8x1x384 .f32) (f : v.ty.Contents (Elt F)) (p : Fin 8 → Vec F S1x1x384 .f32) :
    v.read (Elt F) (v.writes (Elt F) f
      [⟨Rect.unit (s := S8x1x384) ![7, 0, 0] S1x1x384.size (inbRow 7), p 7⟩, ⟨Rect.unit (s := S8x1x384) ![6, 0, 0] S1x1x384.size (inbRow 6), p 6⟩,
       ⟨Rect.unit (s := S8x1x384) ![5, 0, 0] S1x1x384.size (inbRow 5), p 5⟩, ⟨Rect.unit (s := S8x1x384) ![4, 0, 0] S1x1x384.size (inbRow 4), p 4⟩,
       ⟨Rect.unit (s := S8x1x384) ![3, 0, 0] S1x1x384.size (inbRow 3), p 3⟩, ⟨Rect.unit (s := S8x1x384) ![2, 0, 0] S1x1x384.size (inbRow 2), p 2⟩,
       ⟨Rect.unit (s := S8x1x384) ![1, 0, 0] S1x1x384.size (inbRow 1), p 1⟩, ⟨Rect.unit (s := S8x1x384) ![0, 0, 0] S1x1x384.size (inbRow 0), p 0⟩])
      = ofRows p := by
  funext y
  obtain ⟨k, r, j, rfl⟩ : ∃ (k : Fin 8) (r : Fin 1) (j : Fin 384), y = ix3 k r j := ⟨_, _, _, eq_ix3 y⟩
  have hit : ∀ (h : Fin 8) (L : List (View.Piece (Elt F) S8x1x384 .f32)), k = h →
      v.read (Elt F) (v.writes (Elt F) f (⟨Rect.unit (s := S8x1x384) ![h.val, 0, 0] S1x1x384.size (inbRow h), p h⟩ :: L)) (ix3 k r j) = ofRows p (ix3 k r j) := by
    rintro h L rfl
    refine (View.read_writes_cons_unit_of_mem v f (inbRow k) (p k) L (ix3 k r j) (ix3 (0 : Fin 1) r j) rfl ?_).trans rfl
    intro a; fin_cases a <;> simp [ix3]
  have miss : ∀ (h : Fin 8) (L : List (View.Piece (Elt F) S8x1x384 .f32)), k ≠ h →
      v.read (Elt F) (v.writes (Elt F) f (⟨Rect.unit (s := S8x1x384) ![h.val, 0, 0] S1x1x384.size (inbRow h), p h⟩ :: L)) (ix3 k r j) = v.read (Elt F) (v.writes (Elt F) f L) (ix3 k r j) := by
    intro h L hk
    refine View.read_writes_cons_unit_of_not_mem v f (inbRow h) (p h) L (ix3 k r j) rfl (0 : Fin 3) ?_
    have hk' : k.val ≠ h.val := fun e => hk (Fin.ext e)
    show k.val < h.val ∨ h.val + 1 ≤ k.val
    omega
  by_cases h7 : k = 7; · exact hit 7 _ h7
  refine (miss 7 _ h7).trans ?_
  by_cases h6 : k = 6; · exact hit 6 _ h6
  refine (miss 6 _ h6).trans ?_
  by_cases h5 : k = 5; · exact hit 5 _ h5
  refine (miss 5 _ h5).trans ?_
  by_cases h4 : k = 4; · exact hit 4 _ h4
  refine (miss 4 _ h4).trans ?_
  by_cases h3 : k = 3; · exact hit 3 _ h3
  refine (miss 3 _ h3).trans ?_
  by_cases h2 : k = 2; · exact hit 2 _ h2
  refine (miss 2 _ h2).trans ?_
  by_cases h1 : k = 1; · exact hit 1 _ h1
  refine (miss 1 _ h1).trans ?_
  exact hit 0 _ (by omega)

/-- Writing the eight slabs leaves the array they make. -/
theorem read_slabs {kd : Kind} {sp : Space} (v : View sig kd sp S8x128x384 .f32) (f : v.ty.Contents (Elt F)) (p : Fin 8 → Vec F S1x128x384 .f32) :
    v.read (Elt F) (v.writes (Elt F) f
      [⟨Rect.unit (s := S8x128x384) ![7, 0, 0] S1x128x384.size (inbSlab 7), p 7⟩, ⟨Rect.unit (s := S8x128x384) ![6, 0, 0] S1x128x384.size (inbSlab 6), p 6⟩,
       ⟨Rect.unit (s := S8x128x384) ![5, 0, 0] S1x128x384.size (inbSlab 5), p 5⟩, ⟨Rect.unit (s := S8x128x384) ![4, 0, 0] S1x128x384.size (inbSlab 4), p 4⟩,
       ⟨Rect.unit (s := S8x128x384) ![3, 0, 0] S1x128x384.size (inbSlab 3), p 3⟩, ⟨Rect.unit (s := S8x128x384) ![2, 0, 0] S1x128x384.size (inbSlab 2), p 2⟩,
       ⟨Rect.unit (s := S8x128x384) ![1, 0, 0] S1x128x384.size (inbSlab 1), p 1⟩, ⟨Rect.unit (s := S8x128x384) ![0, 0, 0] S1x128x384.size (inbSlab 0), p 0⟩])
      = ofSlabs p := by
  funext y
  obtain ⟨k, r, j, rfl⟩ : ∃ (k : Fin 8) (r : Fin 128) (j : Fin 384), y = ix3 k r j := ⟨_, _, _, eq_ix3 y⟩
  have hit : ∀ (h : Fin 8) (L : List (View.Piece (Elt F) S8x128x384 .f32)), k = h →
      v.read (Elt F) (v.writes (Elt F) f (⟨Rect.unit (s := S8x128x384) ![h.val, 0, 0] S1x128x384.size (inbSlab h), p h⟩ :: L)) (ix3 k r j) = ofSlabs p (ix3 k r j) := by
    rintro h L rfl
    refine (View.read_writes_cons_unit_of_mem v f (inbSlab k) (p k) L (ix3 k r j) (ix3 (0 : Fin 1) r j) rfl ?_).trans rfl
    intro a; fin_cases a <;> simp [ix3]
  have miss : ∀ (h : Fin 8) (L : List (View.Piece (Elt F) S8x128x384 .f32)), k ≠ h →
      v.read (Elt F) (v.writes (Elt F) f (⟨Rect.unit (s := S8x128x384) ![h.val, 0, 0] S1x128x384.size (inbSlab h), p h⟩ :: L)) (ix3 k r j) = v.read (Elt F) (v.writes (Elt F) f L) (ix3 k r j) := by
    intro h L hk
    refine View.read_writes_cons_unit_of_not_mem v f (inbSlab h) (p h) L (ix3 k r j) rfl (0 : Fin 3) ?_
    have hk' : k.val ≠ h.val := fun e => hk (Fin.ext e)
    show k.val < h.val ∨ h.val + 1 ≤ k.val
    omega
  by_cases h7 : k = 7; · exact hit 7 _ h7
  refine (miss 7 _ h7).trans ?_
  by_cases h6 : k = 6; · exact hit 6 _ h6
  refine (miss 6 _ h6).trans ?_
  by_cases h5 : k = 5; · exact hit 5 _ h5
  refine (miss 5 _ h5).trans ?_
  by_cases h4 : k = 4; · exact hit 4 _ h4
  refine (miss 4 _ h4).trans ?_
  by_cases h3 : k = 3; · exact hit 3 _ h3
  refine (miss 3 _ h3).trans ?_
  by_cases h2 : k = 2; · exact hit 2 _ h2
  refine (miss 2 _ h2).trans ?_
  by_cases h1 : k = 1; · exact hit 1 _ h1
  refine (miss 1 _ h1).trans ?_
  exact hit 0 _ (by omega)

/-- Writing the eight groups of 128 columns leaves the block they make. -/
theorem read_cols {kd : Kind} {sp : Space} (v : View sig kd sp S1x384x1024 .f32) (f : v.ty.Contents (Elt F)) (p : Fin 8 → Vec F S1x384x128 .f32) :
    v.read (Elt F) (v.writes (Elt F) f
      [⟨Rect.unit (s := S1x384x1024) ![0, 0, 896] S1x384x128.size (inbCols 7), p 7⟩, ⟨Rect.unit (s := S1x384x1024) ![0, 0, 768] S1x384x128.size (inbCols 6), p 6⟩,
       ⟨Rect.unit (s := S1x384x1024) ![0, 0, 640] S1x384x128.size (inbCols 5), p 5⟩, ⟨Rect.unit (s := S1x384x1024) ![0, 0, 512] S1x384x128.size (inbCols 4), p 4⟩,
       ⟨Rect.unit (s := S1x384x1024) ![0, 0, 384] S1x384x128.size (inbCols 3), p 3⟩, ⟨Rect.unit (s := S1x384x1024) ![0, 0, 256] S1x384x128.size (inbCols 2), p 2⟩,
       ⟨Rect.unit (s := S1x384x1024) ![0, 0, 128] S1x384x128.size (inbCols 1), p 1⟩, ⟨Rect.unit (s := S1x384x1024) ![0, 0, 0] S1x384x128.size (inbCols 0), p 0⟩])
      = ofCols p := by
  funext y
  obtain ⟨r, j, k, d, rfl⟩ : ∃ (r : Fin 1) (j : Fin 384) (k : Fin 8) (d : Fin 128), y = ix3 r j (⟨128 * k.val + d.val, by omega⟩ : Fin 1024) :=
    ⟨y 0, y 1, ⟨(y 2).val / 128, Nat.div_lt_of_lt_mul (y 2).isLt⟩, ⟨(y 2).val % 128, Nat.mod_lt _ (by decide)⟩, by
      refine (eq_ix3 y).trans ?_
      congr 1; exact Fin.ext (Nat.div_add_mod _ 128).symm⟩
  have hit : ∀ (h : Fin 8) (L : List (View.Piece (Elt F) S1x384x1024 .f32)), k = h →
      v.read (Elt F) (v.writes (Elt F) f (⟨Rect.unit (s := S1x384x1024) ![0, 0, 128 * h.val] S1x384x128.size (inbCols h), p h⟩ :: L))
        (ix3 r j (⟨128 * k.val + d.val, by omega⟩ : Fin 1024)) = ofCols p (ix3 r j (⟨128 * k.val + d.val, by omega⟩ : Fin 1024)) := by
    rintro h L rfl
    refine (View.read_writes_cons_unit_of_mem v f (inbCols k) (p k) L _ (ix3 (0 : Fin 1) j d) rfl ?_).trans ?_
    · intro a; fin_cases a <;> simp [ix3]
    · have hk : (⟨(128 * k.val + d.val) / 128, Nat.div_lt_of_lt_mul (by omega)⟩ : Fin 8) = k := Fin.ext (by show (128 * k.val + d.val) / 128 = k.val; omega)
      have hd : (⟨(128 * k.val + d.val) % 128, Nat.mod_lt _ (by decide)⟩ : Fin 128) = d := Fin.ext (by show (128 * k.val + d.val) % 128 = d.val; omega)
      show p k (ix3 (0 : Fin 1) j d) = p (⟨(128 * k.val + d.val) / 128, Nat.div_lt_of_lt_mul (by omega)⟩ : Fin 8)
        (ix3 (0 : Fin 1) j (⟨(128 * k.val + d.val) % 128, Nat.mod_lt _ (by decide)⟩ : Fin 128))
      rw [hk, hd]
  have miss : ∀ (h : Fin 8) (L : List (View.Piece (Elt F) S1x384x1024 .f32)), k ≠ h →
      v.read (Elt F) (v.writes (Elt F) f (⟨Rect.unit (s := S1x384x1024) ![0, 0, 128 * h.val] S1x384x128.size (inbCols h), p h⟩ :: L))
        (ix3 r j (⟨128 * k.val + d.val, by omega⟩ : Fin 1024)) = v.read (Elt F) (v.writes (Elt F) f L) (ix3 r j (⟨128 * k.val + d.val, by omega⟩ : Fin 1024)) := by
    intro h L hk
    refine View.read_writes_cons_unit_of_not_mem v f (inbCols h) (p h) L _ rfl (2 : Fin 3) ?_
    have hk' : k.val ≠ h.val := fun e => hk (Fin.ext e)
    show 128 * k.val + d.val < 128 * h.val ∨ 128 * h.val + 128 ≤ 128 * k.val + d.val
    omega
  by_cases h7 : k = 7; · exact hit 7 _ h7
  refine (miss 7 _ h7).trans ?_
  by_cases h6 : k = 6; · exact hit 6 _ h6
  refine (miss 6 _ h6).trans ?_
  by_cases h5 : k = 5; · exact hit 5 _ h5
  refine (miss 5 _ h5).trans ?_
  by_cases h4 : k = 4; · exact hit 4 _ h4
  refine (miss 4 _ h4).trans ?_
  by_cases h3 : k = 3; · exact hit 3 _ h3
  refine (miss 3 _ h3).trans ?_
  by_cases h2 : k = 2; · exact hit 2 _ h2
  refine (miss 2 _ h2).trans ?_
  by_cases h1 : k = 1; · exact hit 1 _ h1
  refine (miss 1 _ h1).trans ?_
  exact hit 0 _ (by omega)

end Cert.KernelIdeal.Fox

end
-- ==== Proof.UpdRun.lean ====
module

public import proofs.«01_k».proof.Proof.Head
public import Idealize.ShloMosaic.Lib.WritesUnit

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (i : grid0.Coords) (arg3 : Memref sig .tc .vmem S1x384x1024 .f32) (harg3 : arg3.IsWhole) (arg4 : Memref sig .tc .vmem S1x384x1024 .f32) (harg4 : arg4.IsWhole) (arg5 : Memref sig .tc .vmem S1x8x128x384 .f32) (harg5 : arg5.IsWhole) (arg6 : Memref sig .tc .vmem S1x384x128 .f32) (harg6 : arg6.IsWhole) (arg7 : Memref sig .tc .vmem S1x384x1024 .f32) (harg7 : arg7.IsWhole) (arg8 : Memref sig .tc .vmem S8x1x384 .f32) (harg8 : arg8.IsWhole) (arg9 : Memref sig .tc .vmem S8x1x384 .f32) (harg9 : arg9.IsWhole) (arg10 : Memref sig .tc .vmem S8x128x384 .f32) (harg10 : arg10.IsWhole)

def initP : Prog (TpuEff nD τ sig (Elt F) Λ₀ .tc) PUnit := do
  let v10 : Vec F S8x1x384 .f32 ← Prog.lift (.load arg8 (Rect.unit (s := S8x1x384) ![0, 0, 0] S8x1x384.size inb_S8x1x384_S8x1x384_0_0_0).toLoadRect (View.loadsAt_vmem h_S8x1x384))
  Prog.lift (.store arg8 (Rect.unit (s := S8x1x384) ![0, 0, 0] S8x1x384.size inb_S8x1x384_S8x1x384_0_0_0) (k0_pay1 (F := F)) Finset.univ (View.stores_vmem_bits_univ h_S8x1x384 rfl) (.inl rfl))
  let v14 : Vec F S8x1x384 .f32 ← Prog.lift (.load arg9 (Rect.unit (s := S8x1x384) ![0, 0, 0] S8x1x384.size inb_S8x1x384_S8x1x384_0_0_0).toLoadRect (View.loadsAt_vmem h_S8x1x384))
  Prog.lift (.store arg9 (Rect.unit (s := S8x1x384) ![0, 0, 0] S8x1x384.size inb_S8x1x384_S8x1x384_0_0_0) (k0_pay2 (F := F)) Finset.univ (View.stores_vmem_bits_univ h_S8x1x384 rfl) (.inl rfl))
  let v18 : Vec F S8x128x384 .f32 ← Prog.lift (.load arg10 (Rect.unit (s := S8x128x384) ![0, 0, 0] S8x128x384.size inb_S8x128x384_S8x128x384_0_0_0).toLoadRect (View.loadsAt_vmem h_S8x128x384))
  Prog.lift (.store arg10 (Rect.unit (s := S8x128x384) ![0, 0, 0] S8x128x384.size inb_S8x128x384_S8x128x384_0_0_0) (k0_pay3 (F := F)) Finset.univ (View.stores_vmem_bits_univ h_S8x128x384 rfl) (.inl rfl))
  pure ⟨⟩

def updP : Prog (TpuEff nD τ sig (Elt F) Λ₀ .tc) PUnit := do
  let v380 : FVec F S128x384 .f32 ← k0_part12 i arg3 harg3 arg4 harg4 arg5 harg5 arg6 harg6 arg7 harg7 arg8 harg8 arg9 harg9 arg10 harg10 (BitVec.ofNat 32 (i 1).val) (BitVec.ofNat 32 (i 2).val)
  Prog.lift (.store arg10 (Rect.unit (s := S8x128x384) ![7, 0, 0] S1x128x384.size inb_S8x128x384_S1x128x384_7_0_0) (k0_pay4 v380) Finset.univ (View.stores_vmem_bits_univ h_S1x128x384 rfl) (.inl rfl))
  pure ⟨⟩

def emitP : Prog (TpuEff nD τ sig (Elt F) Λ₀ .tc) PUnit := do
    k0_part13 i arg3 harg3 arg4 harg4 arg5 harg5 arg6 harg6 arg7 harg7 arg8 harg8 arg9 harg9 arg10 harg10
    k0_part14 i arg3 harg3 arg4 harg4 arg5 harg5 arg6 harg6 arg7 harg7 arg8 harg8 arg9 harg9 arg10 harg10
    let v69 : Vec F S1x128x384 .f32 ← Prog.lift (.load arg10 (Rect.unit (s := S8x128x384) ![6, 0, 0] S1x128x384.size inb_S8x128x384_S1x128x384_6_0_0).toLoadRect (View.loadsAt_vmem h_S1x128x384))
    let v71 : Vec F S1x1x384 .f32 ← Prog.lift (.load arg9 (Rect.unit (s := S8x1x384) ![6, 0, 0] S1x1x384.size inb_S8x1x384_S1x1x384_6_0_0).toLoadRect (View.loadsAt_vmem h_S1x1x384))
    let v76 : Vec F S1x384x128 .f32 ← Prog.lift (.load arg7 (Rect.unit (s := S1x384x1024) ![0, 0, 768] S1x384x128.size inb_S1x384x1024_S1x384x128_0_0_768).toLoadRect (View.loadsAt_vmem h_S1x384x128))
    Prog.lift (.store arg7 (Rect.unit (s := S1x384x1024) ![0, 0, 768] S1x384x128.size inb_S1x384x1024_S1x384x128_0_0_768) (k0_pay5 v69 v71) Finset.univ (View.stores_vmem_bits_univ h_S1x384x128 rfl) (.inl rfl))
    let v79 : Vec F S1x128x384 .f32 ← Prog.lift (.load arg10 (Rect.unit (s := S8x128x384) ![7, 0, 0] S1x128x384.size inb_S8x128x384_S1x128x384_7_0_0).toLoadRect (View.loadsAt_vmem h_S1x128x384))
    let v81 : Vec F S1x1x384 .f32 ← Prog.lift (.load arg9 (Rect.unit (s := S8x1x384) ![7, 0, 0] S1x1x384.size inb_S8x1x384_S1x1x384_7_0_0).toLoadRect (View.loadsAt_vmem h_S1x1x384))
    let v86 : Vec F S1x384x128 .f32 ← Prog.lift (.load arg7 (Rect.unit (s := S1x384x1024) ![0, 0, 896] S1x384x128.size inb_S1x384x1024_S1x384x128_0_0_896).toLoadRect (View.loadsAt_vmem h_S1x384x128))
    Prog.lift (.store arg7 (Rect.unit (s := S1x384x1024) ![0, 0, 896] S1x384x128.size inb_S1x384x1024_S1x384x128_0_0_896) (k0_pay6 v79 v81) Finset.univ (View.stores_vmem_bits_univ h_S1x384x128 rfl) (.inl rfl))
    pure ⟨⟩

/-- What one key block makes of the running maxima. -/
def newM (i : grid0.Coords) (x0 x1 : Vec F S1x384x1024 .f32) (x3 : Vec F S1x384x128 .f32) (M : Vec F S8x1x384 .f32) : Vec F S8x1x384 .f32 :=
  ofRows (mPiece x0 x1 x3 (k0_pay8 (BitVec.ofNat 32 (i 1).val) (BitVec.ofNat 32 (i 2).val)) M)

/-- What one key block makes of the running denominators. -/
def newL (i : grid0.Coords) (x0 x1 : Vec F S1x384x1024 .f32) (x3 : Vec F S1x384x128 .f32) (M L : Vec F S8x1x384 .f32) : Vec F S8x1x384 .f32 :=
  ofRows (lPiece x0 x1 x3 (k0_pay8 (BitVec.ofNat 32 (i 1).val) (BitVec.ofNat 32 (i 2).val)) M L)

/-- What one key block makes of the running numerators. -/
def newA (i : grid0.Coords) (x0 x1 : Vec F S1x384x1024 .f32) (x2 : Vec F S1x8x128x384 .f32) (x3 : Vec F S1x384x128 .f32) (M : Vec F S8x1x384 .f32)
    (A : Vec F S8x128x384 .f32) : Vec F S8x128x384 .f32 :=
  ofSlabs (aPiece x0 x1 x2 x3 (k0_pay8 (BitVec.ofNat 32 (i 1).val) (BitVec.ofNat 32 (i 2).val)) M A)

/-- The finished block of queries. -/
def outBlock (L : Vec F S8x1x384 .f32) (A : Vec F S8x128x384 .f32) : Vec F S1x384x1024 .f32 := ofCols (oPiece L A)

set_option maxHeartbeats 1000000 in
/-- One key block's update of the three running arrays. -/
theorem upd_wp (c : Dev nD) (E : Set ℕ) (K : PUnit → sProp 𝕄) (x0 : Vec F S1x384x1024 .f32) (x1 : Vec F S1x384x1024 .f32) (x2 : Vec F S1x8x128x384 .f32) (x3 : Vec F S1x384x128 .f32)
    (M L : Vec F S8x1x384 .f32) (A : Vec F S8x128x384 .f32) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare M ∗ owns (c : Thread nD τ) arg9 fullShare L ∗ owns (c : Thread nD τ) arg10 fullShare A
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare (newM i x0 x1 x3 M) ∗ owns (c : Thread nD τ) arg9 fullShare (newL i x0 x1 x3 M L) ∗ owns (c : Thread nD τ) arg10 fullShare (newA i x0 x1 x2 x3 M A)) -∗ K ⟨⟩))
      ⊢ wp frame (wpE (defs₀ (F := F)) Variants.none c none) E (updP i arg3 harg3 arg4 harg4 arg5 harg5 arg6 harg6 arg7 harg7 arg8 harg8 arg9 harg9 arg10 harg10) K := by
  unfold updP
  simp only [k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%fs0, %hs0, HS0⟩, ⟨%fs1, %hs1, HS1⟩, ⟨%fs2, %hs2, HS2⟩, Hk⟩
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  subst hf0 hf1 hf2 hf3 hs0 hs1 hs2
  isplitl [HS0]
  · iexists _; isplitr; swap; · iexact HS0
    ipureintro
    exact read_rows arg8.view fs0 (mPiece (arg3.view.read (Elt F) f0) (arg4.view.read (Elt F) f1) (arg6.view.read (Elt F) f3) (k0_pay8 (BitVec.ofNat 32 (i 1).val) (BitVec.ofNat 32 (i 2).val)) (arg8.view.read (Elt F) fs0))
  isplitl [HS1]
  · iexists _; isplitr; swap; · iexact HS1
    ipureintro
    exact read_rows arg9.view fs1 (lPiece (arg3.view.read (Elt F) f0) (arg4.view.read (Elt F) f1) (arg6.view.read (Elt F) f3) (k0_pay8 (BitVec.ofNat 32 (i 1).val) (BitVec.ofNat 32 (i 2).val)) (arg8.view.read (Elt F) fs0) (arg9.view.read (Elt F) fs1))
  iexists _; isplitr; swap; · iexact HS2
  ipureintro
  exact read_slabs arg10.view fs2 (aPiece (arg3.view.read (Elt F) f0) (arg4.view.read (Elt F) f1) (arg5.view.read (Elt F) f2) (arg6.view.read (Elt F) f3) (k0_pay8 (BitVec.ofNat 32 (i 1).val) (BitVec.ofNat 32 (i 2).val)) (arg8.view.read (Elt F) fs0) (arg10.view.read (Elt F) fs2))

end Cert.KernelIdeal.Fox

end
-- ==== Proof.Body.lean ====
module

public import proofs.«01_k».proof.Proof.UpdRun
public import Idealize.ShloMosaic.Lib.WritesUnit

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (i : grid0.Coords) (arg3 : Memref sig .tc .vmem S1x384x1024 .f32) (harg3 : arg3.IsWhole) (arg4 : Memref sig .tc .vmem S1x384x1024 .f32) (harg4 : arg4.IsWhole) (arg5 : Memref sig .tc .vmem S1x8x128x384 .f32) (harg5 : arg5.IsWhole) (arg6 : Memref sig .tc .vmem S1x384x128 .f32) (harg6 : arg6.IsWhole) (arg7 : Memref sig .tc .vmem S1x384x1024 .f32) (harg7 : arg7.IsWhole) (arg8 : Memref sig .tc .vmem S8x1x384 .f32) (harg8 : arg8.IsWhole) (arg9 : Memref sig .tc .vmem S8x1x384 .f32) (harg9 : arg9.IsWhole) (arg10 : Memref sig .tc .vmem S8x128x384 .f32) (harg10 : arg10.IsWhole)

abbrev cond0_0 (i : grid0.Coords) : Prop := (Scalar.cmpi .ne (Scalar.extui (Scalar.cmpi .eq (BitVec.ofNat 32 (i 2).val) 0#32)) 0#32) = 1#1
abbrev cond0_1 (i : grid0.Coords) : Prop := (Scalar.cmpi .ne (Scalar.extui (Scalar.cmpi .sle (BitVec.ofNat 32 (i 2).val) (BitVec.ofNat 32 (i 1).val))) 0#32) = 1#1
abbrev cond0_2 (i : grid0.Coords) : Prop := k0_cond3 i = 1#1

theorem body_eq : cc0_fox_prompt (F := F) i arg3 harg3 arg4 harg4 arg5 harg5 arg6 harg6 arg7 harg7 arg8 harg8 arg9 harg9 arg10 harg10
    = (if cond0_0 i then initP arg8 arg9 arg10 else pure ⟨⟩) >>= fun _ =>
      (if cond0_1 i then updP i arg3 harg3 arg4 harg4 arg5 harg5 arg6 harg6 arg7 harg7 arg8 harg8 arg9 harg9 arg10 harg10 else pure ⟨⟩) >>= fun _ =>
      (if cond0_2 i then emitP i arg3 harg3 arg4 harg4 arg5 harg5 arg6 harg6 arg7 harg7 arg8 harg8 arg9 harg9 arg10 harg10 else pure ⟨⟩) >>= fun _ => pure ⟨⟩ := by
  rw [cc0_fox_prompt_eq_skeleton]; unfold cc0_fox_prompt_skel
  by_cases h0 : cond0_0 i <;> by_cases h1 : cond0_1 i <;> by_cases h2 : cond0_2 i <;>
    simp only [cond0_0, cond0_1, cond0_2] at h0 h1 h2 ⊢ <;>
    simp only [h0, h1, h2, if_true, if_false, dif_pos, dif_neg, not_false_iff, initP, updP, emitP, bind_assoc, pure_bind]

theorem init_wp (c : Dev nD) (E : Set ℕ) (K : PUnit → sProp 𝕄) (M L : Vec F S8x1x384 .f32) (A : Vec F S8x128x384 .f32) :
    iprop(owns (c : Thread nD τ) arg8 fullShare M ∗ owns (c : Thread nD τ) arg9 fullShare L ∗ owns (c : Thread nD τ) arg10 fullShare A
        ∗ (iprop(owns (c : Thread nD τ) arg8 fullShare (k0_pay1 (F := F)) ∗ owns (c : Thread nD τ) arg9 fullShare (k0_pay2 (F := F)) ∗ owns (c : Thread nD τ) arg10 fullShare (k0_pay3 (F := F))) -∗ K ⟨⟩))
      ⊢ wp frame (wpE (defs₀ (F := F)) Variants.none c none) E (initP arg8 arg9 arg10) K := by
  unfold initP
  unfold owns
  iintro ⟨⟨%fs0, %hs0, HS0⟩, ⟨%fs1, %hs1, HS1⟩, ⟨%fs2, %hs2, HS2⟩, Hk⟩
  sl_exec
  sl_step
  iapply Hk
  isplitl [HS0]
  · iexists _; isplitr; swap; · iexact HS0
    ipureintro; exact View.read_writes_full _ _ _ _ _
  isplitl [HS1]
  · iexists _; isplitr; swap; · iexact HS1
    ipureintro; exact View.read_writes_full _ _ _ _ _
  iexists _; isplitr; swap; · iexact HS2
  ipureintro; exact View.read_writes_full _ _ _ _ _

theorem emit_wp (c : Dev nD) (E : Set ℕ) (K : PUnit → sProp 𝕄) (d4 : Vec F S1x384x1024 .f32)
    (L : Vec F S8x1x384 .f32) (A : Vec F S8x128x384 .f32) :
    iprop(owns (c : Thread nD τ) arg7 fullShare d4 ∗ owns (c : Thread nD τ) arg9 fullShare L ∗ owns (c : Thread nD τ) arg10 fullShare A
        ∗ (iprop(owns (c : Thread nD τ) arg7 fullShare (outBlock L A) ∗ owns (c : Thread nD τ) arg9 fullShare L ∗ owns (c : Thread nD τ) arg10 fullShare A) -∗ K ⟨⟩))
      ⊢ wp frame (wpE (defs₀ (F := F)) Variants.none c none) E (emitP i arg3 harg3 arg4 harg4 arg5 harg5 arg6 harg6 arg7 harg7 arg8 harg8 arg9 harg9 arg10 harg10) K := by
  unfold emitP
  simp only [k0_part13_eq_skeleton, k0_part14_eq_skeleton]
  unfold owns
  iintro ⟨⟨%f4, %hf4, H4⟩, ⟨%fs1, %hs1, HS1⟩, ⟨%fs2, %hs2, HS2⟩, Hk⟩
  sl_exec
  sl_step
  iapply Hk
  isplitl [H4]
  · iexists _; isplitr; swap; · iexact H4
    ipureintro
    subst hs1 hs2
    exact read_cols arg7.view f4 (oPiece (arg9.view.read (Elt F) fs1) (arg10.view.read (Elt F) fs2))
  isplitl [HS1]
  · iexists _; isplitr; · ipureintro; exact hs1
    iexact HS1
  iexists _; isplitr; · ipureintro; exact hs2
  iexact HS2

end Cert.KernelIdeal.Fox

end
-- ==== Proof.Run.lean ====
module

public import proofs.«01_k».proof.Proof.Body
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameSuffix
public import Idealize.ShloMosaic.Lib.Pipeline.TableIdle
public import Idealize.ShloMosaic.Lib.WordCmp
public import Idealize.ShloMosaic.Lib.Claim

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The running maxima, denominators and numerators of one block of queries. -/
abbrev St (F : FTy → Type) [FloatOps F] [Named F] := Vec F S8x1x384 .f32 × Vec F S8x1x384 .f32 × Vec F S8x128x384 .f32

/-- The three running arrays after the reset a row of key blocks begins with. -/
def opened (i : grid0.Coords) (s : St F) : St F := if cond0_0 i then (k0_pay1, k0_pay2, k0_pay3) else s

/-- The three running arrays after one grid point. -/
def step (i : grid0.Coords) (x0 x1 : Vec F S1x384x1024 .f32) (x2 : Vec F S1x8x128x384 .f32) (x3 : Vec F S1x384x128 .f32) (s : St F) : St F :=
  if cond0_1 i then
    (newM i x0 x1 x3 (opened i s).1, newL i x0 x1 x3 (opened i s).1 (opened i s).2.1, newA i x0 x1 x2 x3 (opened i s).1 (opened i s).2.2)
  else opened i s

/-- What the output block holds after one grid point. -/
def emitted (i : grid0.Coords) (s : St F) (d : Vec F S1x384x1024 .f32) : Vec F S1x384x1024 .f32 :=
  if cond0_2 i then outBlock s.2.1 s.2.2 else d

section
variable (i : grid0.Coords) (arg3 : Memref sig .tc .vmem S1x384x1024 .f32) (harg3 : arg3.IsWhole) (arg4 : Memref sig .tc .vmem S1x384x1024 .f32) (harg4 : arg4.IsWhole) (arg5 : Memref sig .tc .vmem S1x8x128x384 .f32) (harg5 : arg5.IsWhole) (arg6 : Memref sig .tc .vmem S1x384x128 .f32) (harg6 : arg6.IsWhole) (arg7 : Memref sig .tc .vmem S1x384x1024 .f32) (harg7 : arg7.IsWhole) (arg8 : Memref sig .tc .vmem S8x1x384 .f32) (harg8 : arg8.IsWhole) (arg9 : Memref sig .tc .vmem S8x1x384 .f32) (harg9 : arg9.IsWhole) (arg10 : Memref sig .tc .vmem S8x128x384 .f32) (harg10 : arg10.IsWhole)

theorem init_phase (c : Dev nD) (E : Set ℕ) (K : PUnit → sProp 𝕄) (s : St F) :
    iprop(owns (c : Thread nD τ) arg8 fullShare s.1 ∗ owns (c : Thread nD τ) arg9 fullShare s.2.1 ∗ owns (c : Thread nD τ) arg10 fullShare s.2.2
        ∗ (iprop(owns (c : Thread nD τ) arg8 fullShare (opened i s).1 ∗ owns (c : Thread nD τ) arg9 fullShare (opened i s).2.1 ∗ owns (c : Thread nD τ) arg10 fullShare (opened i s).2.2) -∗ K ⟨⟩))
      ⊢ wp frame (wpE (defs₀ (F := F)) Variants.none c none) E (if cond0_0 i then initP arg8 arg9 arg10 else pure ⟨⟩) K := by
  unfold opened
  by_cases h : cond0_0 i
  · simp only [if_pos h]
    exact init_wp arg8 arg9 arg10 c E K s.1 s.2.1 s.2.2
  · simp only [if_neg h]
    iintro ⟨H8, H9, H10, Hk⟩
    sl_step
    iapply Hk
    isplitl [H8]; · iexact H8
    isplitl [H9]; · iexact H9
    iexact H10

theorem emit_phase (c : Dev nD) (E : Set ℕ) (K : PUnit → sProp 𝕄) (s : St F) (d : Vec F S1x384x1024 .f32) :
    iprop(owns (c : Thread nD τ) arg7 fullShare d ∗ owns (c : Thread nD τ) arg9 fullShare s.2.1 ∗ owns (c : Thread nD τ) arg10 fullShare s.2.2
        ∗ (iprop(owns (c : Thread nD τ) arg7 fullShare (emitted i s d) ∗ owns (c : Thread nD τ) arg9 fullShare s.2.1 ∗ owns (c : Thread nD τ) arg10 fullShare s.2.2) -∗ K ⟨⟩))
      ⊢ wp frame (wpE (defs₀ (F := F)) Variants.none c none) E (if cond0_2 i then emitP i arg3 harg3 arg4 harg4 arg5 harg5 arg6 harg6 arg7 harg7 arg8 harg8 arg9 harg9 arg10 harg10 else pure ⟨⟩) K := by
  unfold emitted
  by_cases h : cond0_2 i
  · simp only [if_pos h]
    exact emit_wp i arg3 harg3 arg4 harg4 arg5 harg5 arg6 harg6 arg7 harg7 arg8 harg8 arg9 harg9 arg10 harg10 c E K d s.2.1 s.2.2
  · simp only [if_neg h]
    iintro ⟨H8, H9, H10, Hk⟩
    sl_step
    iapply Hk
    isplitl [H8]; · iexact H8
    isplitl [H9]; · iexact H9
    iexact H10

theorem upd_phase (c : Dev nD) (E : Set ℕ) (K : PUnit → sProp 𝕄) (x0 : Vec F S1x384x1024 .f32) (x1 : Vec F S1x384x1024 .f32) (x2 : Vec F S1x8x128x384 .f32) (x3 : Vec F S1x384x128 .f32) (s : St F) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare (opened i s).1 ∗ owns (c : Thread nD τ) arg9 fullShare (opened i s).2.1 ∗ owns (c : Thread nD τ) arg10 fullShare (opened i s).2.2
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare (step i x0 x1 x2 x3 s).1 ∗ owns (c : Thread nD τ) arg9 fullShare (step i x0 x1 x2 x3 s).2.1 ∗ owns (c : Thread nD τ) arg10 fullShare (step i x0 x1 x2 x3 s).2.2) -∗ K ⟨⟩))
      ⊢ wp frame (wpE (defs₀ (F := F)) Variants.none c none) E (if cond0_1 i then updP i arg3 harg3 arg4 harg4 arg5 harg5 arg6 harg6 arg7 harg7 arg8 harg8 arg9 harg9 arg10 harg10 else pure ⟨⟩) K := by
  unfold step
  by_cases h : cond0_1 i
  · simp only [if_pos h]
    exact upd_wp i arg3 harg3 arg4 harg4 arg5 harg5 arg6 harg6 arg7 harg7 arg8 harg8 arg9 harg9 arg10 harg10 c E K x0 x1 x2 x3 (opened i s).1 (opened i s).2.1 (opened i s).2.2
  · simp only [if_neg h]
    iintro ⟨H3, H4, H5, H6, H8, H9, H10, Hk⟩
    sl_step
    iapply Hk
    isplitl [H3]; · iexact H3
    isplitl [H4]; · iexact H4
    isplitl [H5]; · iexact H5
    isplitl [H6]; · iexact H6
    isplitl [H8]; · iexact H8
    isplitl [H9]; · iexact H9
    iexact H10

/-- The body at any grid point: it reads its four inputs, steps the three running arrays, and writes the finished block where the row of
    key blocks ends. -/
theorem body_wp (c : Dev nD) (E : Set ℕ) (K : PUnit → sProp 𝕄) (x0 : Vec F S1x384x1024 .f32) (x1 : Vec F S1x384x1024 .f32) (x2 : Vec F S1x8x128x384 .f32) (x3 : Vec F S1x384x128 .f32) (d : Vec F S1x384x1024 .f32) (s : St F) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare d ∗ owns (c : Thread nD τ) arg8 fullShare s.1 ∗ owns (c : Thread nD τ) arg9 fullShare s.2.1 ∗ owns (c : Thread nD τ) arg10 fullShare s.2.2
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (emitted i (step i x0 x1 x2 x3 s) d) ∗ owns (c : Thread nD τ) arg8 fullShare (step i x0 x1 x2 x3 s).1 ∗ owns (c : Thread nD τ) arg9 fullShare (step i x0 x1 x2 x3 s).2.1 ∗ owns (c : Thread nD τ) arg10 fullShare (step i x0 x1 x2 x3 s).2.2) -∗ K ⟨⟩))
      ⊢ wp frame (wpE (defs₀ (F := F)) Variants.none c none) E (cc0_fox_prompt i arg3 harg3 arg4 harg4 arg5 harg5 arg6 harg6 arg7 harg7 arg8 harg8 arg9 harg9 arg10 harg10) K := by
  rw [body_eq]
  simp only [Idealize.SL.Sem.wp_bind]
  iintro ⟨H3, H4, H5, H6, H7, H8, H9, H10, Hk⟩
  iapply (init_phase i arg8 arg9 arg10 c E _ s)
  isplitl [H8]; · iexact H8
  isplitl [H9]; · iexact H9
  isplitl [H10]; · iexact H10
  iintro ⟨H8, H9, H10⟩
  iapply (upd_phase i arg3 harg3 arg4 harg4 arg5 harg5 arg6 harg6 arg7 harg7 arg8 harg8 arg9 harg9 arg10 harg10 c E _ x0 x1 x2 x3 s)
  isplitl [H3]; · iexact H3
  isplitl [H4]; · iexact H4
  isplitl [H5]; · iexact H5
  isplitl [H6]; · iexact H6
  isplitl [H8]; · iexact H8
  isplitl [H9]; · iexact H9
  isplitl [H10]; · iexact H10
  iintro ⟨H3, H4, H5, H6, H8, H9, H10⟩
  iapply (emit_phase i arg3 harg3 arg4 harg4 arg5 harg5 arg6 harg6 arg7 harg7 arg8 harg8 arg9 harg9 arg10 harg10 c E _ (step i x0 x1 x2 x3 s) d)
  isplitl [H7]; · iexact H7
  isplitl [H9]; · iexact H9
  isplitl [H10]; · iexact H10
  iintro ⟨H7, H9, H10⟩
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end

/-! ## The conditions by the point's number -/

theorem coords_1 (t : Fin cfg0.N) : (grid0.coords t 1).val = t.val / 11 % 11 := Pipeline.Grid.coords_val t 1 (by decide) rfl
theorem coords_2 (t : Fin cfg0.N) : (grid0.coords t 2).val = t.val % 11 := by
  have h : (grid0.coords t 2).val = t.val / 1 % 11 := Pipeline.Grid.coords_val t 2 (by decide) rfl
  rwa [Nat.div_one] at h
theorem coords_0 (t : Fin cfg0.N) : (grid0.coords t 0).val = t.val / 121 % 4 := Pipeline.Grid.coords_val t 0 (by decide) rfl

/-- A row of key blocks begins at its first point. -/
theorem opens_iff : ∀ t : Fin cfg0.N, cond0_0 (grid0.coords t) ↔ t.val % 11 = 0 :=
  (by decide +kernel : ∀ t : Fin grid0.N, cond0_0 (grid0.coords t) ↔ t.val % 11 = 0)
/-- A key block is used when it is not after the queries' block. -/
theorem uses_iff : ∀ t : Fin cfg0.N, cond0_1 (grid0.coords t) ↔ t.val % 11 ≤ t.val / 11 % 11 :=
  (by decide +kernel : ∀ t : Fin grid0.N, cond0_1 (grid0.coords t) ↔ t.val % 11 ≤ t.val / 11 % 11)
/-- The finished block is written at the queries' own block. -/
theorem emits_iff : ∀ t : Fin cfg0.N, cond0_2 (grid0.coords t) ↔ t.val / 11 % 11 = t.val % 11 :=
  (by decide +kernel : ∀ t : Fin grid0.N, cond0_2 (grid0.coords t) ↔ t.val / 11 % 11 = t.val % 11)

theorem idle_4 (t : Fin cfg0.N) (h : ¬ cond0_2 (grid0.coords t)) : cfg0.idle 4 (grid0.coords t) = true := by
  show (!(k0_cond3 (grid0.coords t) == 1#1)) = true
  rw [Bool.not_eq_true', beq_eq_false_iff_ne]; exact h
theorem live_4 (t : Fin cfg0.N) (h : cond0_2 (grid0.coords t)) : cfg0.idle 4 (grid0.coords t) = false := by
  show (!(k0_cond3 (grid0.coords t) == 1#1)) = false
  rw [Bool.not_eq_false', beq_iff_eq]; exact h
theorem live_in : ∀ w : Fin 5, w ≠ 4 → ∀ t : Fin cfg0.N, cfg0.idle w (grid0.coords t) = false := by
  intro w hw t
  fin_cases w <;> first | rfl | exact absurd rfl hw

/-! ## The states along the grid -/

variable (m : (ℓ : Loc nD τ sig) → Buf (Elt F) ℓ) (ρ : Dev nD → PrngReg)

/-- The step at a grid point, on the blocks the arrays hold. -/
def stepAt (c : Dev nD) (t : Fin cfg0.N) (s : St F) : St F :=
  step (grid0.coords t) (X0_0 m c t) (X0_1 m c t) (iblk m c 2 t) (iblk m c 3 t) s

/-- The three running arrays after a grid point. -/
def stAt (c : Dev nD) : (n : ℕ) → n < cfg0.N → St F
  | 0, h => stepAt m c ⟨0, h⟩ (k0_pay1, k0_pay2, k0_pay3)
  | n + 1, h => stepAt m c ⟨n + 1, h⟩ (stAt c n (Nat.lt_of_succ_lt h))

theorem stAt_zero (c : Dev nD) (t : Fin cfg0.N) (ht : t.val = 0) (s : St F) : stepAt m c t s = stAt m c t.val t.isLt := by
  obtain ⟨n, hn⟩ := t
  obtain rfl : n = 0 := ht
  have h0 : cond0_0 (grid0.coords ⟨0, hn⟩) := (opens_iff ⟨0, hn⟩).mpr rfl
  show stepAt m c ⟨0, hn⟩ s = stepAt m c ⟨0, hn⟩ _
  unfold stepAt step opened
  simp only [if_pos h0]

theorem stAt_pos (c : Dev nD) (t : Fin cfg0.N) (ht : t.val ≠ 0) :
    stepAt m c t (stAt m c (t.val - 1) (by omega)) = stAt m c t.val t.isLt := by
  obtain ⟨n, hn⟩ := t
  cases n with
  | zero => exact absurd rfl ht
  | succ n => rfl

/-- The point of a point's row where the finished block is written. -/
def emitPt (t : Fin cfg0.N) : Fin cfg0.N :=
  ⟨11 * (t.val / 11) + t.val / 11 % 11, by have : t.val < 484 := lt_of_lt_of_eq t.isLt N_0; have : cfg0.N = 484 := N_0; omega⟩

theorem emitPt_div (t : Fin cfg0.N) : (emitPt t).val / 11 = t.val / 11 := by
  show (11 * (t.val / 11) + t.val / 11 % 11) / 11 = _; omega
theorem emitPt_mod (t : Fin cfg0.N) : (emitPt t).val % 11 = t.val / 11 % 11 := by
  show (11 * (t.val / 11) + t.val / 11 % 11) % 11 = _; omega

/-- The block the state after a point finishes to. -/
def finish (c : Dev nD) (t : Fin cfg0.N) : Vec F S1x384x1024 .f32 := outBlock (stAt m c t.val t.isLt).2.1 (stAt m c t.val t.isLt).2.2

/-- The finished block of a point's row. -/
def rowBlock (c : Dev nD) (t : Fin cfg0.N) : Vec F S1x384x1024 .f32 := finish m c (emitPt t)

abbrev ms0_0 (t : Fin cfg0.N) : Memref sig .tc .vmem S1x384x1024 .f32 := win0_0.stage (cfg0.slots t 0)
abbrev ms0_1 (t : Fin cfg0.N) : Memref sig .tc .vmem S1x384x1024 .f32 := win0_1.stage (cfg0.slots t 1)
abbrev ms0_2 (t : Fin cfg0.N) : Memref sig .tc .vmem S1x8x128x384 .f32 := win0_2.stage (cfg0.slots t 2)
abbrev ms0_3 (t : Fin cfg0.N) : Memref sig .tc .vmem S1x384x128 .f32 := win0_3.stage (cfg0.slots t 3)
abbrev ms0_4 (t : Fin cfg0.N) : Memref sig .tc .vmem S1x384x1024 .f32 := win0_4.stage (cfg0.slots t 4)
abbrev scM0_0 : Memref sig .tc .vmem S8x1x384 .f32 := Memref.whole cc0_scratch0
abbrev scM0_1 : Memref sig .tc .vmem S8x1x384 .f32 := Memref.whole cc0_scratch1
abbrev scM0_2 : Memref sig .tc .vmem S8x128x384 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The running arrays at a state, and the generator register at any. -/
def held (c : Dev nD) (s : St F) : sProp 𝕄 :=
  iprop(iprop(owns (c : Thread nD τ) scM0_0 fullShare s.1 ∗ owns (c : Thread nD τ) scM0_1 fullShare s.2.1 ∗ owns (c : Thread nD τ) scM0_2 fullShare s.2.2) ∗ (∃ r, prngReg c r))

/-- The invariant between grid points: the running arrays at the state the points before left. -/
def PhiS (c : Dev nD) : (n : ℕ) → n ≤ cfg0.N → sProp 𝕄
  | 0, _ => Pipeline.ΦA spec0 c
  | n + 1, hn => held c (stAt m c n hn)

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) : PhiS m c n h = held c (stAt m c (n - 1) (by omega)) := by
  cases n with
  | zero => exact absurd rfl hz
  | succ n => rfl

/-- What the invariant gives before a point: the running arrays at some state which the point's step takes to the point's own. -/
theorem PhiS_open (c : Dev nD) (t : Fin cfg0.N) :
    PhiS m c t.val (Nat.le_of_lt t.isLt) ⊢ iprop(∃ s : St F, ⌜stepAt m c t s = stAt m c t.val t.isLt⌝ ∗ held c s) := by
  by_cases hz : t.val = 0
  · rw [PhiS_zero m c _ _ hz, PhiA0_eq]
    iintro ⟨⟨⟨%d0, H0⟩, ⟨%d1, H1⟩, ⟨%d2, H2⟩⟩, Hg⟩
    iexists (d0, d1, d2)
    isplitr
    · ipureintro; exact stAt_zero m c t hz _
    unfold held
    isplitl [H0 H1 H2]
    · isplitl [H0]; · iexact H0
      isplitl [H1]; · iexact H1
      iexact H2
    iexact Hg
  · rw [PhiS_pos m c _ _ hz]
    iintro H
    iexists (stAt m c (t.val - 1) (by omega))
    isplitr
    · ipureintro; exact stAt_pos m c t hz
    iexact H

/-! ## The pipeline's data -/

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => rowBlock m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = rowBlock m c t := by dsimp only [dats]
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem leaves_flush (c : Dev nD) (w : Fin cfg0.W) (t : Fin cfg0.N) (h : (cfg0.win w).flush t = true) :
    (dats m 0 c).leavesExact w t = owns (c : Thread nD τ) ((cfg0.win w).stage (cfg0.slots t w)) fullShare ((dats m 0 c).after w t) := by
  unfold Dat.leavesExact; rw [h]; cases cfg0.idle w (cfg0.grid.coords t) <;> rfl

theorem noFlush (t : Fin cfg0.N) (h : t.val % 11 ≠ 10) : (cfg0.win 4).flush t = false := by
  rw [← Bool.not_eq_true]; exact fun h' => h ((flush0_4 t).mp h')

/-- At the end of a row whose finished block was written before, the block is still there. -/
theorem before_end (c : Dev nD) (t : Fin cfg0.N) (ht : t.val % 11 = 10) (hi : ¬ cond0_2 (grid0.coords t)) (d) :
    (dats m 0 c).before 4 t d = (dats m 0 c).after 4 t := by
  have hN : t.val < 484 := lt_of_lt_of_eq t.isLt N_0
  have hNc : cfg0.N = 484 := N_0
  have hq : t.val / 11 % 11 ≠ t.val % 11 := fun h => hi ((emits_iff t).mpr h)
  rw [(dats m 0 c).before_idle_run 4 (fun _ => rfl) d (9 - t.val / 11 % 11) t (by omega) (fun j h1 h2 => by
    have e : j.val / 11 = t.val / 11 := by omega
    refine ⟨idle_4 j fun h => ?_, noFlush j (by omega)⟩
    have := (emits_iff j).mp h
    omega)]
  unfold Dat.before
  have hne : t.val - (9 - t.val / 11 % 11) ≠ 0 := by omega
  rw [if_neg (by rw [show (cfg0.win 4).fetch _ = false from rfl]; exact Bool.false_ne_true), if_neg hne]
  dsimp only
  have hem : (⟨t.val - (9 - t.val / 11 % 11) - 1, by omega⟩ : Fin cfg0.N) = emitPt t := Fin.ext (by unfold emitPt; dsimp only; omega)
  rw [hem]
  have hc : cond0_2 (grid0.coords (emitPt t)) := (emits_iff _).mpr (by rw [emitPt_div, emitPt_mod])
  have hnf : (cfg0.win 4).flush (emitPt t) = false := noFlush (emitPt t) (by rw [emitPt_mod]; omega)
  have hl : idle0 4 (grid0.coords (emitPt t)) = false := live_4 _ hc
  rw [if_neg (by rw [hnf]; exact Bool.false_ne_true)]
  show (match idle0 4 (grid0.coords (emitPt t)) with
    | true => (dats m 0 c).found 4 (emitPt t) d
    | false => (dats m 0 c).kept 4 (emitPt t) d) = _
  rw [hl]
  show (dats m 0 c).after 4 (emitPt t) = (dats m 0 c).after 4 t
  rw [after0_4, after0_4]
  have : emitPt (emitPt t) = emitPt t := Fin.ext (by
    show 11 * ((emitPt t).val / 11) + (emitPt t).val / 11 % 11 = 11 * (t.val / 11) + t.val / 11 % 11; rw [emitPt_div])
  unfold rowBlock
  rw [this]

/-- What is in the output's buffer after a point is what is to be left there. -/
theorem leaves_out (c : Dev nD) (t : Fin cfg0.N) (d) :
    owns (c : Thread nD τ) (ms0_4 t) fullShare (emitted (grid0.coords t) (stAt m c t.val t.isLt) ((dats m 0 c).before 4 t d))
      ⊢ (dats m 0 c).leavesExact 4 t := by
  unfold emitted
  by_cases h : cond0_2 (grid0.coords t)
  · rw [if_pos h, leaves_live m c 4 t (live_4 t h), after0_4]
    have hN : t.val < 484 := lt_of_lt_of_eq t.isLt N_0
    have he : emitPt t = t := Fin.ext (by have := (emits_iff t).mp h; unfold emitPt; dsimp only; omega)
    unfold rowBlock
    rw [he]
    exact Idealize.SL.BI.Entails.refl _
  · rw [if_neg h]
    by_cases hf : t.val % 11 = 10
    · rw [leaves_flush m c 4 t ((flush0_4 t).mpr hf), before_end m c t hf h d]
    · rw [Dat.leavesExact_idle _ 4 t (idle_4 t h) (noFlush t hf)]
      iintro H
      iexists d
      iexact H

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = held c (stAt m c t.val t.isLt) from rfl, PhiS_castSucc]
  rw [leaves_live m c 0 t (live_in 0 (by decide) t), leaves_live m c 1 t (live_in 1 (by decide) t),
    leaves_live m c 2 t (live_in 2 (by decide) t), leaves_live m c 3 t (live_in 3 (by decide) t), after0_0, after0_1, after0_2, after0_3]
  iintro ⟨HΦ, Ho, ⟨%d0, H0⟩, ⟨%d1, H1⟩, ⟨%d2, H2⟩, ⟨%d3, H3⟩, ⟨%d4, H4⟩⟩
  ihave HΦ := (PhiS_open m c t) $$ [HΦ]; · iexact HΦ
  icases HΦ with ⟨%s, %hs, HΦ⟩
  unfold held
  icases HΦ with ⟨⟨HS0, HS1, HS2⟩, Hg⟩
  iapply (body_wp (grid0.coords t) _ _ _ _ _ _ _ _ _ _ _ _ _ _ _ _ c Set.univ _ (X0_0 m c t) (X0_1 m c t) (iblk m c 2 t) (iblk m c 3 t) ((dats m 0 c).before 4 t d4) s)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  rw [show step (grid0.coords t) (X0_0 m c t) (X0_1 m c t) (iblk m c 2 t) (iblk m c 3 t) s = stAt m c t.val t.isLt from hs]
  iintro ⟨H0, H1, H2, H3, H4, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  iapply (leaves_out m c t d4)
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 484 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA0_eq]
  unfold held
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-! ## The run -/

set_option backward.isDefEq.respectTransparency.types false in
set_option maxHeartbeats 800000 in
/-- Every run ends with the arrays at what the grid's states make of them, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Fox

end
-- ==== Proof.HeadAt.lean ====
/-
  One head of the kernel read element by element at the extended reals.
-/
module

public import proofs.«01_k».proof.Proof.Head
public import Idealize.ShloMosaic.Lib.Pointwise
public import Idealize.ShloMosaic.Lib.WordCmp

@[expose] public section

set_option maxRecDepth 16384

noncomputable section

namespace Cert.KernelIdeal.Fox

open Idealize.ShloMosaic Idealize.ShloMosaic.TcCoe
open Cert.KernelIdeal Cert.KernelIdeal.Gen
open Idealize.ShloMosaic.WordCmp

/-- The factor from a product of a query and a key to a score in base 2. -/
def scl : ℝ := (11863283 / 134217728) * (Real.log 2)⁻¹
/-- The factor from a natural exponent to one in base 2. -/
def lg : ℝ := (Real.log 2)⁻¹

theorem named_scale : Named.named (F := Ideal) κ "scale" (φ := .f32) 0x3E0293EE#32 = (scl : EReal) :=
  IdealRules.named_const.ideal_named_scalar _ _ _ _ rfl
theorem named_log2e : Named.named (F := Ideal) κ "log2e" (φ := .f32) 0x3FB8AA3B#32 = (lg : EReal) :=
  IdealRules.named_const.ideal_named_scalar _ _ _ _ rfl
theorem named_mask : Named.named (F := Ideal) κ "mask" (φ := .f32) 0xF149F2CA#32 = (⊥ : EReal) :=
  IdealRules.named_const.ideal_named_scalar _ _ _ _ rfl

theorem score_at (x0 x1 : Vec Ideal S1x384x1024 .f32) (x3 : Vec Ideal S1x384x128 .f32) (mask : IVec S384x384 1) (h : Fin 8)
    (j r : Fin 384) :
    score x0 x1 x3 mask h (ix2 j r) = Scalar.select (mask (ix2 j r))
      ((∑ d : Fin 128, x1 (ix3 0 j ⟨128 * h.val + d.val, by omega⟩) * x0 (ix3 0 r ⟨128 * h.val + d.val, by omega⟩)) * (scl : EReal)
        - x3 (ix3 0 j ⟨h.val, by omega⟩) * (lg : EReal)) ⊥ := by
  pointwise [score, k0_pay7, colsOf]
  simp only [named_scale, named_log2e, named_mask]

theorem negInf : Ideal.ofBits .f32 0xFF800000#32 = ⊥ := by simp [Ideal.ofBits, Ideal.ieee]

theorem mNew_at (s : FVec Ideal S384x384 .f32) (M : Vec Ideal S8x1x384 .f32) (h : Fin 8) (r : Fin 384) :
    mNew s M h (ix2 0 r) = max (M (ix3 h 0 r)) ((Finset.univ : Finset (Fin 384)).fold max ⊥ fun j => s (ix2 j r)) := by
  pointwise [mNew, mOld, rowOf]
  rw [show (4286578688#32 : BitVec 32) = 0xFF800000#32 from rfl, negInf]

theorem lNew_at (s : FVec Ideal S384x384 .f32) (M L : Vec Ideal S8x1x384 .f32) (h : Fin 8) (r : Fin 384) :
    lNew s M L h (ix2 0 r) = Ideal.exp2 (M (ix3 h 0 r) - mNew s M h (ix2 0 r)) * L (ix3 h 0 r)
      + ∑ j : Fin 384, Ideal.exp2 (s (ix2 j r) - mNew s M h (ix2 0 r)) := by
  pointwise [lNew, corr, wts, mOld, rowOf]
  rfl

theorem aNew_at (s : FVec Ideal S384x384 .f32) (x2 : Vec Ideal S1x8x128x384 .f32) (M : Vec Ideal S8x1x384 .f32)
    (A : Vec Ideal S8x128x384 .f32) (h : Fin 8) (d : Fin 128) (r : Fin 384) :
    aNew s x2 M A h (ix2 d r) = Ideal.exp2 (M (ix3 h 0 r) - mNew s M h (ix2 0 r)) * A (ix3 h d r)
      + ∑ j : Fin 384, x2 (ix4 0 h d j) * Ideal.exp2 (s (ix2 j r) - mNew s M h (ix2 0 r)) := by
  pointwise [aNew, corr, wts, mOld, rowOf, slabOf, valOf]
  rfl

theorem outHead_at (L : Vec Ideal S8x1x384 .f32) (A : Vec Ideal S8x128x384 .f32) (h : Fin 8) (r : Fin 384) (d : Fin 128) :
    outHead L A h (ix2 r d) = Ideal.div (A (ix3 h d r)) (L (ix3 h 0 r)) := by
  pointwise [outHead, mOld, rowOf, slabOf]

/-- The mask lets a key through when it is no padding and not after the query. -/
theorem mask_at (qi ki : ℕ) (hq : qi < 11) (hk : ki < 11) (j r : Fin 384) :
    k0_pay8 (BitVec.ofNat 32 qi) (BitVec.ofNat 32 ki) (ix2 j r) = 1#1 ↔ 112 ≤ 384 * ki + j.val ∧ 384 * ki + j.val ≤ 384 * qi + r.val := by
  pointwise [k0_pay8, Scalar.muli]
  rw [show IntOp.muli (BitVec.ofNat 32 qi) 384#32 = BitVec.ofNat 32 (qi * 384) from muli_ofNat qi 384,
    show IntOp.muli (BitVec.ofNat 32 ki) 384#32 = BitVec.ofNat 32 (ki * 384) from muli_ofNat ki 384,
    addi_ofNat, addi_ofNat, cmpi_sge_ofNat (by omega) (by omega), cmpi_sge_ofNat (by omega) (by omega), andi_ofBool,
    ofBool_eq_one_iff, Bool.and_eq_true, decide_eq_true_iff, decide_eq_true_iff]
  omega

theorem start_m (y : S8x1x384.Idx) : (k0_pay1 (F := Ideal)) y = ⊥ := by
  pointwise [k0_pay1]
  exact named_mask
theorem start_l (y : S8x1x384.Idx) : (k0_pay2 (F := Ideal)) y = 0 := by
  pointwise [k0_pay2]
theorem start_a (y : S8x128x384.Idx) : (k0_pay3 (F := Ideal)) y = 0 := by
  pointwise [k0_pay3]

end Cert.KernelIdeal.Fox

end
-- ==== Proof.Online.lean ====
/-
  The arithmetic of a softmax taken block by block. A query's keys are numbered 0, 1, 2, …; key `u` has
  weight `w u` (zero when the query does not see it) and value `v u`. The running maximum `m`, denominator
  `l` and numerator `a` after the first `K` keys satisfy `Row w v K m l a`: the sums are the true ones,
  scaled by 2 to the minus the maximum. One block keeps this, and the quotient of the end does not depend
  on the maximum.
-/
module

public import Idealize.ShloMosaic.PureOps.Ideal.Laws
public import Mathlib.Analysis.SpecialFunctions.Pow.Real

@[expose] public section

noncomputable section

namespace Cert.Attn

open Idealize.ShloMosaic

/-- What the running maximum, denominator and numerator are after the first `K` keys. -/
def Row (w v : ℕ → ℝ) (K : ℕ) (m l a : EReal) : Prop :=
  (K = 0 ∧ m = ⊥ ∧ l = 0 ∧ a = 0) ∨
    ∃ M : ℝ, m = (M : EReal) ∧ l = ((2 ^ (-M) * ∑ u ∈ Finset.range K, w u : ℝ) : EReal)
      ∧ a = ((2 ^ (-M) * ∑ u ∈ Finset.range K, w u * v u : ℝ) : EReal)

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A key is either not seen, with score −∞ and weight zero, or its weight is 2 to the score. -/
def Seen (w : ℕ → ℝ) (u : ℕ) (s : EReal) : Prop :=
  (s = ⊥ ∧ w u = 0) ∨ ∃ x : ℝ, s = (x : EReal) ∧ w u = 2 ^ x

theorem exp2_sub {w : ℕ → ℝ} {u : ℕ} {s : EReal} (h : Seen w u s) (M : ℝ) :
    Ideal.exp2 (s - (M : EReal)) = ((2 ^ (-M) * w u : ℝ) : EReal) := by
  rcases h with ⟨rfl, hw⟩ | ⟨x, rfl, hw⟩
  · rw [hw, mul_zero, EReal.bot_sub]; rfl
  · rw [hw, ← EReal.coe_sub, Ideal.exp2_coe]
    show ((2 ^ (x - M) : ℝ) : EReal) = _
    rw [← Real.rpow_add two_pos]; congr 2; ring

/-- The maximum of a block and of what came before is a real number as soon as one of them is. -/
theorem max_real {n : ℕ} {w : ℕ → ℝ} {K : ℕ} {m : EReal} (s : Fin n → EReal) (hs : ∀ j : Fin n, Seen w (K + j) (s j))
    (hm : m ≠ ⊤) (hex : m ≠ ⊥ ∨ ∃ j, s j ≠ ⊥) :
    ∃ M : ℝ, max m ((Finset.univ : Finset (Fin n)).fold max ⊥ s) = (M : EReal) := by
  have hlt : max m ((Finset.univ : Finset (Fin n)).fold max ⊥ s) < ⊤ := by
    refine max_lt (lt_top_iff_ne_top.mpr hm) ((Finset.fold_max_lt _).mpr ⟨bot_lt_top, fun j _ => ?_⟩)
    rcases hs j with ⟨e, _⟩ | ⟨x, e, _⟩ <;> rw [e]
    · exact bot_lt_top
    · exact EReal.coe_lt_top x
  have hgt : ⊥ < max m ((Finset.univ : Finset (Fin n)).fold max ⊥ s) := by
    rcases hex with h | ⟨j, h⟩
    · exact lt_max_of_lt_left (bot_lt_iff_ne_bot.mpr h)
    · exact lt_max_of_lt_right ((Finset.lt_fold_max _).mpr (Or.inr ⟨j, Finset.mem_univ j, bot_lt_iff_ne_bot.mpr h⟩))
  exact ⟨_, (EReal.coe_toReal hlt.ne hgt.ne').symm⟩

theorem sum_block (f : ℕ → ℝ) (K n : ℕ) :
    ∑ u ∈ Finset.range (K + n), f u = ∑ u ∈ Finset.range K, f u + ∑ j : Fin n, f (K + j) := by
  rw [Finset.sum_range_add, Finset.sum_range (fun j => f (K + j))]

/-- One block of `n` keys: the sums move to the new maximum and take the block's weights in. -/
theorem Row.step {n : ℕ} {w v : ℕ → ℝ} {K : ℕ} {m l a : EReal} (h : Row w v K m l a) (s V : Fin n → EReal)
    (hs : ∀ j : Fin n, Seen w (K + j) (s j)) (hV : ∀ j : Fin n, w (K + j) ≠ 0 → V j = (v (K + j) : EReal))
    (h0 : K = 0 → ∃ j, s j ≠ ⊥) (m' : EReal) (hm' : m' = max m ((Finset.univ : Finset (Fin n)).fold max ⊥ s)) :
    Row w v (K + n) m' (Ideal.exp2 (m - m') * l + ∑ j, Ideal.exp2 (s j - m'))
      (Ideal.exp2 (m - m') * a + ∑ j, V j * Ideal.exp2 (s j - m')) := by
  have hm : m ≠ ⊤ := by
    rcases h with ⟨_, e, _⟩ | ⟨M, e, _⟩ <;> rw [e]
    · exact bot_ne_top
    · exact EReal.coe_ne_top M
  have hex : m ≠ ⊥ ∨ ∃ j, s j ≠ ⊥ := by
    rcases h with ⟨e, _⟩ | ⟨M, e, _⟩
    · exact Or.inr (h0 e)
    · exact Or.inl (by rw [e]; exact EReal.coe_ne_bot M)
  obtain ⟨M', hM'⟩ := max_real s hs hm hex
  rw [← hm'] at hM'
  subst hM'
  have hw : ∀ j : Fin n, Ideal.exp2 (s j - (M' : EReal)) = ((2 ^ (-M') * w (K + j) : ℝ) : EReal) := fun j => exp2_sub (hs j) M'
  have hl : ∑ j, Ideal.exp2 (s j - (M' : EReal)) = ((2 ^ (-M') * ∑ j : Fin n, w (K + j) : ℝ) : EReal) := by
    rw [Finset.mul_sum, coe_sum]; exact Finset.sum_congr rfl fun j _ => hw j
  have ha : ∑ j, V j * Ideal.exp2 (s j - (M' : EReal)) = ((2 ^ (-M') * ∑ j : Fin n, w (K + j) * v (K + j) : ℝ) : EReal) := by
    rw [Finset.mul_sum, coe_sum]
    refine Finset.sum_congr rfl fun j _ => ?_
    rw [hw j]
    by_cases hz : w (K + j) = 0
    · simp [hz]
    · rw [hV j hz, ← EReal.coe_mul]; congr 1; ring
  refine Or.inr ⟨M', rfl, ?_, ?_⟩
  · rw [hl, sum_block]
    rcases h with ⟨rfl, rfl, rfl, _⟩ | ⟨M, rfl, rfl, _⟩
    · simp
    · rw [← EReal.coe_sub, Ideal.exp2_coe]
      show ((2 ^ (M - M') : ℝ) : EReal) * _ + _ = _
      rw [← EReal.coe_mul, ← EReal.coe_add, ← mul_assoc, ← Real.rpow_add two_pos, mul_add]
      congr 4; ring
  · rw [ha, sum_block]
    rcases h with ⟨rfl, rfl, _, rfl⟩ | ⟨M, rfl, _, rfl⟩
    · simp
    · rw [← EReal.coe_sub, Ideal.exp2_coe]
      show ((2 ^ (M - M') : ℝ) : EReal) * _ + _ = _
      rw [← EReal.coe_mul, ← EReal.coe_add, ← mul_assoc, ← Real.rpow_add two_pos, mul_add]
      congr 4; ring

/-- Keys of weight zero add nothing. -/
theorem sum_tail (f : ℕ → ℝ) {K N : ℕ} (hK : K ≤ N) (hz : ∀ u, K ≤ u → f u = 0) :
    ∑ u ∈ Finset.range K, f u = ∑ u ∈ Finset.range N, f u := by
  refine Finset.sum_subset (Finset.range_mono hK) fun u _ hu => hz u ?_
  simpa using hu

theorem div_coe (x y : ℝ) (hy : y ≠ 0) : Ideal.div (x : EReal) (y : EReal) = ((x / y : ℝ) : EReal) := by
  unfold Ideal.div
  rw [if_neg (by simpa using hy), ← EReal.coe_inv, ← EReal.coe_mul, div_eq_mul_inv]

/-- The quotient at the end is the weighted mean of the values. -/
theorem Row.quotient {w v : ℕ → ℝ} {K N : ℕ} {m l a : EReal} (h : Row w v K m l a) (hK : K ≠ 0) (hN : K ≤ N)
    (hz : ∀ u, K ≤ u → w u = 0) (hpos : 0 < ∑ u ∈ Finset.range N, w u) :
    Ideal.div a l = (((∑ u ∈ Finset.range N, w u * v u) / ∑ u ∈ Finset.range N, w u : ℝ) : EReal) := by
  rcases h with ⟨e, _⟩ | ⟨M, _, rfl, rfl⟩
  · exact absurd e hK
  · have hp : (0 : ℝ) < 2 ^ (-M) := Real.rpow_pos_of_pos two_pos _
    rw [sum_tail w hN hz, sum_tail (fun u => w u * v u) hN (fun u hu => by simp [hz u hu]),
      div_coe _ _ (mul_pos hp hpos).ne', mul_div_mul_left _ _ hp.ne']

end Cert.Attn

end
-- ==== Proof.Attn.lean ====
/-
  The prompt attention in plain real arithmetic. `Z` holds, for each of 4 sequences and 4224 positions,
  the queries (columns 0 … 1023), keys (1024 … 2047) and values (2048 … 3071) of 8 heads of 128 columns;
  `C` holds the summed log gates of the heads. The first 112 positions are padding.
-/
module

public import proofs.«01_k».proof.Proof.Online
public import Idealize.ShloMosaic.Lib.Pointwise

@[expose] public section

noncomputable section

namespace Cert.Attn

open Idealize.ShloMosaic

abbrev ZIdx : Type := (⟨3, ![4, 4224, 3200]⟩ : Shape).Idx
abbrev CIdx : Type := (⟨3, ![4, 4224, 128]⟩ : Shape).Idx

/-- The real number an array holds at three natural coordinates. -/
def atN {n0 n1 n2 : ℕ} (X : (⟨3, ![n0, n1, n2]⟩ : Shape).Idx → EReal) (b p j : ℕ) : ℝ :=
  if h : b < n0 ∧ p < n1 ∧ j < n2 then (X (ix3 ⟨b, h.1⟩ ⟨p, h.2.1⟩ ⟨j, h.2.2⟩)).toReal else 0

theorem coe_atN {n0 n1 n2 : ℕ} (X : (⟨3, ![n0, n1, n2]⟩ : Shape).Idx → EReal) (b : Fin n0) (p : Fin n1) (j : Fin n2)
    (h : X (ix3 b p j) ≠ ⊤ ∧ X (ix3 b p j) ≠ ⊥) : X (ix3 b p j) = (atN X b p j : EReal) := by
  unfold atN
  rw [dif_pos ⟨b.isLt, p.isLt, j.isLt⟩]
  exact (EReal.coe_toReal h.1 h.2).symm

/-- The entries the attention uses are real numbers. -/
structure Real3 (Z : ZIdx → EReal) (C : CIdx → EReal) : Prop where
  z : ∀ (b : Fin 4) (p : Fin 4224) (j : Fin 3200), 112 ≤ p.val → j.val < 3072 → Z (ix3 b p j) ≠ ⊤ ∧ Z (ix3 b p j) ≠ ⊥
  c : ∀ (b : Fin 4) (p : Fin 4224) (j : Fin 128), 112 ≤ p.val → j.val < 8 → C (ix3 b p j) ≠ ⊤ ∧ C (ix3 b p j) ≠ ⊥

variable (Z : ZIdx → EReal) (C : CIdx → EReal)

/-- Key `u` against query `p`, in head `h` of sequence `b`. -/
def prod (b h p u : ℕ) : ℝ := ∑ d : Fin 128, atN Z b u (1024 + (128 * h + d)) * atN Z b p (128 * h + d)

/-- The exponent of key `u` for query `p`, less what does not depend on the key. -/
def logit (b h p u : ℕ) : ℝ := prod Z b h p u * (11863283 / 134217728) - atN C b u h

/-- The weight of key `u` for query `p`: nothing for padding and for keys after the query. -/
def weight (b h p u : ℕ) : ℝ := if 112 ≤ u ∧ u ≤ p then Real.exp (logit Z C b h p u) else 0

/-- Column `d` of the value of key `u`. -/
def value (b h d u : ℕ) : ℝ := atN Z b u (2048 + (128 * h + d))

/-- The attention: the mean of the values under the weights. -/
def attn (b h p d : ℕ) : ℝ :=
  (∑ u ∈ Finset.range 4224, weight Z C b h p u * value Z b h d u) / ∑ u ∈ Finset.range 4224, weight Z C b h p u

theorem weight_nonneg (b h p u : ℕ) : 0 ≤ weight Z C b h p u := by
  unfold weight; split
  · exact (Real.exp_pos _).le
  · exact le_rfl

theorem weight_pos (b h p u : ℕ) (hu : 112 ≤ u ∧ u ≤ p) : 0 < weight Z C b h p u := by
  unfold weight; rw [if_pos hu]; exact Real.exp_pos _

theorem weight_zero (b h p u : ℕ) (hu : ¬ (112 ≤ u ∧ u ≤ p)) : weight Z C b h p u = 0 := if_neg hu

theorem total_pos (b h p : ℕ) (hp : 112 ≤ p) : 0 < ∑ u ∈ Finset.range 4224, weight Z C b h p u :=
  Finset.sum_pos' (fun u _ => weight_nonneg Z C b h p u) ⟨112, Finset.mem_range.mpr (by omega), weight_pos Z C b h p 112 ⟨le_rfl, hp⟩⟩

/-- In base 2 the exponent is divided by the logarithm of 2. -/
theorem two_rpow (x : ℝ) : (2 : ℝ) ^ (x * (Real.log 2)⁻¹) = Real.exp x := by
  rw [Real.rpow_def_of_pos two_pos]
  congr 1
  have : Real.log 2 ≠ 0 := (Real.log_pos one_lt_two).ne'
  field_simp

end Cert.Attn

end
-- ==== Proof.HeadRow.lean ====
/-
  One grid point of the kernel keeps the running sums of every query row: after the key blocks 0 … k the
  three running arrays hold the maximum, denominator and numerator of the attention over the first
  384 (k + 1) keys.
-/
module

public import proofs.«01_k».proof.Proof.HeadAt
public import proofs.«01_k».proof.Proof.UpdRun
public import proofs.«01_k».proof.Proof.Attn

@[expose] public section

set_option maxRecDepth 16384

noncomputable section

namespace Cert.KernelIdeal.Fox

open Idealize.ShloMosaic Idealize.ShloMosaic.TcCoe
open Cert.KernelIdeal Cert.KernelIdeal.Gen
open Cert.Attn

/-! ## The stored arrays at an element -/

section
variable (i : grid0.Coords) (x0 x1 : Vec Ideal S1x384x1024 .f32) (x2 : Vec Ideal S1x8x128x384 .f32) (x3 : Vec Ideal S1x384x128 .f32)
  (M L : Vec Ideal S8x1x384 .f32) (A : Vec Ideal S8x128x384 .f32)

/-- The mask of a grid point. -/
abbrev maskOf : IVec S384x384 1 := k0_pay8 (BitVec.ofNat 32 (i 1).val) (BitVec.ofNat 32 (i 2).val)

theorem newM_at (h : Fin 8) (r : Fin 384) :
    newM i x0 x1 x3 M (ix3 h 0 r) = mNew (score x0 x1 x3 (maskOf i) h) M h (ix2 0 r) := by
  show mPiece x0 x1 x3 (maskOf i) M h (ix3 0 0 r) = _
  pointwise [mPiece]

theorem newL_at (h : Fin 8) (r : Fin 384) :
    newL i x0 x1 x3 M L (ix3 h 0 r) = lNew (score x0 x1 x3 (maskOf i) h) M L h (ix2 0 r) := by
  show lPiece x0 x1 x3 (maskOf i) M L h (ix3 0 0 r) = _
  pointwise [lPiece]

theorem newA_at (h : Fin 8) (d : Fin 128) (r : Fin 384) :
    newA i x0 x1 x2 x3 M A (ix3 h d r) = aNew (score x0 x1 x3 (maskOf i) h) x2 M A h (ix2 d r) := by
  show aPiece x0 x1 x2 x3 (maskOf i) M A h (ix3 0 d r) = _
  pointwise [aPiece]

theorem outBlock_at (h : Fin 8) (r : Fin 384) (d : Fin 128) :
    outBlock L A (ix3 0 r ⟨128 * h.val + d.val, by omega⟩) = Ideal.div (A (ix3 h d r)) (L (ix3 h 0 r)) := by
  have hk : (⟨(128 * h.val + d.val) / 128, Nat.div_lt_of_lt_mul (by omega)⟩ : Fin 8) = h := Fin.ext (by show (128 * h.val + d.val) / 128 = h.val; omega)
  have hd : (⟨(128 * h.val + d.val) % 128, Nat.mod_lt _ (by decide)⟩ : Fin 128) = d := Fin.ext (by show (128 * h.val + d.val) % 128 = d.val; omega)
  show oPiece L A (⟨(128 * h.val + d.val) / 128, Nat.div_lt_of_lt_mul (by omega)⟩ : Fin 8)
    (ix3 0 r (⟨(128 * h.val + d.val) % 128, Nat.mod_lt _ (by decide)⟩ : Fin 128)) = _
  rw [hk, hd, ← outHead_at]
  pointwise [oPiece]
end

/-! ## One block against the arrays -/

variable (Z : ZIdx → EReal) (C : CIdx → EReal)

/-- The four input blocks of a grid point are the parts of the arrays they are cut from: the queries of block `qi`, and the keys,
    values and gate sums of block `ki`, all of sequence `b`. -/
structure Blocks (b : Fin 4) (qi ki : ℕ) (hq : qi < 11) (hk : ki ≤ qi) (x0 x1 : Vec Ideal S1x384x1024 .f32) (x2 : Vec Ideal S1x8x128x384 .f32)
    (x3 : Vec Ideal S1x384x128 .f32) : Prop where
  q : ∀ (r : Fin 384) (j : Fin 1024), x0 (ix3 0 r j) = Z (ix3 b ⟨384 * qi + r.val, by omega⟩ ⟨j.val, by omega⟩)
  k : ∀ (r : Fin 384) (j : Fin 1024), x1 (ix3 0 r j) = Z (ix3 b ⟨384 * ki + r.val, by omega⟩ ⟨1024 + j.val, by omega⟩)
  v : ∀ (h : Fin 8) (d : Fin 128) (r : Fin 384),
    x2 (ix4 0 h d r) = Z (ix3 b ⟨384 * ki + r.val, by omega⟩ ⟨2048 + (128 * h.val + d.val), by omega⟩)
  c : ∀ (r : Fin 384) (j : Fin 128), x3 (ix3 0 r j) = C (ix3 b ⟨384 * ki + r.val, by omega⟩ j)

variable {Z C} {b : Fin 4} {qi ki : ℕ} {hq : qi < 11} {hk : ki ≤ qi} {x0 x1 : Vec Ideal S1x384x1024 .f32} {x2 : Vec Ideal S1x8x128x384 .f32}
  {x3 : Vec Ideal S1x384x128 .f32}

/-- A score of the block is the key's exponent in base 2, or −∞ for a key the query does not see. -/
theorem score_seen (hR : Real3 Z C) (B : Blocks Z C b qi ki hq hk x0 x1 x2 x3) (h : Fin 8) (r : Fin 384) (hp : 112 ≤ 384 * qi + r.val) (j : Fin 384) :
    Seen (weight Z C b h (384 * qi + r.val)) (384 * ki + j.val)
      (score x0 x1 x3 (k0_pay8 (BitVec.ofNat 32 qi) (BitVec.ofNat 32 ki)) h (ix2 j r)) := by
  rw [score_at]
  by_cases hm : 112 ≤ 384 * ki + j.val ∧ 384 * ki + j.val ≤ 384 * qi + r.val
  · refine Or.inr ⟨logit Z C b h (384 * qi + r.val) (384 * ki + j.val) * (Real.log 2)⁻¹, ?_, ?_⟩
    · rw [(mask_at qi ki hq (by omega) j r).mpr hm, Idealize.ShloMosaic.WordCmp.select_one]
      have hd : ∀ d : Fin 128, x1 (ix3 0 j ⟨128 * h.val + d.val, by omega⟩) * x0 (ix3 0 r ⟨128 * h.val + d.val, by omega⟩)
          = ((atN Z b (384 * ki + j.val) (1024 + (128 * h.val + d.val)) * atN Z b (384 * qi + r.val) (128 * h.val + d.val) : ℝ) : EReal) := by
        intro d
        rw [B.k, B.q, coe_atN Z _ _ _ (hR.z _ _ _ hm.1 (by show 1024 + (128 * h.val + d.val) < 3072; omega)),
          coe_atN Z _ _ _ (hR.z _ _ _ hp (by show 128 * h.val + d.val < 3072; omega)), ← EReal.coe_mul]
      rw [Finset.sum_congr rfl fun d _ => hd d, ← coe_sum, B.c,
        coe_atN C _ _ _ (hR.c _ _ _ hm.1 (by show h.val < 8; omega)), ← EReal.coe_mul, ← EReal.coe_mul, ← EReal.coe_sub]
      congr 1
      unfold logit prod scl lg
      ring
    · rw [two_rpow]; exact if_pos hm
  · refine Or.inl ⟨?_, weight_zero Z C b h _ _ hm⟩
    have : k0_pay8 (BitVec.ofNat 32 qi) (BitVec.ofNat 32 ki) (ix2 j r) ≠ 1#1 := fun e => hm ((mask_at qi ki hq (by omega) j r).mp e)
    exact if_neg this

/-- What the three running arrays hold after the first `K` keys, at the query rows that are no padding. -/
def RowSt (Z : ZIdx → EReal) (C : CIdx → EReal) (b : Fin 4) (qi K : ℕ) (M L : Vec Ideal S8x1x384 .f32) (A : Vec Ideal S8x128x384 .f32) : Prop :=
  ∀ (h : Fin 8) (r : Fin 384) (d : Fin 128), 112 ≤ 384 * qi + r.val →
    Row (weight Z C b h (384 * qi + r.val)) (value Z b h d) K (M (ix3 h 0 r)) (L (ix3 h 0 r)) (A (ix3 h d r))

theorem RowSt.start : RowSt Z C b qi 0 (k0_pay1 (F := Ideal)) (k0_pay2 (F := Ideal)) (k0_pay3 (F := Ideal)) :=
  fun _ _ _ _ => Or.inl ⟨rfl, start_m _, start_l _, start_a _⟩

/-- A grid point takes its 384 keys in. -/
theorem RowSt.step (hR : Real3 Z C) (B : Blocks Z C b qi ki hq hk x0 x1 x2 x3) (i : grid0.Coords) (h1 : (i 1).val = qi) (h2 : (i 2).val = ki)
    {M L : Vec Ideal S8x1x384 .f32} {A : Vec Ideal S8x128x384 .f32} (H : RowSt Z C b qi (384 * ki) M L A) :
    RowSt Z C b qi (384 * (ki + 1)) (newM i x0 x1 x3 M) (newL i x0 x1 x3 M L) (newA i x0 x1 x2 x3 M A) := by
  intro h r d hp
  rw [newM_at, newL_at, newA_at, lNew_at, aNew_at]
  unfold maskOf
  rw [h1, h2]
  refine Row.step (H h r d hp) (fun j => score x0 x1 x3 (k0_pay8 (BitVec.ofNat 32 qi) (BitVec.ofNat 32 ki)) h (ix2 j r)) (fun j => x2 (ix4 0 h d j))
    (fun j => score_seen hR B h r hp j) (fun j hw => ?_) (fun h0 => ⟨112, ?_⟩) _ (mNew_at _ M h r)
  · have hm : 112 ≤ 384 * ki + j.val := by
      by_contra hc
      exact hw (weight_zero Z C b h _ _ (fun e => hc e.1))
    show x2 (ix4 0 h d j) = _
    rw [B.v, coe_atN Z _ _ _ (hR.z _ _ _ hm (by show 2048 + (128 * h.val + d.val) < 3072; omega))]
    rfl
  · have h0' : ki = 0 := by omega
    have hs := score_seen hR B h r hp (112 : Fin 384)
    rcases hs with ⟨_, e⟩ | ⟨x, e, _⟩
    · have hpos := weight_pos Z C b h (384 * qi + r.val) (384 * ki + ((112 : Fin 384) : ℕ)) ⟨by show 112 ≤ 384 * ki + 112; omega, by show 384 * ki + 112 ≤ _; omega⟩
      exact absurd e hpos.ne'
    · show score x0 x1 x3 _ h (ix2 112 r) ≠ ⊥
      rw [e]; exact EReal.coe_ne_bot x

/-- After its last block of keys a block of queries is finished to the attention. -/
theorem RowSt.finish {M L : Vec Ideal S8x1x384 .f32} {A : Vec Ideal S8x128x384 .f32} (hq : qi < 11) (H : RowSt Z C b qi (384 * (qi + 1)) M L A)
    (h : Fin 8) (r : Fin 384) (d : Fin 128) (hp : 112 ≤ 384 * qi + r.val) :
    outBlock L A (ix3 0 r ⟨128 * h.val + d.val, by omega⟩) = (attn Z C b h (384 * qi + r.val) d : EReal) := by
  rw [outBlock_at]
  exact Row.quotient (H h r d hp) (by omega) (by omega) (fun u hu => weight_zero Z C b h _ _ (by omega)) (total_pos Z C b h _ hp)

end Cert.KernelIdeal.Fox

end
-- ==== Proof.BlockAt.lean ====
/-
  What the four input windows hold at a grid point (b, qi, ki) with ki ≤ qi: the query block qi and the key
  block ki of the first array, the value block ki of the transposed array, and the block ki of the decays.
-/
module

public import proofs.«01_k».proof.Proof.Run
public import proofs.«01_k».proof.Proof.HeadRow
public import Idealize.ShloMosaic.Lib.Pipeline.ValueKit
public import Idealize.ShloMosaic.Lib.Pointwise

@[expose] public section

set_option maxRecDepth 16384

noncomputable section

namespace Cert.KernelIdeal.Fox

open Idealize.ShloMosaic Idealize.ShloMosaic.TcCoe
open Cert.KernelIdeal Cert.KernelIdeal.Gen
open Cert.Attn

variable (m : (ℓ : Loc nD τ sig) → Buf (Elt Ideal) ℓ)

/-! ## The blocks' places -/

theorem place_0 : ∀ t : Fin cfg0.N, win0_0.index t = ![t.val / 121 % 4, t.val / 11 % 11, 0] :=
  (by decide +kernel : ∀ t : Fin grid0.N, win0_0.index t = ![t.val / 121 % 4, t.val / 11 % 11, 0])

theorem place_1 : ∀ t : Fin cfg0.N, win0_1.index t = ![t.val / 121 % 4, min (t.val % 11) (t.val / 11 % 11), 1] :=
  (by decide +kernel : ∀ t : Fin grid0.N, win0_1.index t = ![t.val / 121 % 4, min (t.val % 11) (t.val / 11 % 11), 1])

theorem place_2 : ∀ t : Fin cfg0.N, win0_2.index t = ![t.val / 121 % 4, 0, 0, min (t.val % 11) (t.val / 11 % 11)] :=
  (by decide +kernel : ∀ t : Fin grid0.N, win0_2.index t = ![t.val / 121 % 4, 0, 0, min (t.val % 11) (t.val / 11 % 11)])

theorem place_3 : ∀ t : Fin cfg0.N, win0_3.index t = ![t.val / 121 % 4, min (t.val % 11) (t.val / 11 % 11), 0] :=
  (by decide +kernel : ∀ t : Fin grid0.N, win0_3.index t = ![t.val / 121 % 4, min (t.val % 11) (t.val / 11 % 11), 0])

theorem place_4 : ∀ t : Fin cfg0.N, win0_4.index t = ![t.val / 121 % 4, t.val / 11 % 11, 0] :=
  (by decide +kernel : ∀ t : Fin grid0.N, win0_4.index t = ![t.val / 121 % 4, t.val / 11 % 11, 0])

/-! ## The arrays -/

/-- The transposed values at an element. -/
theorem values_at (c : Dev nD) (b : Fin 4) (h : Fin 8) (d : Fin 128) (p : Fin 4224) :
    V m c main_v2 (ix4 b h d p) = m (c.tc.loc main_arg0) (ix3 b p ⟨2048 + (128 * h.val + d.val), by omega⟩) := by
  unfold_abbrev_sides
  simp only [List.flatten_cons, List.flatten_nil, List.append_nil]
  unfold_abbrev_sides
  after_results
  pointwise
  congr 1
  funext a
  apply Fin.ext
  match a with
  | ⟨0, _⟩ => rfl
  | ⟨1, _⟩ => rfl
  | ⟨2, _⟩ => simp; omega

theorem queries_at (c : Dev nD) (t : Fin cfg0.N) (r : Fin 384) (j : Fin 1024) :
    X0_0 m c t (ix3 0 r j) = m (c.tc.loc main_arg0)
      (ix3 ⟨t.val / 121 % 4, by omega⟩ ⟨384 * (t.val / 11 % 11) + r.val, by omega⟩ ⟨j.val, by omega⟩) := by
  unfold X0_0 Pipeline.Window.fill
  rw [dif_pos (moved0_0 t _)]
  blk_ext [iblk, V, place_0 t]

theorem keys_at (c : Dev nD) (t : Fin cfg0.N) (r : Fin 384) (j : Fin 1024) :
    X0_1 m c t (ix3 0 r j) = m (c.tc.loc main_arg0)
      (ix3 ⟨t.val / 121 % 4, by omega⟩ ⟨384 * min (t.val % 11) (t.val / 11 % 11) + r.val, by omega⟩ ⟨1024 + j.val, by omega⟩) := by
  unfold X0_1 Pipeline.Window.fill
  rw [dif_pos (moved0_1 t _)]
  blk_ext [iblk, V, place_1 t]

theorem decays_at (c : Dev nD) (t : Fin cfg0.N) (r : Fin 384) (j : Fin 128) :
    iblk m c 3 t (ix3 0 r j) = m (c.tc.loc main_arg1)
      (ix3 ⟨t.val / 121 % 4, by omega⟩ ⟨384 * min (t.val % 11) (t.val / 11 % 11) + r.val, by omega⟩ j) := by
  blk_ext [iblk, V, place_3 t]

theorem valueBlock_at (c : Dev nD) (t : Fin cfg0.N) (h : Fin 8) (d : Fin 128) (r : Fin 384) :
    iblk m c 2 t (ix4 0 h d r) = V m c main_v2
      (ix4 ⟨t.val / 121 % 4, by omega⟩ h d ⟨384 * min (t.val % 11) (t.val / 11 % 11) + r.val, by omega⟩) := by
  blk_ext [iblk, place_2 t]

end Cert.KernelIdeal.Fox

end
-- ==== Proof.Array.lean ====
/-
  The array the launch leaves: after the last key block a query row sees, the running sums finish to its
  attention; the pipeline writes the finished block back, and the padding in front is cut off.
-/
module

public import proofs.«01_k».proof.Proof.BlockAt
public import Idealize.ShloMosaic.Lib.Pipeline.ValueKit
public import Idealize.ShloMosaic.Lib.Pipeline.Covers

@[expose] public section

set_option maxRecDepth 16384

noncomputable section

namespace Cert.KernelIdeal.Fox

open Idealize.ShloMosaic Idealize.ShloMosaic.TcCoe Idealize.SL.Sem
open Idealize.ShloMosaic.Pipeline (Dat Cfg Window)
open Cert.KernelIdeal Cert.KernelIdeal.Gen
open Cert.Attn

variable (m : (ℓ : Loc nD τ sig) → Buf (Elt Ideal) ℓ) (ρ : Dev nD → PrngReg)

/-- The two arrays as launched. -/
abbrev arrZ (c : Dev nD) : ZIdx → EReal := m (c.tc.loc main_arg0)
abbrev arrC (c : Dev nD) : CIdx → EReal := m (c.tc.loc main_arg1)

/-- The batch of a grid point. -/
abbrev batch (n : ℕ) : Fin 4 := ⟨n / 121 % 4, by omega⟩

theorem blocks (c : Dev nD) (t : Fin cfg0.N) (hk : t.val % 11 ≤ t.val / 11 % 11) :
    Blocks (arrZ m c) (arrC m c) (batch t.val) (t.val / 11 % 11) (t.val % 11) (by omega) hk
      (X0_0 m c t) (X0_1 m c t) (iblk m c 2 t) (iblk m c 3 t) where
  q r j := queries_at m c t r j
  k r j := by rw [keys_at]; simp only [min_eq_left hk]
  v h d r := by rw [valueBlock_at, values_at]; simp only [min_eq_left hk]
  c r j := by rw [decays_at]; simp only [min_eq_left hk]

/-- One grid point extends the rows by its key block. -/
theorem stepAt_row (c : Dev nD) (hR : Real3 (arrZ m c) (arrC m c)) (t : Fin cfg0.N) (hk : t.val % 11 ≤ t.val / 11 % 11) (s : St Ideal)
    (H : t.val % 11 ≠ 0 → RowSt (arrZ m c) (arrC m c) (batch t.val) (t.val / 11 % 11) (384 * (t.val % 11)) s.1 s.2.1 s.2.2) :
    RowSt (arrZ m c) (arrC m c) (batch t.val) (t.val / 11 % 11) (384 * (t.val % 11 + 1))
      (stepAt m c t s).1 (stepAt m c t s).2.1 (stepAt m c t s).2.2 := by
  have ho : RowSt (arrZ m c) (arrC m c) (batch t.val) (t.val / 11 % 11) (384 * (t.val % 11))
      (opened (grid0.coords t) s).1 (opened (grid0.coords t) s).2.1 (opened (grid0.coords t) s).2.2 := by
    unfold opened
    by_cases h0 : t.val % 11 = 0
    · rw [if_pos ((opens_iff t).mpr h0), h0]
      exact RowSt.start
    · rw [if_neg fun h => h0 ((opens_iff t).mp h)]
      exact H h0
  unfold stepAt step
  rw [if_pos ((uses_iff t).mpr hk)]
  exact RowSt.step hR (blocks m c t hk) (grid0.coords t) (coords_1 t) (coords_2 t) ho

/-- The rows after a grid point whose key block is seen. -/
theorem stAt_row (c : Dev nD) (hR : Real3 (arrZ m c) (arrC m c)) (n : ℕ) : ∀ t : Fin cfg0.N, t.val = n → t.val % 11 ≤ t.val / 11 % 11 →
    RowSt (arrZ m c) (arrC m c) (batch t.val) (t.val / 11 % 11) (384 * (t.val % 11 + 1))
      (stAt m c t.val t.isLt).1 (stAt m c t.val t.isLt).2.1 (stAt m c t.val t.isLt).2.2 := by
  induction n with
  | zero =>
    intro t ht hk
    rw [← stAt_zero m c t ht (k0_pay1 (F := Ideal), k0_pay2 (F := Ideal), k0_pay3 (F := Ideal))]
    exact stepAt_row m c hR t hk _ fun h => absurd (by omega) h
  | succ n ih =>
    intro t ht hk
    rw [← stAt_pos m c t (by omega)]
    refine stepAt_row m c hR t hk _ fun h0 => ?_
    have e1 : (t.val - 1) / 11 = t.val / 11 := by omega
    have e2 : (t.val - 1) % 11 + 1 = t.val % 11 := by omega
    have e3 : (t.val - 1) / 121 = t.val / 121 := by omega
    have h := ih ⟨t.val - 1, by omega⟩ (by show t.val - 1 = n; omega) (by show (t.val - 1) % 11 ≤ (t.val - 1) / 11 % 11; omega)
    dsimp only at h
    simp only [batch, e1, e2, e3] at h
    exact h

/-- The finished block of a grid point's row. -/
theorem rowBlock_at (c : Dev nD) (hR : Real3 (arrZ m c) (arrC m c)) (t : Fin cfg0.N) (h : Fin 8) (r : Fin 384) (d : Fin 128)
    (hp : 112 ≤ 384 * (t.val / 11 % 11) + r.val) :
    rowBlock m c t (ix3 0 r ⟨128 * h.val + d.val, by omega⟩)
      = ((attn (arrZ m c) (arrC m c) (batch t.val) h (384 * (t.val / 11 % 11) + r.val) d : ℝ) : EReal) := by
  have e1 := emitPt_div t
  have e2 := emitPt_mod t
  have hs := stAt_row m c hR _ (emitPt t) rfl (by omega)
  have eb : (emitPt t).val / 121 = t.val / 121 := by omega
  rw [e2, e1] at hs
  simp only [batch, eb] at hs
  exact RowSt.finish (ki := 0) (by omega) hs h r d hp

theorem rowBlock_idx (c : Dev nD) (hR : Real3 (arrZ m c) (arrC m c)) (t : Fin cfg0.N) (y : S1x384x1024.Idx)
    (hp : 112 ≤ 384 * (t.val / 11 % 11) + (y 1).val) :
    rowBlock m c t y = ((attn (arrZ m c) (arrC m c) (t.val / 121 % 4) ((y 2).val / 128) (384 * (t.val / 11 % 11) + (y 1).val) ((y 2).val % 128) : ℝ) : EReal) := by
  have h0 : (y 0).val < 1 := (y 0).isLt
  have h2 : (y 2).val < 1024 := (y 2).isLt
  have e : y = ix3 0 (y 1) ⟨128 * ((y 2).val / 128) + (y 2).val % 128, by omega⟩ := by
    funext a
    match a with
    | ⟨0, _⟩ => exact Fin.ext (by show (y 0).val = 0; omega)
    | ⟨1, _⟩ => rfl
    | ⟨2, _⟩ => exact Fin.ext (by show (y 2).val = 128 * ((y 2).val / 128) + (y 2).val % 128; omega)
  exact (congrArg (rowBlock m c t) e).trans
    (rowBlock_at m c hR t ⟨(y 2).val / 128, by omega⟩ (y 1) ⟨(y 2).val % 128, by omega⟩ hp)

/-! ## The launch's array and the result -/

/-- The attention of the row an index names. -/
def attnAt (Z : ZIdx → EReal) (C : CIdx → EReal) (i : (⟨3, ![4, 4224, 1024]⟩ : Shape).Idx) : EReal :=
  ((attn Z C (i 0).val ((i 2).val / 128) (i 1).val ((i 2).val % 128) : ℝ) : EReal)

theorem mid_place (a b n : ℕ) : (![a, b, 0] : Fin 3 → ℕ) 1 * 384 + n = 384 * b + n := by simp [mul_comm]

theorem last_place (a b n : ℕ) : (![a, b, 0] : Fin 3 → ℕ) 2 * 1024 + n = n := by simp

theorem launch_at (c : Dev nD) (hR : Real3 (arrZ m c) (arrC m c)) (i : (⟨3, ![4, 4224, 1024]⟩ : Shape).Idx) (hi : 112 ≤ (i 1).val) :
    (dats m 0 c).arrAt 4 cfg0.N i = attnAt (arrZ m c) (arrC m c) i := by
  revert hi
  refine (dats m 0 c).arrAt_forall_of_covers 4
    (fun (j : (⟨3, ![4, 4224, 1024]⟩ : Shape).Idx) (v : EReal) => 112 ≤ (j 1).val → v = attnAt (arrZ m c) (arrC m c) j) (by decide +kernel) (fun t hf y => ?_) i
  blk_simp
  rw [after0_4]
  intro hp
  rw [place_4 t] at hp
  unfold attnAt
  blk_simp
  rw [place_4 t]
  rw [mid_place] at hp
  rw [mid_place, last_place]
  exact rowBlock_idx m c hR t y hp

/-- The result: the attention of the rows past the padding. -/
def outAt (Z : ZIdx → EReal) (C : CIdx → EReal) (i : (⟨3, ![4, 4112, 1024]⟩ : Shape).Idx) : EReal :=
  attnAt Z C (ix3 (i 0) ⟨112 + (i 1).val, by have : (i 1).val < 4112 := (i 1).isLt; omega⟩ (i 2))

/-- The program's result at an element. -/
theorem tail_at (c : Dev nD) (hR : Real3 (arrZ m c) (arrC m c)) (b : Fin 4) (p : Fin 4112) (j : Fin 1024) :
    Pipeline.afterTail₀ cfgs (dats m) 0 (V0 m) [hostOps1] c main_v4 (ix3 b p j)
      = attnAt (arrZ m c) (arrC m c) (ix3 b ⟨112 + p.val, by omega⟩ j) := by
  have hw : Pipeline.withArrays (cfgs 0).spec c (V0 m c) (fun w => (dats m 0 c).arrAt w (cfgs 0).N) (Proc.devRef .tc main_v3)
      = (dats m 0 c).arrAt 4 cfg0.N := (dats m 0 c).withArrays_arrAt sharedIn0 (V0 m c) (A_eq m c) 4
  unfold Pipeline.afterTail₀
  change StableHlo.after hostOps1 _ (Proc.devRef .tc main_v4) (ix3 b p j) = _
  after_results
  rw [hw]
  pointwise
  exact launch_at m c hR (ix3 b ⟨112 + p.val, by omega⟩ j) (by show 112 ≤ 112 + p.val; omega)

theorem tail_eq (c : Dev nD) (hR : Real3 (arrZ m c) (arrC m c)) :
    Pipeline.afterTail₀ cfgs (dats m) 0 (V0 m) [hostOps1] c main_v4 = outAt (arrZ m c) (arrC m c) := by
  funext i
  have e : i = ix3 (i 0) (i 1) (i 2) := by
    funext a
    match a with
    | ⟨0, _⟩ => rfl
    | ⟨1, _⟩ => rfl
    | ⟨2, _⟩ => rfl
  exact (congrArg (Pipeline.afterTail₀ cfgs (dats m) 0 (V0 m) [hostOps1] c main_v4) e).trans (tail_at m c hR (i 0) (i 1) (i 2))

/-- Every run ends with the result at the attention, the arguments unchanged. -/
theorem value (hR : ∀ c, Real3 (arrZ m c) (arrC m c)) :
    θ_run defs (onTc (τ := τ) (main (F := Ideal))) ⟨m, fun _ => 0, ρ⟩ (fun r => ∀ c : Dev nD,
      r.2.mem ((c.tc : Thread nD τ).loc main_v4) = outAt (arrZ m c) (arrC m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1.1 c).2 main_v4 (by decide)).trans (tail_eq m c (hR c)), h.2.1 c⟩)
    (θ_run_and (run_main m ρ) (frame m ρ))

end Cert.KernelIdeal.Fox

end
-- ==== Proof.RefMath.lean ====
/-
  The softmax of a row of scores against the quotient of weighted sums: subtracting one real number from every
  score scales all the weights alike, so it cancels.
-/
module

public import proofs.«01_k».proof.Proof.Online

@[expose] public section

noncomputable section

namespace Cert.Attn

open Idealize.ShloMosaic

/-- A key is either not seen, with score −∞ and weight zero, or its weight is e to the score less a part `g` common to all keys. -/
def SeenExp (w : ℕ → ℝ) (g : ℝ) (u : ℕ) (s : EReal) : Prop :=
  (s = ⊥ ∧ w u = 0) ∨ ∃ x : ℝ, s = (x : EReal) ∧ w u = Real.exp (x - g)

theorem exp_less {w : ℕ → ℝ} {g : ℝ} {u : ℕ} {s : EReal} (h : SeenExp w g u s) (M : ℝ) :
    Ideal.exp (s - (M : EReal)) = ((Real.exp (g - M) * w u : ℝ) : EReal) := by
  rcases h with ⟨rfl, hw⟩ | ⟨x, rfl, hw⟩
  · rw [hw, mul_zero, EReal.bot_sub]; rfl
  · rw [hw, ← EReal.coe_sub, Ideal.exp_coe, ← Real.exp_add]; congr 2; ring

/-- The largest score is a real number once one key is seen. -/
theorem top_real {n : ℕ} {w : ℕ → ℝ} {g : ℝ} {K : ℕ} (s : Fin n → EReal) (hs : ∀ j : Fin n, SeenExp w g (K + j) (s j))
    (hex : ∃ j, s j ≠ ⊥) : ∃ M : ℝ, (Finset.univ : Finset (Fin n)).fold max ⊥ s = (M : EReal) := by
  have hlt : (Finset.univ : Finset (Fin n)).fold max ⊥ s < ⊤ := by
    refine (Finset.fold_max_lt _).mpr ⟨bot_lt_top, fun j _ => ?_⟩
    rcases hs j with ⟨e, _⟩ | ⟨x, e, _⟩ <;> rw [e]
    · exact bot_lt_top
    · exact EReal.coe_lt_top x
  have hgt : ⊥ < (Finset.univ : Finset (Fin n)).fold max ⊥ s := by
    obtain ⟨j, hj⟩ := hex
    exact (Finset.lt_fold_max _).mpr (Or.inr ⟨j, Finset.mem_univ j, bot_lt_iff_ne_bot.mpr hj⟩)
  exact ⟨_, (EReal.coe_toReal hlt.ne hgt.ne').symm⟩

/-- The mean of the values under the softmax of the scores. -/
theorem mean_exp {n K : ℕ} {w v : ℕ → ℝ} {g M : ℝ} (s V : Fin n → EReal) (hs : ∀ j : Fin n, SeenExp w g (K + j) (s j))
    (hV : ∀ j : Fin n, V j = (v (K + j) : EReal)) (hz : ∀ u, u < K → w u = 0) (hpos : 0 < ∑ u ∈ Finset.range (K + n), w u) :
    ∑ j, V j * Ideal.div (Ideal.exp (s j - (M : EReal))) (0 + ∑ j, Ideal.exp (s j - (M : EReal)))
      = (((∑ u ∈ Finset.range (K + n), w u * v u) / ∑ u ∈ Finset.range (K + n), w u : ℝ) : EReal) := by
  have hA : ∑ u ∈ Finset.range (K + n), w u = ∑ j : Fin n, w (K + j) := by
    rw [sum_block, Finset.sum_eq_zero fun u hu => hz u (Finset.mem_range.mp hu), zero_add]
  have hB : ∑ u ∈ Finset.range (K + n), w u * v u = ∑ j : Fin n, w (K + j) * v (K + j) := by
    rw [sum_block, Finset.sum_eq_zero fun u hu => by rw [hz u (Finset.mem_range.mp hu), zero_mul], zero_add]
  rw [hA] at hpos
  rw [hA, hB]
  have hE : (0 : EReal) + ∑ j, Ideal.exp (s j - (M : EReal)) = ((Real.exp (g - M) * ∑ j : Fin n, w (K + j) : ℝ) : EReal) := by
    rw [zero_add, Finset.sum_congr rfl fun j _ => exp_less (hs j) M, ← coe_sum, Finset.mul_sum]
  have he : Real.exp (g - M) ≠ 0 := (Real.exp_pos _).ne'
  have hne : Real.exp (g - M) * ∑ j : Fin n, w (K + j) ≠ 0 := mul_ne_zero he hpos.ne'
  rw [hE, Finset.sum_congr rfl fun j _ => by rw [hV j, exp_less (hs j) M, div_coe _ _ hne, ← EReal.coe_mul], ← coe_sum, Finset.sum_div]
  refine congrArg _ (Finset.sum_congr rfl fun j _ => ?_)
  have := hpos.ne'
  field_simp

end Cert.Attn

end
-- ==== Proof.RefAt.lean ====
/-
  The reference at an element: scores, their maximum over the keys, and the weighted sum of the values.
-/
module

public import proofs.«01_k».proof.Proof.Gen.ReferenceIdeal.Run
public import proofs.«01_k».proof.Proof.Gen.ReferenceIdeal.Read
public import proofs.«01_k».proof.Proof.Attn
public import proofs.«01_k».proof.Proof.RefMath
public import Idealize.ShloMosaic.Lib.Pointwise
public import Idealize.ShloMosaic.Lib.WordCmp

@[expose] public section

set_option maxRecDepth 16384

noncomputable section

namespace Cert.ReferenceIdeal.Fox

open Idealize.ShloMosaic Idealize.ShloMosaic.TcCoe
open Cert.ReferenceIdeal Cert.ReferenceIdeal.Gen Cert.ReferenceIdeal.Read
open Cert.Attn

variable (Z : Vec Ideal S4x4224x3200 .f32) (C : Vec Ideal S4x4224x128 .f32)

theorem negInf : Ideal.ofBits .f32 0xFF800000#32 = ⊥ := by simp [Ideal.ofBits, Ideal.ieee]

theorem scaleBits : Ideal.ofBits .f32 0x3DB504F3#32 = ((11863283 / 134217728 : ℝ) : EReal) := by
  simp only [Ideal.ofBits, Ideal.ieee]
  simp
  rw [← EReal.coe_mul]
  norm_num

theorem fill_at (b : Fin 4) (h : Fin 8) (t u : Fin 4112) : val_main_call0_v2 (F := Ideal) (ix4 b h t u) = ⊥ := by
  rw [val_main_call0_v2_apply, val_main_call0_v0_apply, val_main_cst_0_apply]
  exact negInf

theorem seen_at (b : Fin 4) (h : Fin 8) (t u : Fin 4112) : val_main_call0_v1 (F := Ideal) (ix4 b h t u) = 1#1 ↔ u.val ≤ t.val := by
  rw [val_main_call0_v1_apply, val_main_v23_apply, val_main_v21_apply, val_main_v22_apply, val_main_v19_apply, val_main_v20_apply,
    val_main_v18_apply, val_main_v18_apply]
  show IntOp.cmpi CmpIPredicate.sge (BitVec.ofNat 32 t.val) (BitVec.ofNat 32 u.val) = 1#1 ↔ _
  rw [WordCmp.cmpi_sge_ofNat (by omega) (by omega), WordCmp.ofBool_eq_one_iff, decide_eq_true_iff]

theorem score_at (b : Fin 4) (h : Fin 8) (t u : Fin 4112) :
    val_main_v24 (F := Ideal) Z C (ix4 b h t u) = Scalar.select (val_main_call0_v1 (F := Ideal) (ix4 b h t u))
      ((∑ d : Fin 128, Z (ix3 b ⟨112 + t.val, by omega⟩ ⟨128 * h.val + d.val, by omega⟩)
          * Z (ix3 b ⟨112 + u.val, by omega⟩ ⟨1024 + (128 * h.val + d.val), by omega⟩)) * ((11863283 / 134217728 : ℝ) : EReal)
        + (C (ix3 b ⟨112 + t.val, by omega⟩ ⟨h.val, by omega⟩) - C (ix3 b ⟨112 + u.val, by omega⟩ ⟨h.val, by omega⟩))) ⊥ := by
  rw [← fill_at b h t u, ← scaleBits]
  simp only [mul_comm 128 h.val]
  pointwise [val_main_v24, val_main_v17, val_main_v16, val_main_v15,
    val_main_v14, val_main_v13, val_main_v12, val_main_v11, val_main_v10, val_main_v9, val_main_v6, val_main_v5, val_main_v4, val_main_v3, val_main_v2, val_main_v1, val_main_v0, val_main_cst]

theorem fold_at (s : S4x8x4112x4112.Idx → EReal) (init : S_.Idx → EReal) (b : Fin 4) (h : Fin 8) (t : Fin 4112) :
    Host.reduce (max : EReal → EReal → EReal) s init reducesTo_S4x8x4112x4112_S4x8x4112_d3 h_S_ (ix3 b h t)
      = (Finset.univ : Finset (Fin 4112)).fold max (init (Shape.Idx.first h_S_)) fun u => s (ix4 b h t u) := by
  rw [Host.reduce_eq_fold_single max s init reducesTo_S4x8x4112x4112_S4x8x4112_d3 (by decide) h_S_]
  refine Finset.fold_congr fun u _ => congrArg s (funext fun a => Fin.ext ?_)
  match a with
  | ⟨0, _⟩ => rfl
  | ⟨1, _⟩ => rfl
  | ⟨2, _⟩ => rfl
  | ⟨3, _⟩ => rfl

theorem max_at (b : Fin 4) (h : Fin 8) (t : Fin 4112) :
    val_main_v27 (F := Ideal) Z C (ix3 b h t) = (Finset.univ : Finset (Fin 4112)).fold max ⊥ fun u => val_main_v24 (F := Ideal) Z C (ix4 b h t u) := by
  rw [val_main_v27_apply, val_main_v26_apply, val_main_cst_2_apply]
  unfold val_main_v25
  generalize val_main_v24 (F := Ideal) Z C = y0
  have e := fold_at y0 (val_main_cst_1 (F := Ideal)) b h t
  rw [val_main_cst_1_apply] at e
  show max (Ideal.ofBits .f32 0xFF800000#32) _ = _
  refine (congrArg (max _) e).trans ?_
  show max (Ideal.ofBits .f32 0xFF800000#32) ((Finset.univ : Finset (Fin 4112)).fold max (Ideal.ofBits .f32 0xFF800000#32) _) = _
  rw [negInf, max_eq_right bot_le]

theorem wts_at (b : Fin 4) (h : Fin 8) (t u : Fin 4112) :
    val_main_v31 (F := Ideal) Z C (ix4 b h t u)
      = Ideal.exp (val_main_v24 (F := Ideal) Z C (ix4 b h t u) - val_main_v27 (F := Ideal) Z C (ix3 b h t)) := by
  pointwise [val_main_v31, val_main_v30, val_main_v29, val_main_v28]

theorem zero_at : val_main_cst_3 (F := Ideal) (Shape.Idx.first h_S_) = (0 : EReal) := by
  rw [val_main_cst_3_apply]
  show Ideal.ofBits .f32 0x00000000#32 = 0
  simp [Ideal.ofBits, Ideal.ieee]

theorem share_at (b : Fin 4) (h : Fin 8) (t u : Fin 4112) :
    val_main_v35 (F := Ideal) Z C (ix4 b h t u) = Ideal.div (val_main_v31 (F := Ideal) Z C (ix4 b h t u))
      ((0 : EReal) + ∑ u : Fin 4112, val_main_v31 (F := Ideal) Z C (ix4 b h t u)) := by
  rw [← zero_at]
  pointwise [val_main_v35, val_main_v34, val_main_v33, val_main_v32]

theorem out_at (b : Fin 4) (t : Fin 4112) (h : Fin 8) (d : Fin 128) :
    val_main_v38 (F := Ideal) Z C (ix3 b t ⟨128 * h.val + d.val, by omega⟩)
      = ∑ u : Fin 4112, Z (ix3 b ⟨112 + u.val, by omega⟩ ⟨2048 + (128 * h.val + d.val), by omega⟩) * val_main_v35 (F := Ideal) Z C (ix4 b h t u) := by
  simp only [mul_comm 128 h.val]
  pointwise [val_main_v38, val_main_v37, val_main_v36, val_main_v8, val_main_v7, val_main_v0]

end Cert.ReferenceIdeal.Fox

end
-- ==== Proof.RefVal.lean ====
/-
  The reference's result: a softmax over the keys up to the query, which is the attention the kernel's
  running sums come to.
-/
module

public import proofs.«01_k».proof.Proof.RefAt

@[expose] public section

set_option maxRecDepth 16384

noncomputable section

namespace Cert.ReferenceIdeal.Fox

open Idealize.ShloMosaic Idealize.ShloMosaic.TcCoe
open Cert.ReferenceIdeal Cert.ReferenceIdeal.Gen Cert.ReferenceIdeal.Read
open Cert.Attn

variable {Z : Vec Ideal S4x4224x3200 .f32} {C : Vec Ideal S4x4224x128 .f32}

/-- A score is a key's exponent, with the query's own decay added, or −∞ for a key after the query. -/
theorem score_seen (hR : Real3 Z C) (b : Fin 4) (h : Fin 8) (t u : Fin 4112) :
    SeenExp (weight Z C b h (112 + t.val)) (atN C b (112 + t.val) h) (112 + u.val) (val_main_v24 (F := Ideal) Z C (ix4 b h t u)) := by
  rw [score_at]
  by_cases hm : u.val ≤ t.val
  · refine Or.inr ⟨logit Z C b h (112 + t.val) (112 + u.val) + atN C b (112 + t.val) h, ?_, ?_⟩
    · rw [(seen_at b h t u).mpr hm, WordCmp.select_one]
      have hd : ∀ d : Fin 128, Z (ix3 b ⟨112 + t.val, by omega⟩ ⟨128 * h.val + d.val, by omega⟩)
            * Z (ix3 b ⟨112 + u.val, by omega⟩ ⟨1024 + (128 * h.val + d.val), by omega⟩)
          = ((atN Z b (112 + u.val) (1024 + (128 * h.val + d.val)) * atN Z b (112 + t.val) (128 * h.val + d.val) : ℝ) : EReal) := by
        intro d
        rw [coe_atN Z _ _ _ (hR.z _ _ _ (by show 112 ≤ 112 + t.val; omega) (by show 128 * h.val + d.val < 3072; omega)),
          coe_atN Z _ _ _ (hR.z _ _ _ (by show 112 ≤ 112 + u.val; omega) (by show 1024 + (128 * h.val + d.val) < 3072; omega)), ← EReal.coe_mul, mul_comm]
      rw [Finset.sum_congr rfl fun d _ => hd d, ← coe_sum,
        coe_atN C _ _ _ (hR.c b ⟨112 + t.val, by omega⟩ ⟨h.val, by omega⟩ (by show 112 ≤ 112 + t.val; omega) h.isLt),
        coe_atN C _ _ _ (hR.c b ⟨112 + u.val, by omega⟩ ⟨h.val, by omega⟩ (by show 112 ≤ 112 + u.val; omega) h.isLt),
        ← EReal.coe_mul, ← EReal.coe_sub, ← EReal.coe_add]
      congr 1
      unfold logit prod
      ring
    · unfold weight
      rw [if_pos ⟨by omega, by omega⟩, add_sub_cancel_right]
  · refine Or.inl ⟨?_, weight_zero Z C _ _ _ _ (by omega)⟩
    have hne : val_main_call0_v1 (F := Ideal) (ix4 b h t u) ≠ 1#1 := fun e => hm ((seen_at b h t u).mp e)
    exact if_neg hne

/-- The reference's result at an element. -/
theorem value_at (hR : Real3 Z C) (b : Fin 4) (t : Fin 4112) (h : Fin 8) (d : Fin 128) :
    val_main_v38 (F := Ideal) Z C (ix3 b t ⟨128 * h.val + d.val, by omega⟩) = ((attn Z C b h (112 + t.val) d : ℝ) : EReal) := by
  have hs := score_seen hR b h t
  have hex : ∃ u, val_main_v24 (F := Ideal) Z C (ix4 b h t u) ≠ ⊥ := by
    refine ⟨⟨0, by omega⟩, ?_⟩
    rcases hs ⟨0, by omega⟩ with ⟨_, e⟩ | ⟨x, e, _⟩
    · exact absurd e (weight_pos Z C _ _ _ _ ⟨le_rfl, Nat.le_add_right _ _⟩).ne'
    · rw [e]; exact EReal.coe_ne_bot x
  obtain ⟨M, hM⟩ := top_real _ hs hex
  have hw : ∀ u : Fin 4112, val_main_v31 (F := Ideal) Z C (ix4 b h t u) = Ideal.exp (val_main_v24 (F := Ideal) Z C (ix4 b h t u) - (M : EReal)) := by
    intro u; rw [wts_at, max_at, hM]
  rw [out_at]
  simp only [share_at, hw]
  exact mean_exp (v := value Z b h d) _ _ hs
    (fun u => coe_atN Z _ _ _ (hR.z b ⟨112 + u.val, by omega⟩ ⟨2048 + (128 * h.val + d.val), by omega⟩ (by show 112 ≤ 112 + u.val; omega)
      (by show 2048 + (128 * h.val + d.val) < 3072; omega)))
    (fun u hu => weight_zero Z C _ _ _ _ (by omega)) (total_pos Z C b h _ (by omega))

end Cert.ReferenceIdeal.Fox

end
-- ==== Proof.Finite.lean ====
/-
  The precondition read at an element: an entry whose absolute value is below infinity is a real number.
-/
module

public import proofs.«01_k».proof.Pre_finite
public import proofs.«01_k».proof.Proof.Attn
public import Idealize.ShloMosaic.Lib.Pointwise

@[expose] public section

set_option maxRecDepth 16384

noncomputable section

namespace Cert.Pre_finite

open Idealize.ShloMosaic
open Cert.Attn

theorem facts : Facts := ⟨by decide, by decide, by decide, by decide⟩

theorem real_of_lt (x : EReal) (h : Ideal.cmp .olt (max x (-x)) (Ideal.ofBits .f32 0x7F800000#32) = 1#1) : x ≠ ⊤ ∧ x ≠ ⊥ := by
  have hi : Ideal.ofBits .f32 0x7F800000#32 = ⊤ := by simp [Ideal.ofBits, Ideal.ieee]
  rw [hi] at h
  refine ⟨?_, ?_⟩
  · rintro rfl; simp [Ideal.cmp] at h
  · rintro rfl; simp [Ideal.cmp] at h

theorem real3 [Facts] (Z : ZIdx → EReal) (C : CIdx → EReal) (hz : (fn (F := Ideal) Z C).1 = fun _ => 1#1) (hc : (fn (F := Ideal) Z C).2 = fun _ => 1#1) : Real3 Z C where
  z b p j hp hj := by
    have h := congrFun hz (ix3 b ⟨p.val - 112, by omega⟩ ⟨j.val, hj⟩)
    pointwise [fn] at h
    have e : (⟨112 + (p.val - 112), by omega⟩ : Fin 4224) = p := Fin.ext (by show 112 + (p.val - 112) = p.val; omega)
    rw [e] at h
    exact real_of_lt _ h
  c b p j hp hj := by
    have h := congrFun hc (ix3 b ⟨p.val - 112, by omega⟩ ⟨j.val, hj⟩)
    pointwise [fn] at h
    have e : (⟨112 + (p.val - 112), by omega⟩ : Fin 4224) = p := Fin.ext (by show 112 + (p.val - 112) = p.val; omega)
    rw [e] at h
    exact real_of_lt _ h

end Cert.Pre_finite

end
-- ==== Proof.Claims.lean ====
/-
  The claims, one theorem each, from the frames, the kernel's value and the reference's value.
-/
module

public import proofs.«01_k».proof.Defs
public import proofs.«01_k».proof.Proof.Bits.Run
public import proofs.«01_k».proof.Proof.Array
public import proofs.«01_k».proof.Proof.RefVal
public import proofs.«01_k».proof.Proof.Finite
public import proofs.«01_k».proof.Proof.Gen.Kernel
public import proofs.«01_k».proof.Proof.Gen.KernelIdeal
public import proofs.«01_k».proof.Proof.Gen.ReferenceIdeal

@[expose] public section

set_option maxRecDepth 16384

noncomputable section

namespace Cert.Fox

open Idealize.ShloMosaic Idealize.SL.Sem
open Cert.Attn

theorem frame_p : Cert.quiescent_Kernel := fun m ρ _ => Cert.Kernel.Fox.frame m ρ

theorem frame_pi : Cert.quiescent_KernelIdeal := fun m ρ _ => Cert.KernelIdeal.Fox.frame m ρ

theorem frame_pi_pre [Cert.Pre_finite.Facts] : Cert.quiescent_KernelIdeal_pre_finite := fun m ρ _ => Cert.KernelIdeal.Fox.frame m ρ

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_pre [Cert.Pre_finite.Facts] : Cert.quiescent_ReferenceIdeal_pre_finite := fun m ρ _ => frame_ri m ρ trivial

theorem preserves : Cert.preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl,
    IdealRules.named_const.statement Cert.KernelIdeal.κ "scale" .f32 0x3E0293EE#32 (((11863283 / 134217728) * (Real.log 2)⁻¹ : ℝ) : EReal) rfl⟩

/-- The reference's result is the attention of the rows past the padding. -/
theorem reference_out (Z : ZIdx → EReal) (C : CIdx → EReal) (hR : Real3 Z C) :
    Cert.ReferenceIdeal.Read.val_main_v38 (F := Ideal) Z C = Cert.KernelIdeal.Fox.outAt Z C := by
  funext i
  have h2 : (i 2).val < 1024 := (i 2).isLt
  have e : i = ix3 (i 0) (i 1) ⟨128 * ((i 2).val / 128) + (i 2).val % 128, by omega⟩ := by
    funext a
    match a with
    | ⟨0, _⟩ => rfl
    | ⟨1, _⟩ => rfl
    | ⟨2, _⟩ => exact Fin.ext (by show (i 2).val = 128 * ((i 2).val / 128) + (i 2).val % 128; omega)
  exact (congrArg (Cert.ReferenceIdeal.Read.val_main_v38 (F := Ideal) Z C) e).trans
    (Cert.ReferenceIdeal.Fox.value_at hR (i 0) (i 1) ⟨(i 2).val / 128, by omega⟩ ⟨(i 2).val % 128, by omega⟩)

theorem algebraic [Cert.Pre_finite.Facts] : Cert.algebraic_KernelIdeal_ReferenceIdeal_pre_finite := by
  intro m ρ m' ρ' hpre hagree
  have hR : ∀ c, Real3 (Cert.KernelIdeal.Fox.arrZ m c) (Cert.KernelIdeal.Fox.arrC m c) := fun c =>
    Cert.Pre_finite.real3 _ _ (hpre c).1 (hpre c).2
  refine ⟨_, Cert.KernelIdeal.Fox.value m ρ hR, ?_⟩
  refine (θ_run Cert.ReferenceIdeal.defs _ _).mono (fun r h c => ⟨(h c).1.trans ?_, (h c).2⟩) (Cert.ReferenceIdeal.Value.run (F := Ideal) m' ρ')
  rw [Cert.ReferenceIdeal.Read.val_main_v38_eq, (hagree c).1, (hagree c).2]
  exact reference_out _ _ (hR c)

end Cert.Fox

end
-- ==== Proof.Normed.lean ====
/-
  A row divided by its root mean square, scaled, and multiplied with a matrix: the step before each mixer and before
  the experts' queries. Stated of a row of 1024 extended reals, so that kernel and reference both come to it.
-/
module

public import Idealize.ShloMosaic.Lib.Pointwise

@[expose] public section

noncomputable section

namespace Cert.Normed

open Idealize.ShloMosaic

/-- The number added to the mean square. -/
abbrev eps : EReal := Ideal.ofBits .f32 0x358637BD#32

/-- The length of a row, as the float the sum is divided by. -/
abbrev len : EReal := Ideal.ofBits .f32 0x44800000#32

/-- An element of the normalised row. -/
def normed (x g : Fin 1024 → EReal) (k : Fin 1024) : EReal :=
  x k * Ideal.rsqrt (Ideal.div (∑ j, x j * x j) len + eps) * g k

/-- The normalised row times a column. -/
def proj (x g w : Fin 1024 → EReal) : EReal := ∑ k, normed x g k * w k

/-! An index is the tuple of its coordinates. -/

theorem eta2 {a b : ℕ} (i : (⟨2, ![a, b]⟩ : Shape).Idx) : i = ix2 (i 0) (i 1) := by
  funext x
  match x with
  | ⟨0, _⟩ => rfl
  | ⟨1, _⟩ => rfl

theorem eta3 {a b c : ℕ} (i : (⟨3, ![a, b, c]⟩ : Shape).Idx) : i = ix3 (i 0) (i 1) (i 2) := by
  funext x
  match x with
  | ⟨0, _⟩ => rfl
  | ⟨1, _⟩ => rfl
  | ⟨2, _⟩ => rfl

/-- The leading axis has one position. -/
theorem eta3_one {b c : ℕ} (i : (⟨3, ![1, b, c]⟩ : Shape).Idx) : i = ix3 0 (i 1) (i 2) := by
  funext x
  match x with
  | ⟨0, _⟩ => exact Subsingleton.elim (α := Fin 1) _ _
  | ⟨1, _⟩ => rfl
  | ⟨2, _⟩ => rfl

theorem eta4 {a b c d : ℕ} (i : (⟨4, ![a, b, c, d]⟩ : Shape).Idx) : i = ix4 (i 0) (i 1) (i 2) (i 3) := by
  funext x
  match x with
  | ⟨0, _⟩ => rfl
  | ⟨1, _⟩ => rfl
  | ⟨2, _⟩ => rfl
  | ⟨3, _⟩ => rfl

/-- The leading axis has one position. -/
theorem eta4_one {b c d : ℕ} (i : (⟨4, ![1, b, c, d]⟩ : Shape).Idx) : i = ix4 0 (i 1) (i 2) (i 3) := by
  funext x
  match x with
  | ⟨0, _⟩ => exact Subsingleton.elim (α := Fin 1) _ _
  | ⟨1, _⟩ => rfl
  | ⟨2, _⟩ => rfl
  | ⟨3, _⟩ => rfl

theorem eta5_one {b c d e : ℕ} (i : (⟨5, ![1, b, c, d, e]⟩ : Shape).Idx) : i = ix5 0 (i 1) (i 2) (i 3) (i 4) := by
  funext x
  match x with
  | ⟨0, _⟩ => exact Subsingleton.elim (α := Fin 1) _ _
  | ⟨1, _⟩ => rfl
  | ⟨2, _⟩ => rfl
  | ⟨3, _⟩ => rfl
  | ⟨4, _⟩ => rfl

/-! Arrays that agree at every tuple of coordinates are equal. -/

variable {α : Type}

theorem ext2 {a b : ℕ} {f g : (⟨2, ![a, b]⟩ : Shape).Idx → α} (h : ∀ (x : Fin a) (y : Fin b), f (ix2 x y) = g (ix2 x y)) : f = g := by
  funext i
  exact (congrArg f (eta2 i)).trans ((h _ _).trans (congrArg g (eta2 i)).symm)

theorem ext3 {a b c : ℕ} {f g : (⟨3, ![a, b, c]⟩ : Shape).Idx → α}
    (h : ∀ (x : Fin a) (y : Fin b) (z : Fin c), f (ix3 x y z) = g (ix3 x y z)) : f = g := by
  funext i
  exact (congrArg f (eta3 i)).trans ((h _ _ _).trans (congrArg g (eta3 i)).symm)

theorem ext4 {a b c d : ℕ} {f g : (⟨4, ![a, b, c, d]⟩ : Shape).Idx → α}
    (h : ∀ (x : Fin a) (y : Fin b) (z : Fin c) (w : Fin d), f (ix4 x y z w) = g (ix4 x y z w)) : f = g := by
  funext i
  exact (congrArg f (eta4 i)).trans ((h _ _ _ _).trans (congrArg g (eta4 i)).symm)

theorem ext4_one {b c d : ℕ} {f g : (⟨4, ![1, b, c, d]⟩ : Shape).Idx → α}
    (h : ∀ (x : Fin b) (y : Fin c) (z : Fin d), f (ix4 0 x y z) = g (ix4 0 x y z)) : f = g := by
  funext i
  exact (congrArg f (eta4_one i)).trans ((h _ _ _).trans (congrArg g (eta4_one i)).symm)

theorem ext5_one {b c d e : ℕ} {f g : (⟨5, ![1, b, c, d, e]⟩ : Shape).Idx → α}
    (h : ∀ (x : Fin b) (y : Fin c) (z : Fin d) (w : Fin e), f (ix5 0 x y z w) = g (ix5 0 x y z w)) : f = g := by
  funext i
  exact (congrArg f (eta5_one i)).trans ((h _ _ _ _).trans (congrArg g (eta5_one i)).symm)

end Cert.Normed

end
-- ==== Proof.GdnIn.Joined.lean ====
/-
  The rows of a batch entry: the learned rows first, then the inputs.
-/
module

public import proofs.«01_k».proof.Proof.Normed

@[expose] public section

noncomputable section

namespace Cert.Normed

open Idealize.ShloMosaic

/-- Row `p` of batch entry `b`: one of the sixteen learned rows, or an input row after them. -/
def joined (x : (⟨3, ![4, 4096, 1024]⟩ : Shape).Idx → EReal) (l : (⟨2, ![16, 1024]⟩ : Shape).Idx → EReal)
    (b : Fin 4) (p : Fin 4112) (k : Fin 1024) : EReal :=
  if h : p.val < 16 then l (ix2 ⟨p.val, h⟩ k) else x (ix3 b ⟨p.val - 16, by omega⟩ k)

end Cert.Normed

end
-- ==== Proof.GdnIn.Value.lean ====
/-
  The recurrent layer's input projection: every block of 256 rows is normalised and multiplied with the padded matrix, so
  the array the launch leaves holds at (n, j) the projection of row n onto column j.
-/
module

public import proofs.«01_k».proof.Proof.GdnIn.Joined
public import proofs.«01_k».proof.Proof.Gen.GdnInIdeal.Frame
public import Idealize.ShloMosaic.Lib.Pipeline.ValueKit
public import Idealize.ShloMosaic.Lib.Pipeline.Covers

@[expose] public section

set_option maxRecDepth 16384

noncomputable section

namespace Cert.GdnInIdeal.Val

open Idealize.ShloMosaic Idealize.ShloMosaic.TcCoe Idealize.SL.Sem
open Idealize.ShloMosaic.Pipeline (Dat Cfg Window)
open Cert.GdnInIdeal Cert.GdnInIdeal.Gen
open Cert.Normed

theorem pay_at (X : Vec Ideal S256x1024 .f32) (G : Vec Ideal S1x1024 .f32) (W : Vec Ideal S1024x4224 .bf16) (r : Fin 256) (j : Fin 4224) :
    k0_pay1 X G W (ix2 r j) = proj (fun k => X (ix2 r k)) (fun k => G (ix2 0 k)) (fun k => W (ix2 k j)) := by
  unfold proj normed
  pointwise [k0_pay1]

variable (m : (ℓ : Loc nD τ sig) → Buf (Elt Ideal) ℓ) (ρ : Dev nD → PrngReg)

/-- The inputs, the learned rows, the scale, and the matrix, as launched. -/
abbrev inp (c : Dev nD) : (⟨3, ![4, 4096, 1024]⟩ : Shape).Idx → EReal := m (c.tc.loc main_arg0)
abbrev lead (c : Dev nD) : (⟨2, ![16, 1024]⟩ : Shape).Idx → EReal := m (c.tc.loc main_arg1)
abbrev scl (c : Dev nD) : (⟨2, ![2, 1024]⟩ : Shape).Idx → EReal := m (c.tc.loc main_arg2)
abbrev mat (c : Dev nD) : (⟨3, ![1, 1024, 4112]⟩ : Shape).Idx → EReal := m (c.tc.loc main_arg3)

/-- A row of the launched hidden state past the padding: a learned row, or an input's. -/
theorem row_at (c : Dev nD) (b : Fin 4) (p : Fin 4112) (k : Fin 1024) :
    V m c main_v4 (ix2 ⟨b.val * 4224 + (112 + p.val), by omega⟩ k) = joined (inp m c) (lead m c) b p k := by
  unfold_abbrev_sides
  simp only [List.flatten_cons, List.flatten_nil, List.append_nil, List.cons_append, List.nil_append]
  after_results
  pointwise
  have hp : (b.val * 4224 + (112 + p.val)) % 4224 = 112 + p.val := by
    rw [Nat.add_comm, Nat.add_mul_mod_self_right]; omega
  unfold joined
  rw [dif_neg (by omega)]
  by_cases h : p.val < 16
  · rw [dif_pos (by omega), dif_pos h]
    rw [StableHlo.unary_result_ne, StableHlo.nullary_result_ne, StableHlo.unary_result, StableHlo.unary_result]
    rotate_left
    · decide
    · decide
    pointwise
    exact congrArg (fun q => lead m c (ix2 q k)) (Fin.ext (by show (b.val * 4224 + (112 + p.val)) % 4224 - 112 = p.val; omega))
  · rw [dif_neg (by omega), dif_neg h]
    rw [StableHlo.unary_result_ne, StableHlo.nullary_result_ne, StableHlo.unary_result_ne, StableHlo.unary_result_ne]
    rotate_left
    · decide
    · decide
    · decide
    · decide
    exact congrArg (fun q => inp m c (ix3 b q k)) (Fin.ext (by show (b.val * 4224 + (112 + p.val)) % 4224 - 112 - 16 = p.val - 16; omega))

theorem scale_at (c : Dev nD) (k : Fin 1024) : V m c main_v10 (ix2 0 k) = scl m c (ix2 0 k) := by
  unfold_abbrev_sides
  simp only [List.flatten_cons, List.flatten_nil, List.append_nil, List.cons_append, List.nil_append]
  after_results
  pointwise

theorem matrix_at (c : Dev nD) (k : Fin 1024) (j : Fin 4112) : V m c main_v7 (ix2 k ⟨j.val, by omega⟩) = mat m c (ix3 0 k j) := by
  unfold_abbrev_sides
  simp only [List.flatten_cons, List.flatten_nil, List.append_nil, List.cons_append, List.nil_append]
  after_results
  simp -implicitDefEqProofs only [StableHlo.TRef.toBuf, StableHlo.TRef.ofBuf, cast_cast, cast_eq]
  pointwise

theorem place_0 : ∀ t : Fin cfg0.N, win0_0.index t = ![t.val, 0] :=
  (by decide +kernel : ∀ t : Fin grid0.N, win0_0.index t = ![t.val, 0])
theorem place_1 : ∀ t : Fin cfg0.N, win0_1.index t = ![0, 0] :=
  (by decide +kernel : ∀ t : Fin grid0.N, win0_1.index t = ![0, 0])
theorem place_2 : ∀ t : Fin cfg0.N, win0_2.index t = ![0, 0] :=
  (by decide +kernel : ∀ t : Fin grid0.N, win0_2.index t = ![0, 0])
theorem place_3 : ∀ t : Fin cfg0.N, win0_3.index t = ![t.val, 0] :=
  (by decide +kernel : ∀ t : Fin grid0.N, win0_3.index t = ![t.val, 0])

theorem pts (t : Fin cfg0.N) : t.val < 66 := t.isLt

theorem rows_at (c : Dev nD) (t : Fin cfg0.N) (r : Fin 256) (k : Fin 1024) :
    iblk m c 0 t (ix2 r k) = V m c main_v4 (ix2 ⟨256 * t.val + r.val, by have := pts t; omega⟩ k) := by
  blk_ext [iblk, place_0 t]

theorem scaleBlock_at (c : Dev nD) (t : Fin cfg0.N) (k : Fin 1024) : iblk m c 1 t (ix2 0 k) = V m c main_v10 (ix2 0 k) := by
  blk_ext [iblk, place_1 t]

theorem matrixBlock_at (c : Dev nD) (t : Fin cfg0.N) (k : Fin 1024) (j : Fin 4224) : iblk m c 2 t (ix2 k j) = V m c main_v7 (ix2 k j) := by
  blk_ext [iblk, place_2 t]

/-- The launch's array at an element. -/
def zAt (c : Dev nD) (n : Fin 16896) (j : Fin 4224) : EReal :=
  proj (fun k => V m c main_v4 (ix2 n k)) (fun k => V m c main_v10 (ix2 0 k)) (fun k => V m c main_v7 (ix2 k j))

theorem block_at (c : Dev nD) (t : Fin cfg0.N) (r : Fin 256) (j : Fin 4224) :
    out0_3 (iblk m c 0 t) (iblk m c 1 t) (iblk m c 2 t) (ix2 r j) = zAt m c ⟨256 * t.val + r.val, by have := pts t; omega⟩ j := by
  unfold out0_3 zAt
  rw [View.canon_cons_unit_zero (by funext a; fin_cases a <;> rfl), View.ld_unit_zero (by funext a; fin_cases a <;> rfl), View.ld_unit_zero (by funext a; fin_cases a <;> rfl),
    View.ld_unit_zero (by funext a; fin_cases a <;> rfl), pay_at]
  simp only [rows_at, scaleBlock_at, matrixBlock_at]

theorem row_place (a n : ℕ) : (![a, 0] : Fin 2 → ℕ) 0 * 256 + n = 256 * a + n := by simp [mul_comm]
theorem col_place (a n : ℕ) : (![a, 0] : Fin 2 → ℕ) 1 * 4224 + n = n := by simp

theorem launch_at (c : Dev nD) (i : (⟨2, ![16896, 4224]⟩ : Shape).Idx) : (dats m 0 c).arrAt 3 cfg0.N i = zAt m c (i 0) (i 1) := by
  refine (dats m 0 c).arrAt_forall_of_covers 3
    (fun (j : (⟨2, ![16896, 4224]⟩ : Shape).Idx) (v : EReal) => v = zAt m c (j 0) (j 1)) (by decide +kernel) (fun t hf y => ?_) i
  blk_simp
  rw [after0_3]
  refine (congrArg (out0_3 (iblk m c 0 t) (iblk m c 1 t) (iblk m c 2 t)) (?_ : y = ix2 (y 0) (y 1))).trans ((block_at m c t (y 0) (y 1)).trans ?_)
  · funext a
    match a with
    | ⟨0, _⟩ => rfl
    | ⟨1, _⟩ => rfl
  · congr 1
    · apply Fin.ext
      blk_simp
      rw [place_3 t]
      exact (row_place t.val (y 0).val).symm
    · apply Fin.ext
      blk_simp
      rw [place_3 t]
      exact (col_place t.val (y 1).val).symm

/-- The launch's array among the buffers after it. -/
theorem array_eq (c : Dev nD) : Pipeline.withArrays (cfgs 0).spec c (V0 m c) (fun w => (dats m 0 c).arrAt w (cfgs 0).N) (Proc.devRef .tc main_v11)
    = (dats m 0 c).arrAt 3 cfg0.N := (dats m 0 c).withArrays_arrAt (fun _ _ hne h => absurd (launch0.win.arr_inj h) hne) (V0 m c) (A_eq m c) 3

/-- What the returned arrays hold, over the launch's rows. -/
theorem tail_z (c : Dev nD) (b : Fin 4) (p : Fin 4112) (j : Fin 4112) :
    Pipeline.afterTail₀ cfgs (dats m) 0 (V0 m) [hostOps1] c main_v13 (ix3 b p j) = zAt m c ⟨b.val * 4224 + (112 + p.val), by omega⟩ ⟨j.val, by omega⟩ := by
  unfold Pipeline.afterTail₀
  change StableHlo.after hostOps1 _ (Proc.devRef .tc main_v13) (ix3 b p j) = _
  after_results
  rw [array_eq]
  pointwise
  exact launch_at m c (ix2 ⟨b.val * 4224 + (112 + p.val), by omega⟩ ⟨j.val, by omega⟩)

theorem tail_conv (c : Dev nD) (b : Fin 4) (q : Fin 3) (j : Fin 3072) :
    Pipeline.afterTail₀ cfgs (dats m) 0 (V0 m) [hostOps1] c main_v15 (ix4 0 b q j)
      = zAt m c ⟨b.val * 4224 + (112 + (4109 + q.val)), by omega⟩ ⟨j.val, by omega⟩ := by
  unfold Pipeline.afterTail₀
  change StableHlo.after hostOps1 _ (Proc.devRef .tc main_v15) (ix4 0 b q j) = _
  after_results
  rw [array_eq]
  pointwise
  refine (launch_at m c (ix2 ⟨b.val * 4224 + (4221 + q.val), by omega⟩ ⟨j.val, by omega⟩)).trans ?_
  exact congrArg (fun n => zAt m c n _) (Fin.ext (by show b.val * 4224 + (4221 + q.val) = b.val * 4224 + (112 + (4109 + q.val)); omega))

/-! The results as arrays. -/

def resZ (c : Dev nD) : (⟨3, ![4, 4112, 4112]⟩ : Shape).Idx → EReal := Pipeline.afterTail₀ cfgs (dats m) 0 (V0 m) [hostOps1] c main_v13
def resConv (c : Dev nD) : (⟨4, ![1, 4, 3, 3072]⟩ : Shape).Idx → EReal := Pipeline.afterTail₀ cfgs (dats m) 0 (V0 m) [hostOps1] c main_v15

/-- A row and a column of the result: the joined row and the launched matrix's column. -/
theorem zAt_col (c : Dev nD) (b : Fin 4) (p : Fin 4112) (j : Fin 4112) :
    zAt m c ⟨b.val * 4224 + (112 + p.val), by omega⟩ ⟨j.val, by omega⟩
      = proj (joined (inp m c) (lead m c) b p) (fun k => scl m c (ix2 0 k)) (fun k => mat m c (ix3 0 k j)) := by
  have hr : (fun k => V m c main_v4 (ix2 ⟨b.val * 4224 + (112 + p.val), by omega⟩ k)) = joined (inp m c) (lead m c) b p :=
    funext fun k => row_at m c b p k
  have hs : (fun k => V m c main_v10 (ix2 0 k)) = fun k => scl m c (ix2 0 k) := funext fun k => scale_at m c k
  have hm : (fun k => V m c main_v7 (ix2 k ⟨j.val, by omega⟩)) = fun k => mat m c (ix3 0 k j) := funext fun k => matrix_at m c k j
  unfold zAt
  rw [hr, hs, hm]

theorem resZ_at (c : Dev nD) (b : Fin 4) (p : Fin 4112) (j : Fin 4112) :
    resZ m c (ix3 b p j) = proj (joined (inp m c) (lead m c) b p) (fun k => scl m c (ix2 0 k)) (fun k => mat m c (ix3 0 k j)) :=
  (tail_z m c b p j).trans (zAt_col m c b p j)

theorem resConv_at (c : Dev nD) (b : Fin 4) (q : Fin 3) (j : Fin 3072) :
    resConv m c (ix4 0 b q j) = proj (joined (inp m c) (lead m c) b ⟨4109 + q.val, by omega⟩) (fun k => scl m c (ix2 0 k))
      (fun k => mat m c (ix3 0 k ⟨j.val, by omega⟩)) :=
  (tail_conv m c b q j).trans (zAt_col m c b ⟨4109 + q.val, by omega⟩ ⟨j.val, by omega⟩)

/-- Every run ends with the two results, the arguments unchanged. -/
theorem value :
    θ_run defs (onTc (τ := τ) (main (F := Ideal))) ⟨m, fun _ => 0, ρ⟩ (fun r => ∀ c : Dev nD,
      r.2.mem ((c.tc : Thread nD τ).loc main_v13) = resZ m c
      ∧ r.2.mem ((c.tc : Thread nD τ).loc main_v15) = resConv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).2 main_v13 (by decide), (h.1 c).2 main_v15 (by decide), h.2.1 c⟩)
    (θ_run_and (run_main m ρ) (frame m ρ))

end Cert.GdnInIdeal.Val

end
-- ==== Proof.GdnIn.Ref.lean ====
/-
  The reference of the recurrent layer's projection, entry by entry: the same scaled and projected row.
-/
module

public import proofs.«01_k».proof.Proof.GdnIn.Joined
public import proofs.«01_k».proof.Proof.Gen.GdnInRefIdeal.Run
public import proofs.«01_k».proof.Proof.Gen.GdnInRefIdeal.Read
public import Idealize.ShloMosaic.Lib.Pointwise

@[expose] public section

noncomputable section

namespace Cert.GdnInRefIdeal.Val

open Idealize.ShloMosaic Idealize.ShloMosaic.TcCoe
open Cert.GdnInRefIdeal
open Cert.GdnInRefIdeal.Read
open Cert.Normed

theorem row_at (X : Vec Ideal S4x4096x1024 .f32) (L : Vec Ideal S16x1024 .f32) (b : Fin 4) (p : Fin 4112) (k : Fin 1024) :
    val_main_v2 (F := Ideal) X L (ix3 b p k) = joined X L b p k := by
  unfold joined
  pointwise [val_main_v2, val_main_v1, val_main_v0]

theorem z_at (X : Vec Ideal S4x4096x1024 .f32) (L : Vec Ideal S16x1024 .f32) (G : Vec Ideal S2x1024 .f32) (W : Vec Ideal S1x1024x4112 .f32) (b : Fin 4) (p : Fin 4112) (j : Fin 4112) :
    val_main_v19 (F := Ideal) X L G W (ix3 b p j) = proj (joined X L b p) (fun k => G (ix2 0 k)) (fun k => W (ix3 0 k j)) := by
  have hr : joined X L b p = fun k => val_main_v2 (F := Ideal) X L (ix3 b p k) := funext fun k => (row_at X L b p k).symm
  rw [hr]
  unfold proj normed
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1]

theorem conv_at (X : Vec Ideal S4x4096x1024 .f32) (L : Vec Ideal S16x1024 .f32) (G : Vec Ideal S2x1024 .f32) (W : Vec Ideal S1x1024x4112 .f32) (b : Fin 4) (q : Fin 3) (j : Fin 3072) :
    val_main_v23 (F := Ideal) X L G W (ix4 0 b q j) = val_main_v19 (F := Ideal) X L G W (ix3 b ⟨4109 + q.val, by omega⟩ ⟨j.val, by omega⟩) := by
  pointwise [val_main_v23, val_main_v22, val_main_v21, val_main_v20]
  rw [dif_pos (by omega)]
  exact congrArg (fun p => val_main_v19 (F := Ideal) X L G W (ix3 b p ⟨j.val, by omega⟩)) (Fin.ext (by show 4112 + q.val - 3 = 4109 + q.val; omega))

end Cert.GdnInRefIdeal.Val

end
-- ==== Proof.GdnIn.Claims.lean ====
/-
  The claims of the recurrent layer's input projection: the runs are complete, and the results are the reference's.
-/
module

public import proofs.«01_k».proof.Defs
public import proofs.«01_k».proof.Proof.Gen.GdnIn.Frame
public import proofs.«01_k».proof.Proof.GdnIn.Value
public import proofs.«01_k».proof.Proof.GdnIn.Ref

@[expose] public section

noncomputable section

namespace Cert.GdnInClaims

open Idealize.ShloMosaic Idealize.ShloMosaic.TcCoe Idealize.SL.Sem
open Cert.Normed

theorem frame_p : Cert.quiescent_GdnIn := fun m ρ _ => Cert.GdnIn.Gen.frame m ρ

theorem frame_pi : Cert.quiescent_GdnInIdeal := fun m ρ _ => Cert.GdnInIdeal.Gen.frame m ρ

theorem preserves : Cert.preserves_GdnIn_GdnInIdeal := trivial

theorem frame_ri : Cert.quiescent_GdnInRefIdeal := fun m ρ _ =>
  (θ_run Cert.GdnInRefIdeal.defs _ _).mono (fun r h => ⟨fun c => (h c).2.2, sem_eq_zero_of_no_sems (by decide) r.2⟩)
    (Cert.GdnInRefIdeal.Value.run (F := Ideal) m ρ)

/-- The two results agree with the reference's, element by element. -/
theorem z_eq (m : (ℓ : Loc Cert.GdnInIdeal.nD Cert.GdnInIdeal.τ Cert.GdnInIdeal.sig) → Buf (Elt Ideal) ℓ) (c : Dev Cert.GdnInIdeal.nD) :
    Cert.GdnInRefIdeal.Read.val_main_v19 (F := Ideal) (Cert.GdnInIdeal.Val.inp m c) (Cert.GdnInIdeal.Val.lead m c) (Cert.GdnInIdeal.Val.scl m c) (Cert.GdnInIdeal.Val.mat m c) = Cert.GdnInIdeal.Val.resZ m c :=
  ext3 fun b p j => (Cert.GdnInRefIdeal.Val.z_at _ _ _ _ b p j).trans (Cert.GdnInIdeal.Val.resZ_at m c b p j).symm

theorem conv_eq (m : (ℓ : Loc Cert.GdnInIdeal.nD Cert.GdnInIdeal.τ Cert.GdnInIdeal.sig) → Buf (Elt Ideal) ℓ) (c : Dev Cert.GdnInIdeal.nD) :
    Cert.GdnInRefIdeal.Read.val_main_v23 (F := Ideal) (Cert.GdnInIdeal.Val.inp m c) (Cert.GdnInIdeal.Val.lead m c) (Cert.GdnInIdeal.Val.scl m c) (Cert.GdnInIdeal.Val.mat m c) = Cert.GdnInIdeal.Val.resConv m c :=
  ext4_one fun b q j => (Cert.GdnInRefIdeal.Val.conv_at _ _ _ _ b q j).trans
    ((Cert.GdnInRefIdeal.Val.z_at _ _ _ _ b _ _).trans (Cert.GdnInIdeal.Val.resConv_at m c b q j).symm)

theorem algebraic : Cert.algebraic_GdnInIdeal_GdnInRefIdeal := by
  intro m ρ m' ρ' _ hagree
  refine ⟨_, _, Cert.GdnInIdeal.Val.value m ρ, ?_⟩
  refine (θ_run Cert.GdnInRefIdeal.defs _ _).mono
    (fun r h c => ⟨(h c).1.trans ?_, (h c).2.1.trans ?_, (h c).2.2⟩) (Cert.GdnInRefIdeal.Value.run (F := Ideal) m' ρ')
  · rw [Cert.GdnInRefIdeal.Read.val_main_v19_eq, (hagree c).1, (hagree c).2.1, (hagree c).2.2.1, (hagree c).2.2.2]
    exact z_eq m c
  · rw [Cert.GdnInRefIdeal.Read.val_main_v23_eq, (hagree c).1, (hagree c).2.1, (hagree c).2.2.1, (hagree c).2.2.2]
    exact conv_eq m c

end Cert.GdnInClaims

end
-- ==== Proof.FoxIn.Value.lean ====
/-
  The attention's input projection: every block of 256 rows is normalised and multiplied with the padded matrix, so
  the array the launch leaves holds at (n, j) the projection of row n onto column j.
-/
module

public import proofs.«01_k».proof.Proof.Normed
public import proofs.«01_k».proof.Proof.Gen.FoxInIdeal.Frame
public import Idealize.ShloMosaic.Lib.Pipeline.ValueKit
public import Idealize.ShloMosaic.Lib.Pipeline.Covers

@[expose] public section

set_option maxRecDepth 16384

noncomputable section

namespace Cert.FoxInIdeal.Val

open Idealize.ShloMosaic Idealize.ShloMosaic.TcCoe Idealize.SL.Sem
open Idealize.ShloMosaic.Pipeline (Dat Cfg Window)
open Cert.FoxInIdeal Cert.FoxInIdeal.Gen
open Cert.Normed

theorem pay_at (X : Vec Ideal S256x1024 .f32) (G : Vec Ideal S1x1024 .f32) (W : Vec Ideal S1024x3200 .bf16) (r : Fin 256) (j : Fin 3200) :
    k0_pay1 X G W (ix2 r j) = proj (fun k => X (ix2 r k)) (fun k => G (ix2 0 k)) (fun k => W (ix2 k j)) := by
  unfold proj normed
  pointwise [k0_pay1]

variable (m : (ℓ : Loc nD τ sig) → Buf (Elt Ideal) ℓ) (ρ : Dev nD → PrngReg)

/-- The row of the hidden state, the scale, and the matrix, as launched. -/
abbrev hid (c : Dev nD) : (⟨2, ![16896, 1024]⟩ : Shape).Idx → EReal := m (c.tc.loc main_arg0)
abbrev scl (c : Dev nD) : (⟨2, ![2, 1024]⟩ : Shape).Idx → EReal := m (c.tc.loc main_arg1)
abbrev mat (c : Dev nD) : (⟨3, ![1, 1024, 3080]⟩ : Shape).Idx → EReal := m (c.tc.loc main_arg2)

theorem scale_at (c : Dev nD) (k : Fin 1024) : V m c main_v5 (ix2 0 k) = scl m c (ix2 1 k) := by
  unfold_abbrev_sides
  simp only [List.flatten_cons, List.flatten_nil, List.append_nil, List.cons_append, List.nil_append]
  after_results
  pointwise

theorem matrix_at (c : Dev nD) (k : Fin 1024) (j : Fin 3080) : V m c main_v2 (ix2 k ⟨j.val, by omega⟩) = mat m c (ix3 0 k j) := by
  unfold_abbrev_sides
  simp only [List.flatten_cons, List.flatten_nil, List.append_nil, List.cons_append, List.nil_append]
  after_results
  simp -implicitDefEqProofs only [StableHlo.TRef.toBuf, StableHlo.TRef.ofBuf, cast_cast, cast_eq]
  pointwise

theorem place_0 : ∀ t : Fin cfg0.N, win0_0.index t = ![t.val, 0] :=
  (by decide +kernel : ∀ t : Fin grid0.N, win0_0.index t = ![t.val, 0])
theorem place_1 : ∀ t : Fin cfg0.N, win0_1.index t = ![0, 0] :=
  (by decide +kernel : ∀ t : Fin grid0.N, win0_1.index t = ![0, 0])
theorem place_2 : ∀ t : Fin cfg0.N, win0_2.index t = ![0, 0] :=
  (by decide +kernel : ∀ t : Fin grid0.N, win0_2.index t = ![0, 0])
theorem place_3 : ∀ t : Fin cfg0.N, win0_3.index t = ![t.val, 0] :=
  (by decide +kernel : ∀ t : Fin grid0.N, win0_3.index t = ![t.val, 0])

theorem pts (t : Fin cfg0.N) : t.val < 66 := t.isLt

theorem rows_at (c : Dev nD) (t : Fin cfg0.N) (r : Fin 256) (k : Fin 1024) :
    iblk m c 0 t (ix2 r k) = hid m c (ix2 ⟨256 * t.val + r.val, by have := pts t; omega⟩ k) := by
  blk_ext [iblk, V, place_0 t]

theorem scaleBlock_at (c : Dev nD) (t : Fin cfg0.N) (k : Fin 1024) : iblk m c 1 t (ix2 0 k) = V m c main_v5 (ix2 0 k) := by
  blk_ext [iblk, place_1 t]

theorem matrixBlock_at (c : Dev nD) (t : Fin cfg0.N) (k : Fin 1024) (j : Fin 3200) : iblk m c 2 t (ix2 k j) = V m c main_v2 (ix2 k j) := by
  blk_ext [iblk, place_2 t]

/-- The launch's array at an element. -/
def zAt (c : Dev nD) (n : Fin 16896) (j : Fin 3200) : EReal :=
  proj (fun k => hid m c (ix2 n k)) (fun k => V m c main_v5 (ix2 0 k)) (fun k => V m c main_v2 (ix2 k j))

theorem block_at (c : Dev nD) (t : Fin cfg0.N) (r : Fin 256) (j : Fin 3200) :
    out0_3 (iblk m c 0 t) (iblk m c 1 t) (iblk m c 2 t) (ix2 r j) = zAt m c ⟨256 * t.val + r.val, by have := pts t; omega⟩ j := by
  unfold out0_3 zAt
  rw [View.canon_cons_unit_zero (by funext a; fin_cases a <;> rfl), View.ld_unit_zero (by funext a; fin_cases a <;> rfl), View.ld_unit_zero (by funext a; fin_cases a <;> rfl),
    View.ld_unit_zero (by funext a; fin_cases a <;> rfl), pay_at]
  simp only [rows_at, scaleBlock_at, matrixBlock_at]

theorem row_place (a n : ℕ) : (![a, 0] : Fin 2 → ℕ) 0 * 256 + n = 256 * a + n := by simp [mul_comm]
theorem col_place (a n : ℕ) : (![a, 0] : Fin 2 → ℕ) 1 * 3200 + n = n := by simp

theorem launch_at (c : Dev nD) (i : (⟨2, ![16896, 3200]⟩ : Shape).Idx) : (dats m 0 c).arrAt 3 cfg0.N i = zAt m c (i 0) (i 1) := by
  refine (dats m 0 c).arrAt_forall_of_covers 3
    (fun (j : (⟨2, ![16896, 3200]⟩ : Shape).Idx) (v : EReal) => v = zAt m c (j 0) (j 1)) (by decide +kernel) (fun t hf y => ?_) i
  blk_simp
  rw [after0_3]
  refine (congrArg (out0_3 (iblk m c 0 t) (iblk m c 1 t) (iblk m c 2 t)) (?_ : y = ix2 (y 0) (y 1))).trans ((block_at m c t (y 0) (y 1)).trans ?_)
  · funext a
    match a with
    | ⟨0, _⟩ => rfl
    | ⟨1, _⟩ => rfl
  · congr 1
    · apply Fin.ext
      blk_simp
      rw [place_3 t]
      exact (row_place t.val (y 0).val).symm
    · apply Fin.ext
      blk_simp
      rw [place_3 t]
      exact (col_place t.val (y 1).val).symm

/-- The launch's array among the buffers after it. -/
theorem array_eq (c : Dev nD) : Pipeline.withArrays (cfgs 0).spec c (V0 m c) (fun w => (dats m 0 c).arrAt w (cfgs 0).N) (Proc.devRef .tc main_v6)
    = (dats m 0 c).arrAt 3 cfg0.N := (dats m 0 c).withArrays_arrAt (fun _ _ hne h => absurd (launch0.win.arr_inj h) hne) (V0 m c) (A_eq m c) 3

/-- What the returned arrays hold, over the launch's rows. -/
theorem tail_z (c : Dev nD) (b : Fin 4) (p : Fin 4112) (j : Fin 3080) :
    Pipeline.afterTail₀ cfgs (dats m) 0 (V0 m) [hostOps1] c main_v13 (ix3 b p j) = zAt m c ⟨b.val * 4224 + (112 + p.val), by omega⟩ ⟨j.val, by omega⟩ := by
  unfold Pipeline.afterTail₀
  change StableHlo.after hostOps1 _ (Proc.devRef .tc main_v13) (ix3 b p j) = _
  after_results
  rw [array_eq]
  pointwise
  exact launch_at m c (ix2 ⟨b.val * 4224 + (112 + p.val), by omega⟩ ⟨j.val, by omega⟩)

theorem tail_k (c : Dev nD) (b : Fin 4) (p : Fin 4112) (h : Fin 8) (d : Fin 128) :
    Pipeline.afterTail₀ cfgs (dats m) 0 (V0 m) [hostOps1] c main_v10 (ix5 0 b p h d)
      = zAt m c ⟨b.val * 4224 + (112 + p.val), by omega⟩ ⟨1024 + (h.val * 128 + d.val), by omega⟩ := by
  unfold Pipeline.afterTail₀
  change StableHlo.after hostOps1 _ (Proc.devRef .tc main_v10) (ix5 0 b p h d) = _
  after_results
  rw [array_eq]
  pointwise
  exact launch_at m c (ix2 ⟨b.val * 4224 + (112 + p.val), by omega⟩ ⟨1024 + (h.val * 128 + d.val), by omega⟩)

theorem tail_v (c : Dev nD) (b : Fin 4) (p : Fin 4112) (h : Fin 8) (d : Fin 128) :
    Pipeline.afterTail₀ cfgs (dats m) 0 (V0 m) [hostOps1] c main_v12 (ix5 0 b p h d)
      = zAt m c ⟨b.val * 4224 + (112 + p.val), by omega⟩ ⟨2048 + (h.val * 128 + d.val), by omega⟩ := by
  unfold Pipeline.afterTail₀
  change StableHlo.after hostOps1 _ (Proc.devRef .tc main_v12) (ix5 0 b p h d) = _
  after_results
  rw [array_eq]
  pointwise
  refine (launch_at m c (ix2 ⟨b.val * 4224 + (112 + p.val), by omega⟩ ⟨1024 + (1024 + (h.val * 128 + d.val)), by omega⟩)).trans ?_
  exact congrArg (zAt m c _) (Fin.ext (by show 1024 + (1024 + (h.val * 128 + d.val)) = 2048 + (h.val * 128 + d.val); omega))

/-! The results as arrays. -/

def resZ (c : Dev nD) : (⟨3, ![4, 4112, 3080]⟩ : Shape).Idx → EReal := Pipeline.afterTail₀ cfgs (dats m) 0 (V0 m) [hostOps1] c main_v13
def resK (c : Dev nD) : (⟨5, ![1, 4, 4112, 8, 128]⟩ : Shape).Idx → EReal := Pipeline.afterTail₀ cfgs (dats m) 0 (V0 m) [hostOps1] c main_v10
def resV (c : Dev nD) : (⟨5, ![1, 4, 4112, 8, 128]⟩ : Shape).Idx → EReal := Pipeline.afterTail₀ cfgs (dats m) 0 (V0 m) [hostOps1] c main_v12

/-- A column of the result: the launched matrix's column there. -/
theorem zAt_col (c : Dev nD) (n : Fin 16896) (j : Fin 3080) :
    zAt m c n ⟨j.val, by omega⟩ = proj (fun k => hid m c (ix2 n k)) (fun k => scl m c (ix2 1 k)) (fun k => mat m c (ix3 0 k j)) := by
  have hs : (fun k => V m c main_v5 (ix2 0 k)) = fun k => scl m c (ix2 1 k) := funext fun k => scale_at m c k
  have hm : (fun k => V m c main_v2 (ix2 k ⟨j.val, by omega⟩)) = fun k => mat m c (ix3 0 k j) := funext fun k => matrix_at m c k j
  unfold zAt
  rw [hs, hm]

theorem resZ_at (c : Dev nD) (b : Fin 4) (p : Fin 4112) (j : Fin 3080) :
    resZ m c (ix3 b p j) = proj (fun k => hid m c (ix2 ⟨b.val * 4224 + (112 + p.val), by omega⟩ k)) (fun k => scl m c (ix2 1 k))
      (fun k => mat m c (ix3 0 k j)) := (tail_z m c b p j).trans (zAt_col m c _ j)

theorem resK_at (c : Dev nD) (b : Fin 4) (p : Fin 4112) (h : Fin 8) (d : Fin 128) :
    resK m c (ix5 0 b p h d) = proj (fun k => hid m c (ix2 ⟨b.val * 4224 + (112 + p.val), by omega⟩ k)) (fun k => scl m c (ix2 1 k))
      (fun k => mat m c (ix3 0 k ⟨1024 + (h.val * 128 + d.val), by omega⟩)) :=
  (tail_k m c b p h d).trans (zAt_col m c _ ⟨1024 + (h.val * 128 + d.val), by omega⟩)

theorem resV_at (c : Dev nD) (b : Fin 4) (p : Fin 4112) (h : Fin 8) (d : Fin 128) :
    resV m c (ix5 0 b p h d) = proj (fun k => hid m c (ix2 ⟨b.val * 4224 + (112 + p.val), by omega⟩ k)) (fun k => scl m c (ix2 1 k))
      (fun k => mat m c (ix3 0 k ⟨2048 + (h.val * 128 + d.val), by omega⟩)) :=
  (tail_v m c b p h d).trans (zAt_col m c _ ⟨2048 + (h.val * 128 + d.val), by omega⟩)

/-- Every run ends with the three results, the arguments unchanged. -/
theorem value :
    θ_run defs (onTc (τ := τ) (main (F := Ideal))) ⟨m, fun _ => 0, ρ⟩ (fun r => ∀ c : Dev nD,
      r.2.mem ((c.tc : Thread nD τ).loc main_v13) = resZ m c
      ∧ r.2.mem ((c.tc : Thread nD τ).loc main_v10) = resK m c
      ∧ r.2.mem ((c.tc : Thread nD τ).loc main_v12) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).2 main_v13 (by decide), (h.1 c).2 main_v10 (by decide), (h.1 c).2 main_v12 (by decide), h.2.1 c⟩)
    (θ_run_and (run_main m ρ) (frame m ρ))

end Cert.FoxInIdeal.Val

end
-- ==== Proof.FoxIn.Ref.lean ====
/-
  The reference of the forgetting-attention projection, entry by entry: the same scaled and projected row.
-/
module

public import proofs.«01_k».proof.Proof.Normed
public import proofs.«01_k».proof.Proof.Gen.FoxInRefIdeal.Run
public import proofs.«01_k».proof.Proof.Gen.FoxInRefIdeal.Read
public import Idealize.ShloMosaic.Lib.Pointwise

@[expose] public section

noncomputable section

namespace Cert.FoxInRefIdeal.Val

open Idealize.ShloMosaic Idealize.ShloMosaic.TcCoe
open Cert.FoxInRefIdeal
open Cert.FoxInRefIdeal.Read
open Cert.Normed

theorem z_at (H : Vec Ideal S16896x1024 .f32) (G : Vec Ideal S2x1024 .f32) (W : Vec Ideal S1x1024x3080 .f32) (b : Fin 4) (p : Fin 4112) (j : Fin 3080) :
    val_main_v18 (F := Ideal) H G W (ix3 b p j)
      = proj (fun k => H (ix2 ⟨b.val * 4224 + (112 + p.val), by omega⟩ k)) (fun k => G (ix2 1 k)) (fun k => W (ix3 0 k j)) := by
  unfold proj normed
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem k_at (H : Vec Ideal S16896x1024 .f32) (G : Vec Ideal S2x1024 .f32) (W : Vec Ideal S1x1024x3080 .f32) (b : Fin 4) (p : Fin 4112) (h : Fin 8) (d : Fin 128) :
    val_main_v23 (F := Ideal) H G W (ix5 0 b p h d) = val_main_v18 (F := Ideal) H G W (ix3 b p ⟨1024 + (h.val * 128 + d.val), by omega⟩) := by
  pointwise [val_main_v23, val_main_v20, val_main_v19]

theorem v_at (H : Vec Ideal S16896x1024 .f32) (G : Vec Ideal S2x1024 .f32) (W : Vec Ideal S1x1024x3080 .f32) (b : Fin 4) (p : Fin 4112) (h : Fin 8) (d : Fin 128) :
    val_main_v24 (F := Ideal) H G W (ix5 0 b p h d) = val_main_v18 (F := Ideal) H G W (ix3 b p ⟨2048 + (h.val * 128 + d.val), by omega⟩) := by
  pointwise [val_main_v24, val_main_v22, val_main_v21]

end Cert.FoxInRefIdeal.Val

end
-- ==== Proof.FoxIn.Claims.lean ====
/-
  The claims of the projection into queries, keys, values and gates: the runs are complete, and the results are the reference's.
-/
module

public import proofs.«01_k».proof.Defs
public import proofs.«01_k».proof.Proof.Gen.FoxIn.Frame
public import proofs.«01_k».proof.Proof.FoxIn.Value
public import proofs.«01_k».proof.Proof.FoxIn.Ref

@[expose] public section

noncomputable section

namespace Cert.FoxInClaims

open Idealize.ShloMosaic Idealize.ShloMosaic.TcCoe Idealize.SL.Sem
open Cert.Normed

theorem frame_p : Cert.quiescent_FoxIn := fun m ρ _ => Cert.FoxIn.Gen.frame m ρ

theorem frame_pi : Cert.quiescent_FoxInIdeal := fun m ρ _ => Cert.FoxInIdeal.Gen.frame m ρ

theorem preserves : Cert.preserves_FoxIn_FoxInIdeal := trivial

theorem frame_ri : Cert.quiescent_FoxInRefIdeal := fun m ρ _ =>
  (θ_run Cert.FoxInRefIdeal.defs _ _).mono (fun r h => ⟨fun c => (h c).2.2.2, sem_eq_zero_of_no_sems (by decide) r.2⟩)
    (Cert.FoxInRefIdeal.Value.run (F := Ideal) m ρ)

/-- The three results agree with the reference's, element by element. -/
theorem z_eq (m : (ℓ : Loc Cert.FoxInIdeal.nD Cert.FoxInIdeal.τ Cert.FoxInIdeal.sig) → Buf (Elt Ideal) ℓ) (c : Dev Cert.FoxInIdeal.nD) :
    Cert.FoxInRefIdeal.Read.val_main_v18 (F := Ideal) (Cert.FoxInIdeal.Val.hid m c) (Cert.FoxInIdeal.Val.scl m c) (Cert.FoxInIdeal.Val.mat m c)
      = Cert.FoxInIdeal.Val.resZ m c :=
  ext3 fun b p j => (Cert.FoxInRefIdeal.Val.z_at _ _ _ b p j).trans (Cert.FoxInIdeal.Val.resZ_at m c b p j).symm

theorem k_eq (m : (ℓ : Loc Cert.FoxInIdeal.nD Cert.FoxInIdeal.τ Cert.FoxInIdeal.sig) → Buf (Elt Ideal) ℓ) (c : Dev Cert.FoxInIdeal.nD) :
    Cert.FoxInRefIdeal.Read.val_main_v23 (F := Ideal) (Cert.FoxInIdeal.Val.hid m c) (Cert.FoxInIdeal.Val.scl m c) (Cert.FoxInIdeal.Val.mat m c)
      = Cert.FoxInIdeal.Val.resK m c :=
  ext5_one fun b p h d => (Cert.FoxInRefIdeal.Val.k_at _ _ _ b p h d).trans
    ((Cert.FoxInRefIdeal.Val.z_at _ _ _ b p _).trans (Cert.FoxInIdeal.Val.resK_at m c b p h d).symm)

theorem v_eq (m : (ℓ : Loc Cert.FoxInIdeal.nD Cert.FoxInIdeal.τ Cert.FoxInIdeal.sig) → Buf (Elt Ideal) ℓ) (c : Dev Cert.FoxInIdeal.nD) :
    Cert.FoxInRefIdeal.Read.val_main_v24 (F := Ideal) (Cert.FoxInIdeal.Val.hid m c) (Cert.FoxInIdeal.Val.scl m c) (Cert.FoxInIdeal.Val.mat m c)
      = Cert.FoxInIdeal.Val.resV m c :=
  ext5_one fun b p h d => (Cert.FoxInRefIdeal.Val.v_at _ _ _ b p h d).trans
    ((Cert.FoxInRefIdeal.Val.z_at _ _ _ b p _).trans (Cert.FoxInIdeal.Val.resV_at m c b p h d).symm)

theorem algebraic : Cert.algebraic_FoxInIdeal_FoxInRefIdeal := by
  intro m ρ m' ρ' _ hagree
  refine ⟨_, _, _, Cert.FoxInIdeal.Val.value m ρ, ?_⟩
  refine (θ_run Cert.FoxInRefIdeal.defs _ _).mono
    (fun r h c => ⟨(h c).1.trans ?_, (h c).2.1.trans ?_, (h c).2.2.1.trans ?_, (h c).2.2.2⟩) (Cert.FoxInRefIdeal.Value.run (F := Ideal) m' ρ')
  · rw [Cert.FoxInRefIdeal.Read.val_main_v18_eq, (hagree c).1, (hagree c).2.1, (hagree c).2.2]
    exact z_eq m c
  · rw [Cert.FoxInRefIdeal.Read.val_main_v23_eq, (hagree c).1, (hagree c).2.1, (hagree c).2.2]
    exact k_eq m c
  · rw [Cert.FoxInRefIdeal.Read.val_main_v24_eq, (hagree c).1, (hagree c).2.1, (hagree c).2.2]
    exact v_eq m c

end Cert.FoxInClaims

end
-- ==== Proof.PeerQ.Value.lean ====
/-
  The query projection: every block of 256 rows is normalised, multiplied with the matrix, and stored in 16 slabs of
  128 columns; the normalised rows are stored too.
-/
module

public import proofs.«01_k».proof.Proof.Normed
public import proofs.«01_k».proof.Proof.Gen.PeerQIdeal.Frame
public import Idealize.ShloMosaic.Lib.Pipeline.ValueKit
public import Idealize.ShloMosaic.Lib.Pipeline.Covers

@[expose] public section

set_option maxRecDepth 16384

noncomputable section

namespace Cert.PeerQIdeal.Val

open Idealize.ShloMosaic Idealize.ShloMosaic.TcCoe Idealize.SL.Sem
open Idealize.ShloMosaic.Pipeline (Dat Cfg Window)
open Cert.PeerQIdeal Cert.PeerQIdeal.Gen
open Cert.Normed

theorem norm_at (X : Vec Ideal S256x1024 .f32) (G : Vec Ideal S1x1024 .f32) (r : Fin 256) (k : Fin 1024) :
    k0_pay7 X G (ix2 r k) = normed (fun k => X (ix2 r k)) (fun k => G (ix2 0 k)) k := by
  unfold normed
  pointwise [k0_pay7]

theorem pay_at (X : Vec Ideal S256x1024 .f32) (G : Vec Ideal S1x1024 .f32) (W : Vec Ideal S1024x2048 .bf16) (r : Fin 256) (j : Fin 2048) :
    k0_pay8 X G W (ix2 r j) = proj (fun k => X (ix2 r k)) (fun k => G (ix2 0 k)) (fun k => W (ix2 k j)) := by
  unfold proj
  simp only [← norm_at]
  pointwise [k0_pay8]

/-- A block's columns, cut into slabs of 128. -/
def slabs (Y : (⟨2, ![256, 2048]⟩ : Shape).Idx → EReal) (i : (⟨3, ![16, 256, 128]⟩ : Shape).Idx) : EReal :=
  Y (ix2 ⟨(i 1).val, (i 1).isLt⟩ ⟨128 * (i 0).val + (i 2).val, by
    have h0 : (i 0).val < 16 := (i 0).isLt
    have h2 : (i 2).val < 128 := (i 2).isLt
    omega⟩)

theorem slab_piece (Y : FVec Ideal S256x2048 .f32) (s o : ℕ) (ho : o = 128 * s) (hs : S256x2048.Slices ![0, o] S256x128)
    (inb : ∀ a, (![s, 0, 0] : Fin 3 → Nat) a + S1x256x128.size a ≤ S16x256x128.size a)
    (x : (Rect.unit (s := S16x256x128) ![s, 0, 0] S1x256x128.size inb).shape.Idx) :
    shapeCast S1x256x128 (extractStridedSlice S256x128 ![0, o] Y hs) shapeCasts_S256x128_S1x256x128 x
      = slabs Y ((Rect.unit (s := S16x256x128) ![s, 0, 0] S1x256x128.size inb).emb x) := by
  have hb : s + 1 ≤ 16 := inb 0
  have key : ∀ (r : Fin 256) (d : Fin 128), shapeCast S1x256x128 (extractStridedSlice S256x128 ![0, o] Y hs) shapeCasts_S256x128_S1x256x128 (ix3 0 r d)
      = Y (ix2 r ⟨o + d.val, by omega⟩) := by
    intro r d
    pointwise
  refine (congrArg (shapeCast S1x256x128 (extractStridedSlice S256x128 ![0, o] Y hs) shapeCasts_S256x128_S1x256x128)
    (eta3_one (b := 256) (c := 128) x)).trans ((key (x 1) (x 2)).trans ?_)
  unfold slabs
  refine congrArg Y (funext fun a => ?_)
  have e0 := ValueKit.rect_emb_unit_val (s := S16x256x128) ![s, 0, 0] S1x256x128.size inb x 0
  have e1 := ValueKit.rect_emb_unit_val (s := S16x256x128) ![s, 0, 0] S1x256x128.size inb x 1
  have e2 := ValueKit.rect_emb_unit_val (s := S16x256x128) ![s, 0, 0] S1x256x128.size inb x 2
  have z0 : (x 0).val = 0 := Nat.lt_one_iff.mp (x 0).isLt
  match a with
  | ⟨0, _⟩ => exact Fin.ext ((Nat.zero_add (x 1).val).symm.trans e1.symm)
  | ⟨1, _⟩ => exact Fin.ext ((show o + (x 2).val = 128 * (s + (x 0).val) + (0 + (x 2).val) by omega).trans
      (congrArg₂ (fun a b : ℕ => 128 * a + b) e0.symm e2.symm))

theorem block_slabs (x0 : Vec Ideal S256x1024 .f32) (x1 : Vec Ideal S1x1024 .f32) (x2 : Vec Ideal S1024x2048 .bf16) (y : S16x256x128.Idx) :
    out0_3 x0 x1 x2 y = slabs (k0_pay21 x0 x1 x2) y := by
  unfold out0_3
  refine View.canon_apply_of_pieces (Val := Elt Ideal) (e := .f32) (slabs (k0_pay21 x0 x1 x2)) _ ?_ y (cover0_3 _ _ _ _ _ _ _ _ _ _ _ _ _ _ _ _ y)
  simp only [List.forall_mem_cons]
  exact ⟨slab_piece (k0_pay21 x0 x1 x2) 15 1920 rfl slices_S256x2048_o0_1920_S256x128 inb_S16x256x128_S1x256x128_15_0_0,
    slab_piece (k0_pay21 x0 x1 x2) 14 1792 rfl slices_S256x2048_o0_1792_S256x128 inb_S16x256x128_S1x256x128_14_0_0,
    slab_piece (k0_pay21 x0 x1 x2) 13 1664 rfl slices_S256x2048_o0_1664_S256x128 inb_S16x256x128_S1x256x128_13_0_0,
    slab_piece (k0_pay21 x0 x1 x2) 12 1536 rfl slices_S256x2048_o0_1536_S256x128 inb_S16x256x128_S1x256x128_12_0_0,
    slab_piece (k0_pay21 x0 x1 x2) 11 1408 rfl slices_S256x2048_o0_1408_S256x128 inb_S16x256x128_S1x256x128_11_0_0,
    slab_piece (k0_pay21 x0 x1 x2) 10 1280 rfl slices_S256x2048_o0_1280_S256x128 inb_S16x256x128_S1x256x128_10_0_0,
    slab_piece (k0_pay21 x0 x1 x2) 9 1152 rfl slices_S256x2048_o0_1152_S256x128 inb_S16x256x128_S1x256x128_9_0_0,
    slab_piece (k0_pay21 x0 x1 x2) 8 1024 rfl slices_S256x2048_o0_1024_S256x128 inb_S16x256x128_S1x256x128_8_0_0,
    slab_piece (k0_pay21 x0 x1 x2) 7 896 rfl slices_S256x2048_o0_896_S256x128 inb_S16x256x128_S1x256x128_7_0_0,
    slab_piece (k0_pay21 x0 x1 x2) 6 768 rfl slices_S256x2048_o0_768_S256x128 inb_S16x256x128_S1x256x128_6_0_0,
    slab_piece (k0_pay21 x0 x1 x2) 5 640 rfl slices_S256x2048_o0_640_S256x128 inb_S16x256x128_S1x256x128_5_0_0,
    slab_piece (k0_pay21 x0 x1 x2) 4 512 rfl slices_S256x2048_o0_512_S256x128 inb_S16x256x128_S1x256x128_4_0_0,
    slab_piece (k0_pay21 x0 x1 x2) 3 384 rfl slices_S256x2048_o0_384_S256x128 inb_S16x256x128_S1x256x128_3_0_0,
    slab_piece (k0_pay21 x0 x1 x2) 2 256 rfl slices_S256x2048_o0_256_S256x128 inb_S16x256x128_S1x256x128_2_0_0,
    slab_piece (k0_pay21 x0 x1 x2) 1 128 rfl slices_S256x2048_o0_128_S256x128 inb_S16x256x128_S1x256x128_1_0_0,
    slab_piece (k0_pay21 x0 x1 x2) 0 0 rfl slices_S256x2048_o0_0_S256x128 inb_S16x256x128_S1x256x128_0_0_0, fun _ h => absurd h List.not_mem_nil⟩

variable (m : (ℓ : Loc nD τ sig) → Buf (Elt Ideal) ℓ) (ρ : Dev nD → PrngReg)

/-- The rows, the scale, and the matrix, as launched. -/
abbrev hid (c : Dev nD) : (⟨2, ![16896, 1024]⟩ : Shape).Idx → EReal := m (c.tc.loc main_arg0)
abbrev scl (c : Dev nD) : (⟨1, ![1024]⟩ : Shape).Idx → EReal := m (c.tc.loc main_arg1)
abbrev mat (c : Dev nD) : (⟨2, ![1024, 2048]⟩ : Shape).Idx → EReal := m (c.tc.loc main_arg2)

theorem scale_at (c : Dev nD) (k : Fin 1024) : V m c main_v1 (ix2 0 k) = scl m c (ix1 k) := by
  unfold_abbrev_sides
  simp only [List.flatten_cons, List.flatten_nil, List.append_nil, List.cons_append, List.nil_append]
  after_results
  pointwise

theorem matrix_at (c : Dev nD) (k : Fin 1024) (j : Fin 2048) : V m c main_v0 (ix2 k j) = mat m c (ix2 k j) := by
  unfold_abbrev_sides
  simp only [List.flatten_cons, List.flatten_nil, List.append_nil, List.cons_append, List.nil_append]
  after_results
  pointwise

theorem place_0 : ∀ t : Fin cfg0.N, win0_0.index t = ![t.val, 0] :=
  (by decide +kernel : ∀ t : Fin grid0.N, win0_0.index t = ![t.val, 0])
theorem place_1 : ∀ t : Fin cfg0.N, win0_1.index t = ![0, 0] :=
  (by decide +kernel : ∀ t : Fin grid0.N, win0_1.index t = ![0, 0])
theorem place_2 : ∀ t : Fin cfg0.N, win0_2.index t = ![0, 0] :=
  (by decide +kernel : ∀ t : Fin grid0.N, win0_2.index t = ![0, 0])
theorem place_3 : ∀ t : Fin cfg0.N, win0_3.index t = ![0, t.val, 0] :=
  (by decide +kernel : ∀ t : Fin grid0.N, win0_3.index t = ![0, t.val, 0])
theorem place_4 : ∀ t : Fin cfg0.N, win0_4.index t = ![t.val, 0] :=
  (by decide +kernel : ∀ t : Fin grid0.N, win0_4.index t = ![t.val, 0])

theorem pts (t : Fin cfg0.N) : t.val < 66 := t.isLt

theorem rows_at (c : Dev nD) (t : Fin cfg0.N) (r : Fin 256) (k : Fin 1024) :
    iblk m c 0 t (ix2 r k) = hid m c (ix2 ⟨256 * t.val + r.val, by have := pts t; omega⟩ k) := by
  blk_ext [iblk, V, place_0 t]

theorem scaleBlock_at (c : Dev nD) (t : Fin cfg0.N) (k : Fin 1024) : iblk m c 1 t (ix2 0 k) = V m c main_v1 (ix2 0 k) := by
  blk_ext [iblk, place_1 t]

theorem matrixBlock_at (c : Dev nD) (t : Fin cfg0.N) (k : Fin 1024) (j : Fin 2048) : iblk m c 2 t (ix2 k j) = V m c main_v0 (ix2 k j) := by
  blk_ext [iblk, place_2 t]

/-- The two arrays at an element. -/
def qAt (c : Dev nD) (n : Fin 16896) (j : Fin 2048) : EReal :=
  proj (fun k => hid m c (ix2 n k)) (fun k => scl m c (ix1 k)) (fun k => mat m c (ix2 k j))
def nAt (c : Dev nD) (n : Fin 16896) (k : Fin 1024) : EReal :=
  normed (fun k => hid m c (ix2 n k)) (fun k => scl m c (ix1 k)) k

theorem block_at (c : Dev nD) (t : Fin cfg0.N) (r : Fin 256) (j : Fin 2048) :
    k0_pay21 (iblk m c 0 t) (iblk m c 1 t) (iblk m c 2 t) (ix2 r j) = qAt m c ⟨256 * t.val + r.val, by have := pts t; omega⟩ j := by
  have hr : (fun k => iblk m c 0 t (ix2 r k)) = fun k => hid m c (ix2 ⟨256 * t.val + r.val, by have := pts t; omega⟩ k) :=
    funext fun k => rows_at m c t r k
  have hs : (fun k => iblk m c 1 t (ix2 0 k)) = fun k => scl m c (ix1 k) := funext fun k => (scaleBlock_at m c t k).trans (scale_at m c k)
  have hm : (fun k => iblk m c 2 t (ix2 k j)) = fun k => mat m c (ix2 k j) := funext fun k => (matrixBlock_at m c t k j).trans (matrix_at m c k j)
  unfold k0_pay21 qAt
  rw [View.ld_unit_zero (by funext a; fin_cases a <;> rfl), View.ld_unit_zero (by funext a; fin_cases a <;> rfl),
    View.ld_unit_zero (by funext a; fin_cases a <;> rfl), pay_at, hr, hs, hm]

theorem normBlock_at (c : Dev nD) (t : Fin cfg0.N) (r : Fin 256) (k : Fin 1024) :
    out0_4 (iblk m c 0 t) (iblk m c 1 t) (iblk m c 2 t) (ix2 r k) = nAt m c ⟨256 * t.val + r.val, by have := pts t; omega⟩ k := by
  have hr : (fun k => iblk m c 0 t (ix2 r k)) = fun k => hid m c (ix2 ⟨256 * t.val + r.val, by have := pts t; omega⟩ k) :=
    funext fun k => rows_at m c t r k
  have hs : (fun k => iblk m c 1 t (ix2 0 k)) = fun k => scl m c (ix1 k) := funext fun k => (scaleBlock_at m c t k).trans (scale_at m c k)
  unfold out0_4 nAt
  rw [View.canon_cons_unit_zero (by funext a; fin_cases a <;> rfl), View.ld_unit_zero (by funext a; fin_cases a <;> rfl),
    View.ld_unit_zero (by funext a; fin_cases a <;> rfl), norm_at, hr, hs]

theorem row_place (a n : ℕ) : (![a, 0] : Fin 2 → ℕ) 0 * 256 + n = 256 * a + n := by simp [mul_comm]
theorem col_place (a n : ℕ) : (![a, 0] : Fin 2 → ℕ) 1 * 1024 + n = n := by simp
theorem slab_place (a n : ℕ) : (![0, a, 0] : Fin 3 → ℕ) 0 * 16 + n = n := by simp
theorem mid_place (a n : ℕ) : (![0, a, 0] : Fin 3 → ℕ) 1 * 256 + n = 256 * a + n := by simp [mul_comm]
theorem lane_place (a n : ℕ) : (![0, a, 0] : Fin 3 → ℕ) 2 * 128 + n = n := by simp

theorem norms_at (c : Dev nD) (i : (⟨2, ![16896, 1024]⟩ : Shape).Idx) : (dats m 0 c).arrAt 4 cfg0.N i = nAt m c (i 0) (i 1) := by
  refine (dats m 0 c).arrAt_forall_of_covers 4
    (fun (j : (⟨2, ![16896, 1024]⟩ : Shape).Idx) (v : EReal) => v = nAt m c (j 0) (j 1)) (by decide +kernel) (fun t hf y => ?_) i
  blk_simp
  rw [after0_4]
  refine (congrArg (out0_4 (iblk m c 0 t) (iblk m c 1 t) (iblk m c 2 t)) (eta2 (a := 256) (b := 1024) y)).trans ((normBlock_at m c t (y 0) (y 1)).trans ?_)
  congr 1
  · apply Fin.ext
    blk_simp
    rw [place_4 t]
    exact (row_place t.val (y 0).val).symm
  · apply Fin.ext
    blk_simp
    rw [place_4 t]
    exact (col_place t.val (y 1).val).symm

/-- The slabs: the column of a slab's lane. -/
def laneCol (s : Fin 16) (d : Fin 128) : Fin 2048 := ⟨128 * s.val + d.val, by omega⟩

theorem launch_at (c : Dev nD) (i : (⟨3, ![16, 16896, 128]⟩ : Shape).Idx) : (dats m 0 c).arrAt 3 cfg0.N i = qAt m c (i 1) (laneCol (i 0) (i 2)) := by
  refine (dats m 0 c).arrAt_forall_of_covers 3
    (fun (j : (⟨3, ![16, 16896, 128]⟩ : Shape).Idx) (v : EReal) => v = qAt m c (j 1) (laneCol (j 0) (j 2))) (by decide +kernel) (fun t hf y => ?_) i
  blk_simp
  rw [after0_3]
  refine (block_slabs _ _ _ y).trans ((block_at m c t (y 1) (laneCol (y 0) (y 2))).trans ?_)
  congr 1
  · apply Fin.ext
    blk_simp
    rw [place_3 t]
    exact (mid_place t.val (y 1).val).symm
  · unfold laneCol
    apply Fin.ext
    blk_simp
    have p0 : (y 0).val = win0_3.index t 0 * 16 + (y 0).val := by rw [place_3 t]; exact (slab_place t.val (y 0).val).symm
    have p2 : (y 2).val = win0_3.index t 2 * 128 + (y 2).val := by rw [place_3 t]; exact (lane_place t.val (y 2).val).symm
    exact congrArg₂ (fun a b : ℕ => 128 * a + b) p0 p2

/-- The launch's array among the buffers after it. -/
theorem array_eq (c : Dev nD) : Pipeline.withArrays (cfgs 0).spec c (V0 m c) (fun w => (dats m 0 c).arrAt w (cfgs 0).N) (Proc.devRef .tc main_v2_0)
    = (dats m 0 c).arrAt 3 cfg0.N := (dats m 0 c).withArrays_arrAt (fun _ _ hne h => absurd (launch0.win.arr_inj h) hne) (V0 m c) (A_eq m c) 3

theorem tail_q (c : Dev nD) (n : Fin 16896) (h : Fin 8) (s : Fin 2) (d : Fin 128) :
    Pipeline.afterTail₀ cfgs (dats m) 0 (V0 m) [hostOps1] c main_v4 (ix4 n h s d) = qAt m c n (laneCol ⟨h.val * 2 + s.val, by omega⟩ d) := by
  unfold Pipeline.afterTail₀
  change StableHlo.after hostOps1 _ (Proc.devRef .tc main_v4) (ix4 n h s d) = _
  after_results
  rw [array_eq]
  pointwise
  exact launch_at m c (ix3 ⟨h.val * 2 + s.val, by omega⟩ n d)

/-! The results as arrays. -/

def resQ (c : Dev nD) : (⟨4, ![16896, 8, 2, 128]⟩ : Shape).Idx → EReal := Pipeline.afterTail₀ cfgs (dats m) 0 (V0 m) [hostOps1] c main_v4
def resN (c : Dev nD) : (⟨2, ![16896, 1024]⟩ : Shape).Idx → EReal := (dats m 0 c).arrAt 4 cfg0.N

theorem resQ_at (c : Dev nD) (n : Fin 16896) (h : Fin 8) (s : Fin 2) (d : Fin 128) :
    resQ m c (ix4 n h s d) = qAt m c n (laneCol ⟨h.val * 2 + s.val, by omega⟩ d) := tail_q m c n h s d

theorem resN_at (c : Dev nD) (n : Fin 16896) (k : Fin 1024) : resN m c (ix2 n k) = nAt m c n k := norms_at m c (ix2 n k)

/-- Every run ends with the two results, the arguments unchanged. -/
theorem value :
    θ_run defs (onTc (τ := τ) (main (F := Ideal))) ⟨m, fun _ => 0, ρ⟩ (fun r => ∀ c : Dev nD,
      r.2.mem ((c.tc : Thread nD τ).loc main_v4) = resQ m c
      ∧ r.2.mem ((c.tc : Thread nD τ).loc main_v2_1) = resN m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).2 main_v4 (by decide), (h.1 c).1 4, h.2.1 c⟩)
    (θ_run_and (run_main m ρ) (frame m ρ))

end Cert.PeerQIdeal.Val

end
-- ==== Proof.PeerQ.Ref.lean ====
/-
  The reference of the query projection, entry by entry: the same scaled and projected row.
-/
module

public import proofs.«01_k».proof.Proof.Normed
public import proofs.«01_k».proof.Proof.Gen.PeerQRefIdeal.Run
public import proofs.«01_k».proof.Proof.Gen.PeerQRefIdeal.Read
public import Idealize.ShloMosaic.Lib.Pointwise

@[expose] public section

noncomputable section

namespace Cert.PeerQRefIdeal.Val

open Idealize.ShloMosaic Idealize.ShloMosaic.TcCoe
open Cert.PeerQRefIdeal
open Cert.PeerQRefIdeal.Read
open Cert.Normed

theorem norm_at (H : Vec Ideal S16896x1024 .f32) (G : Vec Ideal S1024 .f32) (n : Fin 16896) (k : Fin 1024) :
    val_main_v12 (F := Ideal) H G (ix2 n k) = normed (fun k => H (ix2 n k)) (fun k => G (ix1 k)) k := by
  unfold normed
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem q_at (H : Vec Ideal S16896x1024 .f32) (G : Vec Ideal S1024 .f32) (W : Vec Ideal S1024x2048 .f32)
    (n : Fin 16896) (h : Fin 8) (s : Fin 2) (d : Fin 128) :
    val_main_v14 (F := Ideal) H G W (ix4 n h s d)
      = proj (fun k => H (ix2 n k)) (fun k => G (ix1 k)) (fun k => W (ix2 k ⟨128 * (h.val * 2 + s.val) + d.val, by omega⟩)) := by
  have e : (⟨128 * (h.val * 2 + s.val) + d.val, by omega⟩ : Fin 2048) = ⟨h.val * 256 + s.val * 128 + d.val, by omega⟩ := Fin.ext (by simp only; omega)
  rw [e]
  unfold proj
  simp only [← norm_at]
  pointwise [val_main_v14, val_main_v13]

end Cert.PeerQRefIdeal.Val

end
-- ==== Proof.PeerQ.Claims.lean ====
/-
  The claims of the query projection: the runs are complete, and the results are the reference's.
-/
module

public import proofs.«01_k».proof.Defs
public import proofs.«01_k».proof.Proof.Gen.PeerQ.Frame
public import proofs.«01_k».proof.Proof.PeerQ.Value
public import proofs.«01_k».proof.Proof.PeerQ.Ref

@[expose] public section

noncomputable section

namespace Cert.PeerQClaims

open Idealize.ShloMosaic Idealize.ShloMosaic.TcCoe Idealize.SL.Sem
open Cert.Normed

theorem frame_p : Cert.quiescent_PeerQ := fun m ρ _ => Cert.PeerQ.Gen.frame m ρ

theorem frame_pi : Cert.quiescent_PeerQIdeal := fun m ρ _ => Cert.PeerQIdeal.Gen.frame m ρ

theorem preserves : Cert.preserves_PeerQ_PeerQIdeal := trivial

theorem frame_ri : Cert.quiescent_PeerQRefIdeal := fun m ρ _ =>
  (θ_run Cert.PeerQRefIdeal.defs _ _).mono (fun r h => ⟨fun c => (h c).2.2, sem_eq_zero_of_no_sems (by decide) r.2⟩)
    (Cert.PeerQRefIdeal.Value.run (F := Ideal) m ρ)

/-- The two results agree with the reference's, element by element. -/
theorem q_eq (m : (ℓ : Loc Cert.PeerQIdeal.nD Cert.PeerQIdeal.τ Cert.PeerQIdeal.sig) → Buf (Elt Ideal) ℓ) (c : Dev Cert.PeerQIdeal.nD) :
    Cert.PeerQRefIdeal.Read.val_main_v14 (F := Ideal) (Cert.PeerQIdeal.Val.hid m c) (Cert.PeerQIdeal.Val.scl m c) (Cert.PeerQIdeal.Val.mat m c)
      = Cert.PeerQIdeal.Val.resQ m c :=
  ext4 fun n h s d => (Cert.PeerQRefIdeal.Val.q_at _ _ _ n h s d).trans (Cert.PeerQIdeal.Val.resQ_at m c n h s d).symm

theorem n_eq (m : (ℓ : Loc Cert.PeerQIdeal.nD Cert.PeerQIdeal.τ Cert.PeerQIdeal.sig) → Buf (Elt Ideal) ℓ) (c : Dev Cert.PeerQIdeal.nD) :
    Cert.PeerQRefIdeal.Read.val_main_v12 (F := Ideal) (Cert.PeerQIdeal.Val.hid m c) (Cert.PeerQIdeal.Val.scl m c) = Cert.PeerQIdeal.Val.resN m c :=
  ext2 fun n k => (Cert.PeerQRefIdeal.Val.norm_at _ _ n k).trans (Cert.PeerQIdeal.Val.resN_at m c n k).symm

theorem algebraic : Cert.algebraic_PeerQIdeal_PeerQRefIdeal := by
  intro m ρ m' ρ' _ hagree
  refine ⟨_, _, Cert.PeerQIdeal.Val.value m ρ, ?_⟩
  refine (θ_run Cert.PeerQRefIdeal.defs _ _).mono
    (fun r h c => ⟨(h c).1.trans ?_, (h c).2.1.trans ?_, (h c).2.2⟩) (Cert.PeerQRefIdeal.Value.run (F := Ideal) m' ρ')
  · rw [Cert.PeerQRefIdeal.Read.val_main_v14_eq, (hagree c).1, (hagree c).2.1, (hagree c).2.2]
    exact q_eq m c
  · rw [Cert.PeerQRefIdeal.Read.val_main_v12_eq, (hagree c).1, (hagree c).2.1]
    exact n_eq m c

end Cert.PeerQClaims

end
-- ==== Proof.FoxOut.Value.lean ====
/-
  An output projection: every block of 256 rows is the residual's rows plus the rows times the matrix.
-/
module

public import proofs.«01_k».proof.Proof.Normed
public import proofs.«01_k».proof.Proof.Gen.FoxOutIdeal.Frame
public import Idealize.ShloMosaic.Lib.Pipeline.ValueKit
public import Idealize.ShloMosaic.Lib.Pipeline.Covers

@[expose] public section

set_option maxRecDepth 16384

noncomputable section

namespace Cert.FoxOutIdeal.Val

open Idealize.ShloMosaic Idealize.ShloMosaic.TcCoe Idealize.SL.Sem
open Idealize.ShloMosaic.Pipeline (Dat Cfg Window)
open Cert.FoxOutIdeal Cert.FoxOutIdeal.Gen
open Cert.Normed

theorem pay_at (H O : Vec Ideal S256x1024 .f32) (W : Vec Ideal S1024x1024 .bf16) (r : Fin 256) (j : Fin 1024) :
    k0_pay1 H O W (ix2 r j) = H (ix2 r j) + ∑ k : Fin 1024, O (ix2 r k) * W (ix2 k j) := by
  pointwise [k0_pay1]

variable (m : (ℓ : Loc nD τ sig) → Buf (Elt Ideal) ℓ) (ρ : Dev nD → PrngReg)

/-- The rows, the matrix, and the residual, as launched. -/
abbrev row (c : Dev nD) : (⟨2, ![16896, 1024]⟩ : Shape).Idx → EReal := m (c.tc.loc main_arg0)
abbrev mat (c : Dev nD) : (⟨3, ![1, 1024, 1024]⟩ : Shape).Idx → EReal := m (c.tc.loc main_arg1)
abbrev res (c : Dev nD) : (⟨2, ![16896, 1024]⟩ : Shape).Idx → EReal := m (c.tc.loc main_arg2)

theorem matrix_at (c : Dev nD) (k : Fin 1024) (j : Fin 1024) : V m c main_v1 (ix2 k j) = mat m c (ix3 0 k j) := by
  unfold_abbrev_sides
  after_results
  pointwise

theorem place_0 : ∀ t : Fin cfg0.N, win0_0.index t = ![t.val, 0] :=
  (by decide +kernel : ∀ t : Fin grid0.N, win0_0.index t = ![t.val, 0])
theorem place_1 : ∀ t : Fin cfg0.N, win0_1.index t = ![0, 0] :=
  (by decide +kernel : ∀ t : Fin grid0.N, win0_1.index t = ![0, 0])
theorem place_2 : ∀ t : Fin cfg0.N, win0_2.index t = ![t.val, 0] :=
  (by decide +kernel : ∀ t : Fin grid0.N, win0_2.index t = ![t.val, 0])
theorem place_3 : ∀ t : Fin cfg0.N, win0_3.index t = ![t.val, 0] :=
  (by decide +kernel : ∀ t : Fin grid0.N, win0_3.index t = ![t.val, 0])

theorem pts (t : Fin cfg0.N) : t.val < 66 := t.isLt

theorem rows_at (c : Dev nD) (t : Fin cfg0.N) (r : Fin 256) (k : Fin 1024) :
    iblk m c 0 t (ix2 r k) = row m c (ix2 ⟨256 * t.val + r.val, by have := pts t; omega⟩ k) := by
  blk_ext [iblk, V, place_0 t]

theorem matrixBlock_at (c : Dev nD) (t : Fin cfg0.N) (k : Fin 1024) (j : Fin 1024) : iblk m c 1 t (ix2 k j) = V m c main_v1 (ix2 k j) := by
  blk_ext [iblk, place_1 t]

theorem residual_at (c : Dev nD) (t : Fin cfg0.N) (r : Fin 256) (k : Fin 1024) :
    iblk m c 2 t (ix2 r k) = res m c (ix2 ⟨256 * t.val + r.val, by have := pts t; omega⟩ k) := by
  blk_ext [iblk, V, place_2 t]

/-- The result at an element. -/
def outAt (c : Dev nD) (n : Fin 16896) (j : Fin 1024) : EReal :=
  res m c (ix2 n j) + ∑ k : Fin 1024, row m c (ix2 n k) * mat m c (ix3 0 k j)

theorem block_at (c : Dev nD) (t : Fin cfg0.N) (r : Fin 256) (j : Fin 1024) :
    out0_3 (iblk m c 0 t) (iblk m c 1 t) (iblk m c 2 t) (ix2 r j) = outAt m c ⟨256 * t.val + r.val, by have := pts t; omega⟩ j := by
  unfold out0_3 outAt
  rw [View.canon_cons_unit_zero (by funext a; fin_cases a <;> rfl), View.ld_unit_zero (by funext a; fin_cases a <;> rfl), View.ld_unit_zero (by funext a; fin_cases a <;> rfl),
    View.ld_unit_zero (by funext a; fin_cases a <;> rfl), pay_at, residual_at]
  exact congrArg _ (Finset.sum_congr rfl fun k _ => congrArg₂ (fun a b : EReal => a * b) (rows_at m c t r k) ((matrixBlock_at m c t k j).trans (matrix_at m c k j)))

theorem row_place (a n : ℕ) : (![a, 0] : Fin 2 → ℕ) 0 * 256 + n = 256 * a + n := by simp [mul_comm]
theorem col_place (a n : ℕ) : (![a, 0] : Fin 2 → ℕ) 1 * 1024 + n = n := by simp

theorem launch_at (c : Dev nD) (i : (⟨2, ![16896, 1024]⟩ : Shape).Idx) : (dats m 0 c).arrAt 3 cfg0.N i = outAt m c (i 0) (i 1) := by
  refine (dats m 0 c).arrAt_forall_of_covers 3
    (fun (j : (⟨2, ![16896, 1024]⟩ : Shape).Idx) (v : EReal) => v = outAt m c (j 0) (j 1)) (by decide +kernel) (fun t hf y => ?_) i
  blk_simp
  rw [after0_3]
  refine (congrArg (out0_3 (iblk m c 0 t) (iblk m c 1 t) (iblk m c 2 t)) (eta2 (a := 256) (b := 1024) y)).trans ((block_at m c t (y 0) (y 1)).trans ?_)
  congr 1
  · apply Fin.ext
    blk_simp
    rw [place_3 t]
    exact (row_place t.val (y 0).val).symm
  · apply Fin.ext
    blk_simp
    rw [place_3 t]
    exact (col_place t.val (y 1).val).symm

/-- The result as an array. -/
def resO (c : Dev nD) : (⟨2, ![16896, 1024]⟩ : Shape).Idx → EReal := (dats m 0 c).arrAt 3 cfg0.N

theorem resO_at (c : Dev nD) (n : Fin 16896) (k : Fin 1024) : resO m c (ix2 n k) = outAt m c n k := launch_at m c (ix2 n k)

/-- Every run ends with the result, the arguments unchanged. -/
theorem value :
    θ_run defs (onTc (τ := τ) (main (F := Ideal))) ⟨m, fun _ => 0, ρ⟩ (fun r => ∀ c : Dev nD,
      r.2.mem ((c.tc : Thread nD τ).loc main_v2) = resO m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 3, h.2.1 c⟩)
    (θ_run_and (run_main m ρ) (frame m ρ))

end Cert.FoxOutIdeal.Val

end
-- ==== Proof.FoxOut.Ref.lean ====
/-
  The reference of the output projection, entry by entry.
-/
module

public import proofs.«01_k».proof.Proof.Normed
public import proofs.«01_k».proof.Proof.Gen.FoxOutRefIdeal.Run
public import proofs.«01_k».proof.Proof.Gen.FoxOutRefIdeal.Read
public import Idealize.ShloMosaic.Lib.Pointwise

@[expose] public section

noncomputable section

namespace Cert.FoxOutRefIdeal.Val

open Idealize.ShloMosaic Idealize.ShloMosaic.TcCoe
open Cert.FoxOutRefIdeal
open Cert.FoxOutRefIdeal.Read
open Cert.Normed

theorem out_at (O : Vec Ideal S16896x1024 .f32) (W : Vec Ideal S1x1024x1024 .f32) (H : Vec Ideal S16896x1024 .f32) (n : Fin 16896) (j : Fin 1024) :
    val_main_v2 (F := Ideal) O W H (ix2 n j) = H (ix2 n j) + ∑ k : Fin 1024, O (ix2 n k) * W (ix3 0 k j) := by
  pointwise [val_main_v2, val_main_v1, val_main_v0]

end Cert.FoxOutRefIdeal.Val

end
-- ==== Proof.FoxOut.Claims.lean ====
/-
  The claims of the output projection: the runs are complete, and the result is the reference's.
-/
module

public import proofs.«01_k».proof.Defs
public import proofs.«01_k».proof.Proof.Gen.FoxOut.Frame
public import proofs.«01_k».proof.Proof.FoxOut.Value
public import proofs.«01_k».proof.Proof.FoxOut.Ref

@[expose] public section

noncomputable section

namespace Cert.FoxOutClaims

open Idealize.ShloMosaic Idealize.ShloMosaic.TcCoe Idealize.SL.Sem
open Cert.Normed

theorem frame_p : Cert.quiescent_FoxOut := fun m ρ _ => Cert.FoxOut.Gen.frame m ρ

theorem frame_pi : Cert.quiescent_FoxOutIdeal := fun m ρ _ => Cert.FoxOutIdeal.Gen.frame m ρ

theorem preserves : Cert.preserves_FoxOut_FoxOutIdeal := trivial

theorem frame_ri : Cert.quiescent_FoxOutRefIdeal := fun m ρ _ =>
  (θ_run Cert.FoxOutRefIdeal.defs _ _).mono (fun r h => ⟨fun c => (h c).2, sem_eq_zero_of_no_sems (by decide) r.2⟩)
    (Cert.FoxOutRefIdeal.Value.run (F := Ideal) m ρ)

/-- The result agrees with the reference's, element by element. -/
theorem o_eq (m : (ℓ : Loc Cert.FoxOutIdeal.nD Cert.FoxOutIdeal.τ Cert.FoxOutIdeal.sig) → Buf (Elt Ideal) ℓ) (c : Dev Cert.FoxOutIdeal.nD) :
    Cert.FoxOutRefIdeal.Read.val_main_v2 (F := Ideal) (Cert.FoxOutIdeal.Val.row m c) (Cert.FoxOutIdeal.Val.mat m c) (Cert.FoxOutIdeal.Val.res m c)
      = Cert.FoxOutIdeal.Val.resO m c :=
  ext2 fun n j => (Cert.FoxOutRefIdeal.Val.out_at _ _ _ n j).trans (Cert.FoxOutIdeal.Val.resO_at m c n j).symm

theorem algebraic : Cert.algebraic_FoxOutIdeal_FoxOutRefIdeal := by
  intro m ρ m' ρ' _ hagree
  refine ⟨_, Cert.FoxOutIdeal.Val.value m ρ, ?_⟩
  refine (θ_run Cert.FoxOutRefIdeal.defs _ _).mono
    (fun r h c => ⟨(h c).1.trans ?_, (h c).2⟩) (Cert.FoxOutRefIdeal.Value.run (F := Ideal) m' ρ')
  rw [Cert.FoxOutRefIdeal.Read.val_main_v2_eq, (hagree c).1, (hagree c).2.1, (hagree c).2.2]
  exact o_eq m c

end Cert.FoxOutClaims

end
-- ==== Proof.GdnOut.Gated.lean ====
/-
  A head's row of 128, divided by its root mean square, scaled, and multiplied with its gate: what both sides of the
  gated output come to. Stated of a row of eight heads.
-/
module

public import proofs.«01_k».proof.Proof.Normed

@[expose] public section

noncomputable section

namespace Cert.Normed

open Idealize.ShloMosaic

/-- The length of a head's row, as the float the sum is divided by. -/
abbrev len128 : EReal := Ideal.ofBits .f32 0x43000000#32

/-- The element `j` of a row of eight heads: its head's row normalised, the scale of its position within the head, and
    its gate `z * logistic z`. -/
def gated (o z : Fin 1024 → EReal) (g : Fin 128 → EReal) (j : Fin 1024) : EReal :=
  o j * Ideal.rsqrt (Ideal.div (∑ x : Fin 128, o ⟨j.val / 128 * 128 + x.val, by omega⟩ * o ⟨j.val / 128 * 128 + x.val, by omega⟩) len128 + eps)
    * g ⟨j.val % 128, by omega⟩ * (z j * Ideal.logistic (z j))

end Cert.Normed

end
-- ==== Proof.GdnOut.Heads.lean ====
/-
  The gated heads: every head's row of 128 is normalised, scaled, and multiplied with its gate.
-/
module

public import proofs.«01_k».proof.Proof.GdnOut.Gated
public import proofs.«01_k».proof.Proof.Gen.GdnOutIdeal.Frame
public import Idealize.ShloMosaic.Lib.Pipeline.ValueKit

@[expose] public section

set_option maxRecDepth 16384

noncomputable section

namespace Cert.GdnOutIdeal.Val

open Idealize.ShloMosaic Idealize.ShloMosaic.TcCoe
open Cert.GdnOutIdeal Cert.GdnOutIdeal.Gen
open Cert.Normed

/-- The eight heads of a block, side by side. -/
def mixed (x0 x1 : Vec Ideal S256x1024 .f32) (x2 : Vec Ideal S1x128 .f32) : FVec Ideal S256x1024 .bf16 :=
  k0_pay12 x0 x1 (k0_pay2 x2) (k0_pay3 x0 x1 x2) (k0_pay4 x0 x1 x2)
    (k0_pay7 x1 (k0_pay2 x2) (k0_pay5 x0) (k0_pay6 x0) (Scalar.ofBits .f32 0x358637BD#32))
    (k0_pay8 x0 x1 (k0_pay2 x2)) (k0_pay9 x0 x1 (k0_pay2 x2)) (k0_pay10 x0) (k0_pay11 x0) (Scalar.ofBits .f32 0x358637BD#32)

theorem head_0 (x0 x1 : Vec Ideal S256x1024 .f32) (x2 : Vec Ideal S1x128 .f32) (r : Fin 256) (d : Fin 128) :
    mixed x0 x1 x2 (ix2 r ⟨d.val, by omega⟩)
      = gated (fun k => x0 (ix2 r k)) (fun k => x1 (ix2 r k)) (fun k => x2 (ix2 0 k)) ⟨d.val, by omega⟩ := by
  unfold mixed
  pointwise [k0_pay12, k0_pay3, k0_pay2]
  simp only [gated, eps, len128, (by omega : (d.val) / 128 = 0), (by omega : (d.val) % 128 = d.val), Nat.reduceMul, Nat.zero_add]

theorem head_1 (x0 x1 : Vec Ideal S256x1024 .f32) (x2 : Vec Ideal S1x128 .f32) (r : Fin 256) (d : Fin 128) :
    mixed x0 x1 x2 (ix2 r ⟨128 + d.val, by omega⟩)
      = gated (fun k => x0 (ix2 r k)) (fun k => x1 (ix2 r k)) (fun k => x2 (ix2 0 k)) ⟨128 + d.val, by omega⟩ := by
  unfold mixed
  pointwise [k0_pay12, k0_pay4, k0_pay2]
  simp only [gated, eps, len128, (by omega : (128 + d.val) / 128 = 1), (by omega : (128 + d.val) % 128 = d.val), Nat.reduceMul]

theorem head_2 (x0 x1 : Vec Ideal S256x1024 .f32) (x2 : Vec Ideal S1x128 .f32) (r : Fin 256) (d : Fin 128) :
    mixed x0 x1 x2 (ix2 r ⟨256 + d.val, by omega⟩)
      = gated (fun k => x0 (ix2 r k)) (fun k => x1 (ix2 r k)) (fun k => x2 (ix2 0 k)) ⟨256 + d.val, by omega⟩ := by
  unfold mixed
  pointwise [k0_pay12, k0_pay7, k0_pay6, k0_pay5, k0_pay2]
  rw [dif_neg (by omega), dif_neg (by omega), dif_pos (by omega)]
  simp only [gated, eps, len128, (by omega : 256 + d.val - 128 - 128 = d.val), (by omega : (256 + d.val) / 128 = 2), (by omega : (256 + d.val) % 128 = d.val), Nat.reduceMul]

theorem head_3 (x0 x1 : Vec Ideal S256x1024 .f32) (x2 : Vec Ideal S1x128 .f32) (r : Fin 256) (d : Fin 128) :
    mixed x0 x1 x2 (ix2 r ⟨384 + d.val, by omega⟩)
      = gated (fun k => x0 (ix2 r k)) (fun k => x1 (ix2 r k)) (fun k => x2 (ix2 0 k)) ⟨384 + d.val, by omega⟩ := by
  unfold mixed
  pointwise [k0_pay12, k0_pay8, k0_pay2]
  rw [dif_neg (by omega), dif_neg (by omega), dif_neg (by omega), dif_pos (by omega)]
  simp only [gated, eps, len128, (by omega : 384 + d.val - 128 - 128 - 128 = d.val), (by omega : (384 + d.val) / 128 = 3), (by omega : (384 + d.val) % 128 = d.val), Nat.reduceMul]

theorem head_4 (x0 x1 : Vec Ideal S256x1024 .f32) (x2 : Vec Ideal S1x128 .f32) (r : Fin 256) (d : Fin 128) :
    mixed x0 x1 x2 (ix2 r ⟨512 + d.val, by omega⟩)
      = gated (fun k => x0 (ix2 r k)) (fun k => x1 (ix2 r k)) (fun k => x2 (ix2 0 k)) ⟨512 + d.val, by omega⟩ := by
  unfold mixed
  pointwise [k0_pay12, k0_pay9, k0_pay2]
  rw [dif_neg (by omega), dif_neg (by omega), dif_neg (by omega), dif_neg (by omega), dif_pos (by omega)]
  simp only [gated, eps, len128, (by omega : 512 + d.val - 128 - 128 - 128 - 128 = d.val), (by omega : (512 + d.val) / 128 = 4), (by omega : (512 + d.val) % 128 = d.val), Nat.reduceMul]

theorem head_5 (x0 x1 : Vec Ideal S256x1024 .f32) (x2 : Vec Ideal S1x128 .f32) (r : Fin 256) (d : Fin 128) :
    mixed x0 x1 x2 (ix2 r ⟨640 + d.val, by omega⟩)
      = gated (fun k => x0 (ix2 r k)) (fun k => x1 (ix2 r k)) (fun k => x2 (ix2 0 k)) ⟨640 + d.val, by omega⟩ := by
  unfold mixed
  pointwise [k0_pay12, k0_pay10, k0_pay11, k0_pay2]
  rw [dif_neg (by omega), dif_neg (by omega), dif_neg (by omega), dif_neg (by omega), dif_neg (by omega), dif_pos (by omega)]
  simp only [gated, eps, len128, (by omega : 640 + d.val - 128 - 128 - 128 - 128 - 128 = d.val), (by omega : (640 + d.val) / 128 = 5), (by omega : (640 + d.val) % 128 = d.val), Nat.reduceMul]

theorem head_6 (x0 x1 : Vec Ideal S256x1024 .f32) (x2 : Vec Ideal S1x128 .f32) (r : Fin 256) (d : Fin 128) :
    mixed x0 x1 x2 (ix2 r ⟨768 + d.val, by omega⟩)
      = gated (fun k => x0 (ix2 r k)) (fun k => x1 (ix2 r k)) (fun k => x2 (ix2 0 k)) ⟨768 + d.val, by omega⟩ := by
  unfold mixed
  pointwise [k0_pay12, k0_pay2]
  rw [dif_neg (by omega), dif_neg (by omega), dif_neg (by omega), dif_neg (by omega), dif_neg (by omega), dif_neg (by omega), dif_pos (by omega)]
  simp only [gated, eps, len128, (by omega : 768 + d.val - 128 - 128 - 128 - 128 - 128 - 128 = d.val), (by omega : (768 + d.val) / 128 = 6), (by omega : (768 + d.val) % 128 = d.val), Nat.reduceMul]

theorem head_7 (x0 x1 : Vec Ideal S256x1024 .f32) (x2 : Vec Ideal S1x128 .f32) (r : Fin 256) (d : Fin 128) :
    mixed x0 x1 x2 (ix2 r ⟨896 + d.val, by omega⟩)
      = gated (fun k => x0 (ix2 r k)) (fun k => x1 (ix2 r k)) (fun k => x2 (ix2 0 k)) ⟨896 + d.val, by omega⟩ := by
  unfold mixed
  pointwise [k0_pay12, k0_pay2]
  rw [dif_neg (by omega), dif_neg (by omega), dif_neg (by omega), dif_neg (by omega), dif_neg (by omega), dif_neg (by omega), dif_neg (by omega)]
  simp only [gated, eps, len128, (by omega : 896 + d.val - 128 - 128 - 128 - 128 - 128 - 128 - 128 = d.val), (by omega : (896 + d.val) / 128 = 7), (by omega : (896 + d.val) % 128 = d.val), Nat.reduceMul]

theorem mixed_at (x0 x1 : Vec Ideal S256x1024 .f32) (x2 : Vec Ideal S1x128 .f32) (r : Fin 256) (j : Fin 1024) :
    mixed x0 x1 x2 (ix2 r j) = gated (fun k => x0 (ix2 r k)) (fun k => x1 (ix2 r k)) (fun k => x2 (ix2 0 k)) j := by
  have hd : j.val % 128 < 128 := Nat.mod_lt _ (by decide)
  rcases (by omega : j.val / 128 = 0 ∨ j.val / 128 = 1 ∨ j.val / 128 = 2 ∨ j.val / 128 = 3 ∨ j.val / 128 = 4 ∨ j.val / 128 = 5
    ∨ j.val / 128 = 6 ∨ j.val / 128 = 7) with h | h | h | h | h | h | h | h
  · rw [(Fin.ext (by show j.val = j.val % 128; omega) : j = ⟨(⟨j.val % 128, hd⟩ : Fin 128).val, by show j.val % 128 < 1024; omega⟩)]
    exact head_0 x0 x1 x2 r ⟨j.val % 128, hd⟩
  · rw [(Fin.ext (by show j.val = 128 + j.val % 128; omega) : j = ⟨128 + (⟨j.val % 128, hd⟩ : Fin 128).val, by show 128 + j.val % 128 < 1024; omega⟩)]
    exact head_1 x0 x1 x2 r ⟨j.val % 128, hd⟩
  · rw [(Fin.ext (by show j.val = 256 + j.val % 128; omega) : j = ⟨256 + (⟨j.val % 128, hd⟩ : Fin 128).val, by show 256 + j.val % 128 < 1024; omega⟩)]
    exact head_2 x0 x1 x2 r ⟨j.val % 128, hd⟩
  · rw [(Fin.ext (by show j.val = 384 + j.val % 128; omega) : j = ⟨384 + (⟨j.val % 128, hd⟩ : Fin 128).val, by show 384 + j.val % 128 < 1024; omega⟩)]
    exact head_3 x0 x1 x2 r ⟨j.val % 128, hd⟩
  · rw [(Fin.ext (by show j.val = 512 + j.val % 128; omega) : j = ⟨512 + (⟨j.val % 128, hd⟩ : Fin 128).val, by show 512 + j.val % 128 < 1024; omega⟩)]
    exact head_4 x0 x1 x2 r ⟨j.val % 128, hd⟩
  · rw [(Fin.ext (by show j.val = 640 + j.val % 128; omega) : j = ⟨640 + (⟨j.val % 128, hd⟩ : Fin 128).val, by show 640 + j.val % 128 < 1024; omega⟩)]
    exact head_5 x0 x1 x2 r ⟨j.val % 128, hd⟩
  · rw [(Fin.ext (by show j.val = 768 + j.val % 128; omega) : j = ⟨768 + (⟨j.val % 128, hd⟩ : Fin 128).val, by show 768 + j.val % 128 < 1024; omega⟩)]
    exact head_6 x0 x1 x2 r ⟨j.val % 128, hd⟩
  · rw [(Fin.ext (by show j.val = 896 + j.val % 128; omega) : j = ⟨896 + (⟨j.val % 128, hd⟩ : Fin 128).val, by show 896 + j.val % 128 < 1024; omega⟩)]
    exact head_7 x0 x1 x2 r ⟨j.val % 128, hd⟩

end Cert.GdnOutIdeal.Val

end
-- ==== Proof.GdnOut.Block.lean ====
/-
  The run of one block, as one expression of its inputs.
-/
module

public import proofs.«01_k».proof.Proof.GdnOut.Heads
public import proofs.«01_k».proof.Proof.Gen.GdnOutIdeal.Frame
public import Idealize.ShloMosaic.Lib.Pipeline.ValueKit

@[expose] public section

set_option maxRecDepth 16384

noncomputable section

namespace Cert.GdnOutIdeal.Val

open Idealize.ShloMosaic Idealize.ShloMosaic.TcCoe
open Cert.GdnOutIdeal Cert.GdnOutIdeal.Gen
open Cert.Normed

theorem block_eq (c : Dev nD) (i : grid0.Coords) (arg1 : Memref sig .tc .vmem S256x1024 .f32) (harg1 : arg1.IsWhole) (arg2 : Memref sig .tc .vmem S256x1024 .f32) (harg2 : arg2.IsWhole)
    (arg3 : Memref sig .tc .vmem S1x128 .f32) (harg3 : arg3.IsWhole) (arg4 : Memref sig .tc .vmem S1024x1024 .bf16) (harg4 : arg4.IsWhole)
    (arg5 : Memref sig .tc .vmem S256x1024 .f32) (harg5 : arg5.IsWhole) (arg6 : Memref sig .tc .vmem S256x1024 .f32) (harg6 : arg6.IsWhole)
    (x0 x1 : Vec Ideal S256x1024 .f32) (x2 : Vec Ideal S1x128 .f32) (x3 : Vec Ideal S1024x1024 .bf16) (x4 : Vec Ideal S256x1024 .f32) :
    out0_A_5 c i arg1 harg1 arg2 harg2 arg3 harg3 arg4 harg4 arg5 harg5 arg6 harg6 x0 x1 x2 x3 x4
      = k0_pay1 x4 (mixed x0 x1 x2) (k0_pay13 x3) := by
  have h1 : (![0, 0] : Fin S256x1024.rank → ℕ) = fun _ => 0 := by funext a; fin_cases a <;> rfl
  have h2 : (![0, 0] : Fin S1x128.rank → ℕ) = fun _ => 0 := by funext a; fin_cases a <;> rfl
  have h3 : (![0, 0] : Fin S1024x1024.rank → ℕ) = fun _ => 0 := by funext a; fin_cases a <;> rfl
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  rw [View.canon_unit_zero (S := S256x1024) h1]
  sl_unfold_words
  simp only [View.readAt_eq_ld, harg1.read_unread, harg2.read_unread, harg3.read_unread, harg4.read_unread, harg5.read_unread,
    View.ld_unit_zero (S := S256x1024) h1, View.ld_unit_zero (S := S1x128) h2, View.ld_unit_zero (S := S1024x1024) h3]
  rfl

end Cert.GdnOutIdeal.Val

end
-- ==== Proof.GdnOut.Value.lean ====
/-
  The gated output projection: every block of 256 rows is the residual's rows plus the gated heads times the matrix.
-/
module

public import proofs.«01_k».proof.Proof.GdnOut.Block
public import proofs.«01_k».proof.Proof.Gen.GdnOutIdeal.Frame
public import Idealize.ShloMosaic.Lib.Pipeline.ValueKit
public import Idealize.ShloMosaic.Lib.Pipeline.Covers

@[expose] public section

set_option maxRecDepth 16384

noncomputable section

namespace Cert.GdnOutIdeal.Val

open Idealize.ShloMosaic Idealize.ShloMosaic.TcCoe Idealize.SL.Sem
open Idealize.ShloMosaic.Pipeline (Dat Cfg Window)
open Cert.GdnOutIdeal Cert.GdnOutIdeal.Gen
open Cert.Normed

theorem pay_at (H : Vec Ideal S256x1024 .f32) (O : FVec Ideal S256x1024 .bf16) (W : Vec Ideal S1024x1024 .bf16) (r : Fin 256) (j : Fin 1024) :
    k0_pay1 H O (k0_pay13 W) (ix2 r j) = H (ix2 r j) + ∑ k : Fin 1024, O (ix2 r k) * W (ix2 k j) := by
  pointwise [k0_pay1, k0_pay13]

variable (m : (ℓ : Loc nD τ sig) → Buf (Elt Ideal) ℓ) (ρ : Dev nD → PrngReg)

/-- The heads' rows, the projection whose last 1024 of 4096 columns are the gates, the scale, the matrix, and the
    residual, as launched. -/
abbrev row (c : Dev nD) : (⟨2, ![16896, 1024]⟩ : Shape).Idx → EReal := m (c.tc.loc main_arg0)
abbrev gate (c : Dev nD) : (⟨2, ![16896, 4224]⟩ : Shape).Idx → EReal := m (c.tc.loc main_arg1)
abbrev scale (c : Dev nD) : (⟨2, ![1, 128]⟩ : Shape).Idx → EReal := m (c.tc.loc main_arg2)
abbrev mat (c : Dev nD) : (⟨3, ![1, 1024, 1024]⟩ : Shape).Idx → EReal := m (c.tc.loc main_arg3)
abbrev res (c : Dev nD) : (⟨2, ![16896, 1024]⟩ : Shape).Idx → EReal := m (c.tc.loc main_arg4)

theorem matrix_at (c : Dev nD) (k : Fin 1024) (j : Fin 1024) : V m c main_v2 (ix2 k j) = mat m c (ix3 0 k j) := by
  unfold_abbrev_sides
  after_results
  pointwise

theorem scale_at (c : Dev nD) (d : Fin 128) : V m c main_v3 (ix2 0 d) = scale m c (ix2 0 d) := by
  unfold_abbrev_sides
  after_results
  pointwise

theorem place_0 : ∀ t : Fin cfg0.N, win0_0.index t = ![t.val, 0] :=
  (by decide +kernel : ∀ t : Fin grid0.N, win0_0.index t = ![t.val, 0])
theorem place_1 : ∀ t : Fin cfg0.N, win0_1.index t = ![t.val, 3] :=
  (by decide +kernel : ∀ t : Fin grid0.N, win0_1.index t = ![t.val, 3])
theorem place_2 : ∀ t : Fin cfg0.N, win0_2.index t = ![0, 0] :=
  (by decide +kernel : ∀ t : Fin grid0.N, win0_2.index t = ![0, 0])
theorem place_3 : ∀ t : Fin cfg0.N, win0_3.index t = ![0, 0] :=
  (by decide +kernel : ∀ t : Fin grid0.N, win0_3.index t = ![0, 0])
theorem place_4 : ∀ t : Fin cfg0.N, win0_4.index t = ![t.val, 0] :=
  (by decide +kernel : ∀ t : Fin grid0.N, win0_4.index t = ![t.val, 0])
theorem place_5 : ∀ t : Fin cfg0.N, win0_5.index t = ![t.val, 0] :=
  (by decide +kernel : ∀ t : Fin grid0.N, win0_5.index t = ![t.val, 0])

theorem pts (t : Fin cfg0.N) : t.val < 66 := t.isLt

theorem rows_at (c : Dev nD) (t : Fin cfg0.N) (r : Fin 256) (k : Fin 1024) :
    iblk m c 0 t (ix2 r k) = row m c (ix2 ⟨256 * t.val + r.val, by have := pts t; omega⟩ k) := by
  blk_ext [iblk, V, place_0 t]

/-- The gates' block is whole at every point. -/
theorem gates_at (c : Dev nD) (t : Fin cfg0.N) (r : Fin 256) (k : Fin 1024) :
    X0_1 m c t (ix2 r k) = gate m c (ix2 ⟨256 * t.val + r.val, by have := pts t; omega⟩ ⟨3072 + k.val, by omega⟩) := by
  unfold X0_1 Pipeline.Window.fill
  rw [dif_pos (moved0_1 t (ix2 r k))]
  blk_ext [iblk, V, place_1 t]

theorem scaleBlock_at (c : Dev nD) (t : Fin cfg0.N) (d : Fin 128) : iblk m c 2 t (ix2 0 d) = V m c main_v3 (ix2 0 d) := by
  blk_ext [iblk, place_2 t]

theorem matrixBlock_at (c : Dev nD) (t : Fin cfg0.N) (k : Fin 1024) (j : Fin 1024) : iblk m c 3 t (ix2 k j) = V m c main_v2 (ix2 k j) := by
  blk_ext [iblk, place_3 t]

theorem residual_at (c : Dev nD) (t : Fin cfg0.N) (r : Fin 256) (k : Fin 1024) :
    iblk m c 4 t (ix2 r k) = res m c (ix2 ⟨256 * t.val + r.val, by have := pts t; omega⟩ k) := by
  blk_ext [iblk, V, place_4 t]

/-- The result at an element. -/
def outAt (c : Dev nD) (n : Fin 16896) (j : Fin 1024) : EReal :=
  res m c (ix2 n j) + ∑ k : Fin 1024, gated (fun k => row m c (ix2 n k)) (fun k => gate m c (ix2 n ⟨3072 + k.val, by omega⟩))
    (fun k => scale m c (ix2 0 k)) k * mat m c (ix3 0 k j)

theorem outAt_congr (c : Dev nD) {n n' : Fin 16896} {j j' : Fin 1024} (hn : n.val = n'.val) (hj : j.val = j'.val) :
    outAt m c n j = outAt m c n' j' := by
  cases Fin.ext hn; cases Fin.ext hj; rfl

/-- The heads of a block are those of its rows. -/
theorem heads_at (c : Dev nD) (t : Fin cfg0.N) (r : Fin 256) (k : Fin 1024) :
    mixed (iblk m c 0 t) (X0_1 m c t) (iblk m c 2 t) (ix2 r k)
      = gated (fun k => row m c (ix2 ⟨256 * t.val + r.val, by have := pts t; omega⟩ k))
          (fun k => gate m c (ix2 ⟨256 * t.val + r.val, by have := pts t; omega⟩ ⟨3072 + k.val, by omega⟩)) (fun k => scale m c (ix2 0 k)) k := by
  have hO : (fun k => iblk m c 0 t (ix2 r k)) = fun k => row m c (ix2 ⟨256 * t.val + r.val, by have := pts t; omega⟩ k) :=
    funext fun k => rows_at m c t r k
  have hZ : (fun k => X0_1 m c t (ix2 r k)) = fun k : Fin 1024 => gate m c (ix2 ⟨256 * t.val + r.val, by have := pts t; omega⟩ ⟨3072 + k.val, by omega⟩) :=
    funext fun k => gates_at m c t r k
  have hG : (fun k => iblk m c 2 t (ix2 0 k)) = fun k => scale m c (ix2 0 k) :=
    funext fun k => (scaleBlock_at m c t k).trans (scale_at m c k)
  exact (mixed_at (iblk m c 0 t) (X0_1 m c t) (iblk m c 2 t) r k).trans
    ((congrArg (fun f => gated f _ _ k) hO).trans ((congrArg (fun f => gated _ f _ k) hZ).trans (congrArg (fun f => gated _ _ f k) hG)))

theorem block_at (c : Dev nD) (t : Fin cfg0.N) (r : Fin 256) (j : Fin 1024) :
    outsAt0 m c t (ix2 r j) = outAt m c ⟨256 * t.val + r.val, by have := pts t; omega⟩ j := by
  unfold outsAt0 outAt
  rw [block_eq, pay_at, residual_at]
  exact congrArg _ (Finset.sum_congr rfl fun k _ => congrArg₂ (fun a b : EReal => a * b) (heads_at m c t r k) ((matrixBlock_at m c t k j).trans (matrix_at m c k j)))

theorem row_place (a n : ℕ) : (![a, 0] : Fin 2 → ℕ) 0 * 256 + n = 256 * a + n := by simp [mul_comm]
theorem col_place (a n : ℕ) : (![a, 0] : Fin 2 → ℕ) 1 * 1024 + n = n := by simp

theorem launch_at (c : Dev nD) (i : (⟨2, ![16896, 1024]⟩ : Shape).Idx) : (dats m 0 c).arrAt 5 cfg0.N i = outAt m c (i 0) (i 1) := by
  refine (dats m 0 c).arrAt_forall_of_covers 5
    (fun (j : (⟨2, ![16896, 1024]⟩ : Shape).Idx) (v : EReal) => v = outAt m c (j 0) (j 1)) (by decide +kernel) (fun t hf y => ?_) i
  blk_simp
  rw [after0_5]
  refine (congrArg (outsAt0 m c t) (eta2 (a := 256) (b := 1024) y)).trans ((block_at m c t (y 0) (y 1)).trans (outAt_congr m c ?_ ?_))
  · blk_simp
    rw [place_5 t]
    exact (row_place t.val (y 0).val).symm
  · blk_simp
    rw [place_5 t]
    exact (col_place t.val (y 1).val).symm

/-- The result as an array. -/
def resO (c : Dev nD) : (⟨2, ![16896, 1024]⟩ : Shape).Idx → EReal := (dats m 0 c).arrAt 5 cfg0.N

theorem resO_at (c : Dev nD) (n : Fin 16896) (k : Fin 1024) : resO m c (ix2 n k) = outAt m c n k := launch_at m c (ix2 n k)

/-- Every run ends with the result, the arguments unchanged. -/
theorem value :
    θ_run defs (onTc (τ := τ) (main (F := Ideal))) ⟨m, fun _ => 0, ρ⟩ (fun r => ∀ c : Dev nD,
      r.2.mem ((c.tc : Thread nD τ).loc main_v4) = resO m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 5, h.2.1 c⟩)
    (θ_run_and (run_main m ρ) (frame m ρ))

end Cert.GdnOutIdeal.Val

end
-- ==== Proof.GdnOut.Ref.lean ====
/-
  The reference of the gated output, entry by entry.
-/
module

public import proofs.«01_k».proof.Proof.GdnOut.Gated
public import proofs.«01_k».proof.Proof.Gen.GdnOutRefIdeal.Run
public import proofs.«01_k».proof.Proof.Gen.GdnOutRefIdeal.Read
public import Idealize.ShloMosaic.Lib.Pointwise

@[expose] public section

noncomputable section

namespace Cert.GdnOutRefIdeal.Val

open Idealize.ShloMosaic Idealize.ShloMosaic.TcCoe
open Cert.GdnOutRefIdeal
open Cert.GdnOutRefIdeal.Read
open Cert.Normed

theorem mixed_at (O : Vec Ideal S16896x1024 .f32) (Z : Vec Ideal S16896x4224 .f32) (G : Vec Ideal S1x128 .f32) (n : Fin 16896) (j : Fin 1024) :
    val_main_v19 (F := Ideal) O Z G (ix2 n j)
      = gated (fun k => O (ix2 n k)) (fun k => Z (ix2 n ⟨3072 + k.val, by omega⟩)) (fun k => G (ix2 0 k)) j := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_call0_v0, val_main_call0_v1, val_main_call0_v2, val_main_call0_v3, val_main_call0_v4, val_main_call0_v5, val_main_call0_cst, val_main_call0_cst_0]
  rfl

theorem out_at (O : Vec Ideal S16896x1024 .f32) (Z : Vec Ideal S16896x4224 .f32) (G : Vec Ideal S1x128 .f32) (W : Vec Ideal S1x1024x1024 .f32) (H : Vec Ideal S16896x1024 .f32) (n : Fin 16896) (j : Fin 1024) :
    val_main_v22 (F := Ideal) O Z G W H (ix2 n j)
      = H (ix2 n j) + ∑ k : Fin 1024, gated (fun k => O (ix2 n k)) (fun k => Z (ix2 n ⟨3072 + k.val, by omega⟩)) (fun k => G (ix2 0 k)) k * W (ix3 0 k j) := by
  simp only [← mixed_at]
  pointwise [val_main_v22, val_main_v21, val_main_v20]

end Cert.GdnOutRefIdeal.Val

end
-- ==== Proof.GdnOut.Claims.lean ====
/-
  The claims of the gated output projection: the runs are complete, and the result is the reference's.
-/
module

public import proofs.«01_k».proof.Defs
public import proofs.«01_k».proof.Proof.Gen.GdnOut.Frame
public import proofs.«01_k».proof.Proof.GdnOut.Value
public import proofs.«01_k».proof.Proof.GdnOut.Ref

@[expose] public section

noncomputable section

namespace Cert.GdnOutClaims

open Idealize.ShloMosaic Idealize.ShloMosaic.TcCoe Idealize.SL.Sem
open Cert.Normed

theorem frame_p : Cert.quiescent_GdnOut := fun m ρ _ => Cert.GdnOut.Gen.frame m ρ

theorem frame_pi : Cert.quiescent_GdnOutIdeal := fun m ρ _ => Cert.GdnOutIdeal.Gen.frame m ρ

theorem preserves : Cert.preserves_GdnOut_GdnOutIdeal := trivial

theorem frame_ri : Cert.quiescent_GdnOutRefIdeal := fun m ρ _ =>
  (θ_run Cert.GdnOutRefIdeal.defs _ _).mono (fun r h => ⟨fun c => (h c).2, sem_eq_zero_of_no_sems (by decide) r.2⟩)
    (Cert.GdnOutRefIdeal.Value.run (F := Ideal) m ρ)

/-- The result agrees with the reference's, element by element. -/
theorem o_eq (m : (ℓ : Loc Cert.GdnOutIdeal.nD Cert.GdnOutIdeal.τ Cert.GdnOutIdeal.sig) → Buf (Elt Ideal) ℓ) (c : Dev Cert.GdnOutIdeal.nD) :
    Cert.GdnOutRefIdeal.Read.val_main_v22 (F := Ideal) (Cert.GdnOutIdeal.Val.row m c) (Cert.GdnOutIdeal.Val.gate m c) (Cert.GdnOutIdeal.Val.scale m c)
        (Cert.GdnOutIdeal.Val.mat m c) (Cert.GdnOutIdeal.Val.res m c)
      = Cert.GdnOutIdeal.Val.resO m c :=
  ext2 fun n j => (Cert.GdnOutRefIdeal.Val.out_at _ _ _ _ _ n j).trans (Cert.GdnOutIdeal.Val.resO_at m c n j).symm

theorem algebraic : Cert.algebraic_GdnOutIdeal_GdnOutRefIdeal := by
  intro m ρ m' ρ' _ hagree
  refine ⟨_, Cert.GdnOutIdeal.Val.value m ρ, ?_⟩
  refine (θ_run Cert.GdnOutRefIdeal.defs _ _).mono
    (fun r h c => ⟨(h c).1.trans ?_, (h c).2⟩) (Cert.GdnOutRefIdeal.Value.run (F := Ideal) m' ρ')
  rw [Cert.GdnOutRefIdeal.Read.val_main_v22_eq, (hagree c).1, (hagree c).2.1, (hagree c).2.2.1, (hagree c).2.2.2.1, (hagree c).2.2.2.2]
  exact o_eq m c

end Cert.GdnOutClaims

end
-- ==== Proof.Final.Value.lean ====
/-
  The last normalisation: blocks of 128 rows of the text, the first 128 rows of every sequence left out.
-/
module

public import proofs.«01_k».proof.Proof.Normed
public import proofs.«01_k».proof.Proof.Gen.FinalIdeal.Frame
public import Idealize.ShloMosaic.Lib.Pipeline.ValueKit
public import Idealize.ShloMosaic.Lib.Pipeline.Covers

@[expose] public section

set_option maxRecDepth 16384

noncomputable section

namespace Cert.FinalIdeal.Val

open Idealize.ShloMosaic Idealize.ShloMosaic.TcCoe Idealize.SL.Sem
open Idealize.ShloMosaic.Pipeline (Dat Cfg Window)
open Cert.FinalIdeal Cert.FinalIdeal.Gen
open Cert.Normed

theorem pay_at (X : Vec Ideal S1x128x1024 .f32) (G : Vec Ideal S1x1024 .f32) (r : Fin 128) (k : Fin 1024) :
    k0_pay1 X G (ix3 0 r k) = normed (fun k => X (ix3 0 r k)) (fun k => G (ix2 0 k)) k := by
  unfold normed
  pointwise [k0_pay1]

variable (m : (ℓ : Loc nD τ sig) → Buf (Elt Ideal) ℓ) (ρ : Dev nD → PrngReg)

/-- The rows and the scale, as launched. -/
abbrev hid (c : Dev nD) : (⟨2, ![16896, 1024]⟩ : Shape).Idx → EReal := m (c.tc.loc main_arg0)
abbrev scl (c : Dev nD) : (⟨1, ![1024]⟩ : Shape).Idx → EReal := m (c.tc.loc main_arg1)

theorem input_at (c : Dev nD) (b : Fin 4) (n : Fin 4224) (k : Fin 1024) :
    V m c main_v0 (ix3 b n k) = hid m c (ix2 ⟨b.val * 4224 + n.val, by omega⟩ k) := by
  unfold_abbrev_sides
  after_results
  pointwise

theorem scale_at (c : Dev nD) (k : Fin 1024) : V m c main_v1 (ix2 0 k) = scl m c (ix1 k) := by
  unfold_abbrev_sides
  after_results
  pointwise

theorem place_0 : ∀ t : Fin cfg0.N, win0_0.index t = ![t.val / 32, t.val % 32 + 1, 0] :=
  (by decide +kernel : ∀ t : Fin grid0.N, win0_0.index t = ![t.val / 32, t.val % 32 + 1, 0])
theorem place_1 : ∀ t : Fin cfg0.N, win0_1.index t = ![0, 0] :=
  (by decide +kernel : ∀ t : Fin grid0.N, win0_1.index t = ![0, 0])
theorem place_2 : ∀ t : Fin cfg0.N, win0_2.index t = ![t.val / 32, t.val % 32, 0] :=
  (by decide +kernel : ∀ t : Fin grid0.N, win0_2.index t = ![t.val / 32, t.val % 32, 0])

theorem pts (t : Fin cfg0.N) : t.val < 128 := t.isLt

theorem rows_at (c : Dev nD) (t : Fin cfg0.N) (r : Fin 128) (k : Fin 1024) :
    iblk m c 0 t (ix3 0 r k) = V m c main_v0 (ix3 ⟨t.val / 32, by have := pts t; omega⟩ ⟨(t.val % 32 + 1) * 128 + r.val, by have := pts t; omega⟩ k) := by
  blk_ext [iblk, place_0 t]

theorem scaleBlock_at (c : Dev nD) (t : Fin cfg0.N) (k : Fin 1024) : iblk m c 1 t (ix2 0 k) = V m c main_v1 (ix2 0 k) := by
  blk_ext [iblk, place_1 t]

/-- The result at an element. -/
def outAt (c : Dev nD) (b : Fin 4) (p : Fin 4096) (j : Fin 1024) : EReal :=
  normed (fun k => hid m c (ix2 ⟨b.val * 4224 + (p.val + 128), by omega⟩ k)) (fun k => scl m c (ix1 k)) j

theorem block_at (c : Dev nD) (t : Fin cfg0.N) (r : Fin 128) (j : Fin 1024) :
    out0_2 (iblk m c 0 t) (iblk m c 1 t) (ix3 0 r j)
      = outAt m c ⟨t.val / 32, by have := pts t; omega⟩ ⟨t.val % 32 * 128 + r.val, by have := pts t; omega⟩ j := by
  have hs : (fun k => iblk m c 1 t (ix2 0 k)) = fun k => scl m c (ix1 k) := funext fun k => (scaleBlock_at m c t k).trans (scale_at m c k)
  have hr : (fun k => iblk m c 0 t (ix3 0 r k))
      = fun k => hid m c (ix2 ⟨(t.val / 32) * 4224 + ((t.val % 32 * 128 + r.val) + 128), by have := pts t; omega⟩ k) :=
    funext fun k => (rows_at m c t r k).trans ((input_at m c _ _ k).trans (congrArg (fun q => hid m c (ix2 q k)) (Fin.ext (by simp only; omega))))
  unfold out0_2 outAt
  rw [View.canon_cons_unit_zero (by funext a; fin_cases a <;> rfl), View.ld_unit_zero (by funext a; fin_cases a <;> rfl),
    View.ld_unit_zero (by funext a; fin_cases a <;> rfl), pay_at, hr, hs]

theorem row_place (a b n : ℕ) : (![a, b, 0] : Fin 3 → ℕ) 1 * 128 + n = b * 128 + n := by simp
theorem col_place (a b n : ℕ) : (![a, b, 0] : Fin 3 → ℕ) 2 * 1024 + n = n := by simp

theorem outAt_congr (c : Dev nD) (b b' : Fin 4) (p p' : Fin 4096) (j j' : Fin 1024) (hb : b.val = b'.val) (hp : p.val = p'.val) (hj : j.val = j'.val) :
    outAt m c b p j = outAt m c b' p' j' := by
  rw [Fin.ext hb, Fin.ext hp, Fin.ext hj]

theorem launch_at (c : Dev nD) (i : (⟨3, ![4, 4096, 1024]⟩ : Shape).Idx) : (dats m 0 c).arrAt 2 cfg0.N i = outAt m c (i 0) (i 1) (i 2) := by
  refine (dats m 0 c).arrAt_forall_of_covers 2
    (fun (j : (⟨3, ![4, 4096, 1024]⟩ : Shape).Idx) (v : EReal) => v = outAt m c (j 0) (j 1) (j 2)) (by decide +kernel) (fun t hf y => ?_) i
  blk_simp
  rw [after0_2]
  refine (congrArg (out0_2 (iblk m c 0 t) (iblk m c 1 t)) (eta3_one (b := 128) (c := 1024) y)).trans ((block_at m c t (y 1) (y 2)).trans ?_)
  refine outAt_congr m c _ _ _ _ _ _ ?_ ?_ ?_
  · blk_simp
    rw [place_2 t]
    rfl
  · blk_simp
    rw [place_2 t]
    exact (row_place (t.val / 32) (t.val % 32) (y 1).val).symm
  · blk_simp
    rw [place_2 t]
    exact (col_place (t.val / 32) (t.val % 32) (y 2).val).symm

/-- The result as an array. -/
def resY (c : Dev nD) : (⟨3, ![4, 4096, 1024]⟩ : Shape).Idx → EReal := (dats m 0 c).arrAt 2 cfg0.N

theorem resY_at (c : Dev nD) (b : Fin 4) (p : Fin 4096) (j : Fin 1024) : resY m c (ix3 b p j) = outAt m c b p j := launch_at m c (ix3 b p j)

/-- Every run ends with the result, the arguments unchanged. -/
theorem value :
    θ_run defs (onTc (τ := τ) (main (F := Ideal))) ⟨m, fun _ => 0, ρ⟩ (fun r => ∀ c : Dev nD,
      r.2.mem ((c.tc : Thread nD τ).loc main_v2) = resY m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1 2, h.2.1 c⟩)
    (θ_run_and (run_main m ρ) (frame m ρ))

end Cert.FinalIdeal.Val

end
-- ==== Proof.Final.Ref.lean ====
/-
  The reference of the last normalisation, entry by entry.
-/
module

public import proofs.«01_k».proof.Proof.Normed
public import proofs.«01_k».proof.Proof.Gen.FinalRefIdeal.Run
public import proofs.«01_k».proof.Proof.Gen.FinalRefIdeal.Read
public import Idealize.ShloMosaic.Lib.Pointwise

@[expose] public section

noncomputable section

namespace Cert.FinalRefIdeal.Val

open Idealize.ShloMosaic Idealize.ShloMosaic.TcCoe
open Cert.FinalRefIdeal
open Cert.FinalRefIdeal.Read
open Cert.Normed

theorem out_at (H : Vec Ideal S16896x1024 .f32) (G : Vec Ideal S1024 .f32) (b : Fin 4) (p : Fin 4096) (j : Fin 1024) :
    val_main_v15 (F := Ideal) H G (ix3 b p j)
      = normed (fun k => H (ix2 ⟨b.val * 4224 + (p.val + 128), by omega⟩ k)) (fun k => G (ix1 k)) j := by
  have e : (⟨b.val * 4224 + (p.val + 128), by omega⟩ : Fin 16896) = ⟨b.val * 4224 + (112 + (16 + p.val)), by omega⟩ :=
    Fin.ext (by simp only; omega)
  rw [e]
  unfold normed
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

end Cert.FinalRefIdeal.Val

end
-- ==== Proof.Final.Claims.lean ====
/-
  The claims of the last normalisation: the runs are complete, and the result is the reference's.
-/
module

public import proofs.«01_k».proof.Defs
public import proofs.«01_k».proof.Proof.Gen.Final.Frame
public import proofs.«01_k».proof.Proof.Final.Value
public import proofs.«01_k».proof.Proof.Final.Ref

@[expose] public section

noncomputable section

namespace Cert.FinalClaims

open Idealize.ShloMosaic Idealize.ShloMosaic.TcCoe Idealize.SL.Sem
open Cert.Normed

theorem frame_p : Cert.quiescent_Final := fun m ρ _ => Cert.Final.Gen.frame m ρ

theorem frame_pi : Cert.quiescent_FinalIdeal := fun m ρ _ => Cert.FinalIdeal.Gen.frame m ρ

theorem preserves : Cert.preserves_Final_FinalIdeal := trivial

theorem frame_ri : Cert.quiescent_FinalRefIdeal := fun m ρ _ =>
  (θ_run Cert.FinalRefIdeal.defs _ _).mono (fun r h => ⟨fun c => (h c).2, sem_eq_zero_of_no_sems (by decide) r.2⟩)
    (Cert.FinalRefIdeal.Value.run (F := Ideal) m ρ)

/-- The result agrees with the reference's, element by element. -/
theorem y_eq (m : (ℓ : Loc Cert.FinalIdeal.nD Cert.FinalIdeal.τ Cert.FinalIdeal.sig) → Buf (Elt Ideal) ℓ) (c : Dev Cert.FinalIdeal.nD) :
    Cert.FinalRefIdeal.Read.val_main_v15 (F := Ideal) (Cert.FinalIdeal.Val.hid m c) (Cert.FinalIdeal.Val.scl m c)
      = Cert.FinalIdeal.Val.resY m c :=
  ext3 fun b p j => (Cert.FinalRefIdeal.Val.out_at _ _ b p j).trans (Cert.FinalIdeal.Val.resY_at m c b p j).symm

theorem algebraic : Cert.algebraic_FinalIdeal_FinalRefIdeal := by
  intro m ρ m' ρ' _ hagree
  refine ⟨_, Cert.FinalIdeal.Val.value m ρ, ?_⟩
  refine (θ_run Cert.FinalRefIdeal.defs _ _).mono
    (fun r h c => ⟨(h c).1.trans ?_, (h c).2⟩) (Cert.FinalRefIdeal.Value.run (F := Ideal) m' ρ')
  rw [Cert.FinalRefIdeal.Read.val_main_v15_eq, (hagree c).1, (hagree c).2]
  exact y_eq m c

end Cert.FinalClaims

end
-- ==== Proof.Logf.LogSig.lean ====
/-
  The logarithm of the sigmoid, written so that no exponential overflows: what both sides of the forget gates come to.
-/
module

public import proofs.«01_k».proof.Proof.Normed

@[expose] public section

noncomputable section

namespace Cert.Normed

open Idealize.ShloMosaic

/-- The absolute value. -/
abbrev absE (x : EReal) : EReal := @FloatOps.absf Ideal _ .f32 x

/-- `-(max (-x) 0 + log (1 + exp (-|x|)))`, the logarithm of `1 / (1 + exp (-x))`. -/
def logSig (x : EReal) : EReal := -(max (-x) 0 + Ideal.log1p (Ideal.exp (-absE (-x))))

/-- The same with every sign change written as a difference from zero. -/
theorem logSig_of_sub (x : EReal) : 0 - (max (0 - x) 0 + Ideal.log1p (Ideal.exp (0 - absE (0 - x)))) = logSig x := by
  unfold logSig
  rw [zero_sub, zero_sub, zero_sub]

end Cert.Normed

end
-- ==== Proof.Logf.Value.lean ====
/-
  The log forget gates of the prompt: every block of 128 rows is the log sigmoid of the gate columns plus the bias.
-/
module

public import proofs.«01_k».proof.Proof.Logf.LogSig
public import proofs.«01_k».proof.Proof.Gen.LogfIdeal.Frame
public import Idealize.ShloMosaic.Lib.Pipeline.ValueKit
public import Idealize.ShloMosaic.Lib.Pipeline.Covers
public import Idealize.ShloMosaic.Lib.Routing.OpsOne

@[expose] public section

set_option maxRecDepth 16384

noncomputable section

namespace Cert.LogfIdeal.Val

open Idealize.ShloMosaic Idealize.ShloMosaic.TcCoe Idealize.SL.Sem
open Idealize.ShloMosaic.Pipeline (Dat Cfg Window)
open Cert.LogfIdeal Cert.LogfIdeal.Gen
open Cert.Normed

theorem pay_at (X : Vec Ideal S1x128x128 .f32) (G : Vec Ideal S1x128 .f32) (r : Fin 128) (k : Fin 128) :
    k0_pay4 X G (ix3 0 r k) = logSig (X (ix3 0 r k) + G (ix2 0 k)) := by
  rw [← logSig_of_sub]
  pointwise [k0_pay4, k0_pay3]

/-! Whether a block is the first of its sequence or not, the gates it stores are the same. -/

theorem first_eq (c : Dev nD) (i : grid0.Coords) (arg2 : Memref sig .tc .vmem S1x128x128 .f32) (harg2 : arg2.IsWhole) (arg3 : Memref sig .tc .vmem S1x128 .f32) (harg3 : arg3.IsWhole)
    (arg4 : Memref sig .tc .vmem S1x128x128 .f32) (harg4 : arg4.IsWhole) (arg5 : Memref sig .tc .vmem S1x128x128 .f32) (harg5 : arg5.IsWhole) (arg6 : Memref sig .tc .vmem S1x128 .f32) (harg6 : arg6.IsWhole)
    (hc0 : cond0_0 i) (x0 : Vec Ideal S1x128x128 .f32) (x1 : Vec Ideal S1x128 .f32) :
    out0_A_2 c i arg2 harg2 arg3 harg3 arg4 harg4 arg5 harg5 arg6 harg6 hc0 x0 x1 = k0_pay4 x0 x1 := by
  have h1 : (![0, 0, 0] : Fin S1x128x128.rank → ℕ) = fun _ => 0 := by funext a; fin_cases a <;> rfl
  have h2 : (![0, 0] : Fin S1x128.rank → ℕ) = fun _ => 0 := by funext a; fin_cases a <;> rfl
  unfold out0_A_2
  rw [View.read_writes_eq_canon _ _ _ (cover0_A_2 c i arg2 harg2 arg3 harg3 arg4 harg4 arg5 harg5 arg6 harg6 hc0 x0 x1)]
  unfold kernelRun0_A
  dsimp only
  rw [View.canon_unit_zero (S := S1x128x128) h1]
  sl_unfold_words
  simp only [View.readAt_eq_ld, harg2.read_unread, harg3.read_unread, View.ld_unit_zero (S := S1x128x128) h1, View.ld_unit_zero (S := S1x128) h2]

theorem later_eq (c : Dev nD) (i : grid0.Coords) (arg2 : Memref sig .tc .vmem S1x128x128 .f32) (harg2 : arg2.IsWhole) (arg3 : Memref sig .tc .vmem S1x128 .f32) (harg3 : arg3.IsWhole)
    (arg4 : Memref sig .tc .vmem S1x128x128 .f32) (harg4 : arg4.IsWhole) (arg5 : Memref sig .tc .vmem S1x128x128 .f32) (harg5 : arg5.IsWhole) (arg6 : Memref sig .tc .vmem S1x128 .f32) (harg6 : arg6.IsWhole)
    (hc0 : ¬cond0_0 i) (x0 : Vec Ideal S1x128x128 .f32) (x1 : Vec Ideal S1x128 .f32) (xs0 : Vec Ideal S1x128 .f32) :
    out0_B_2 c i arg2 harg2 arg3 harg3 arg4 harg4 arg5 harg5 arg6 harg6 hc0 x0 x1 xs0 = k0_pay4 x0 x1 := by
  have h1 : (![0, 0, 0] : Fin S1x128x128.rank → ℕ) = fun _ => 0 := by funext a; fin_cases a <;> rfl
  have h2 : (![0, 0] : Fin S1x128.rank → ℕ) = fun _ => 0 := by funext a; fin_cases a <;> rfl
  unfold out0_B_2
  rw [View.read_writes_eq_canon _ _ _ (cover0_B_2 c i arg2 harg2 arg3 harg3 arg4 harg4 arg5 harg5 arg6 harg6 hc0 x0 x1 xs0)]
  unfold kernelRun0_B
  dsimp only
  rw [View.canon_unit_zero (S := S1x128x128) h1]
  sl_unfold_words
  simp only [View.readAt_eq_ld, harg2.read_unread, harg3.read_unread, View.ld_unit_zero (S := S1x128x128) h1, View.ld_unit_zero (S := S1x128) h2]

/-! The bias: eight values written over the first eight of 128 zeros. -/

/-- Where the update `k` of a row's first eight lands. -/
theorem lands_row (D : ScatterDims (Routing.shape2 1 128) (Routing.shape1 2) (Routing.shape1 8)) (hi : D.insertedWindowDims = [0])
    (hs : D.scatterDimsToOperandDims = [0, 1]) (hv : D.indexVectorDim = 0) (idx : IVec (Routing.shape1 2) 32)
    (h0 : (idx (ValueIdx.ix1 (0 : Fin 2))).toInt = 0) (h1 : (idx (ValueIdx.ix1 (1 : Fin 2))).toInt = 0) (k : Fin 8) (d : Fin 128) :
    D.resultIdx? (ix1 k) idx = some (ix2 0 d) ↔ k.val = d.val := by
  have w0 : D.window (ix1 k) 0 = 0 := by
    unfold ScatterDims.window
    exact dif_neg fun h => (of_decide_eq_true (List.mem_filter.1 h).2) (by rw [hi]; simp)
  have w1 : D.window (ix1 k) 1 = k.val := by
    have hk : D.sKept = [1] := by
      show (Routing.shape2 1 128).kept D.insertedWindowDims = _
      rw [hi]
      rfl
    unfold ScatterDims.window
    rw [dif_pos (by rw [hk]; simp)]
    exact congrArg (fun t => ((ix1 k : (Routing.shape1 8).Idx) t).val) (Subsingleton.elim (α := Fin 1) _ 0)
  refine (Routing.resultIdx?_ix2 D (ix1 k) idx 0 d).trans ?_
  rw [Routing.start_pair D hs hv, Routing.start_pair D hs hv, h0, h1, w0, w1]
  constructor
  · intro h; have := h.2; omega
  · intro h; exact ⟨rfl, by omega⟩

/-- The row with its first eight overwritten, read at one of them. -/
theorem row_first (D : ScatterDims (Routing.shape2 1 128) (Routing.shape1 2) (Routing.shape1 8)) (hi : D.insertedWindowDims = [0])
    (hs : D.scatterDimsToOperandDims = [0, 1]) (hv : D.indexVectorDim = 0) (idx : IVec (Routing.shape1 2) 32)
    (h0 : (idx (ValueIdx.ix1 (0 : Fin 2))).toInt = 0) (h1 : (idx (ValueIdx.ix1 (1 : Fin 2))).toInt = 0)
    (x : (Routing.shape2 1 128).Idx → EReal) (u : (Routing.shape1 8).Idx → EReal) (d : Fin 8) :
    Host.scatter D (fun _ b => b) x idx u (ix2 0 ⟨d.val, by omega⟩) = u (ix1 d) := by
  refine Routing.scatter_set_hit D x idx u _ _ (fun k hk => ?_) (ix1 d) ((lands_row D hi hs hv idx h0 h1 d ⟨d.val, by omega⟩).2 rfl)
  have e : k = ix1 (k 0) := ValueIdx.eq_ix1 k
  rw [e] at hk ⊢
  exact congrArg (fun t => u (ix1 t)) (Fin.ext ((lands_row D hi hs hv idx h0 h1 (k 0) ⟨d.val, by omega⟩).1 hk))

variable (m : (ℓ : Loc nD τ sig) → Buf (Elt Ideal) ℓ) (ρ : Dev nD → PrngReg)

/-- The projection, whose eight columns from 3072 are the gates, and the bias, as launched. -/
abbrev prj (c : Dev nD) : (⟨3, ![4, 4224, 3200]⟩ : Shape).Idx → EReal := m (c.tc.loc main_arg0)
abbrev bia (c : Dev nD) : (⟨2, ![1, 8]⟩ : Shape).Idx → EReal := m (c.tc.loc main_arg1)

theorem bias_at (c : Dev nD) (d : Fin 8) : V m c main_v5 (ix2 0 ⟨d.val, by omega⟩) = bia m c (ix2 0 d) := by
  unfold_abbrev_sides
  simp only [List.flatten_cons, List.flatten_nil, List.append_nil, List.cons_append, List.nil_append]
  after_results
  refine (row_first _ rfl rfl rfl _ ?_ ?_ _ _ d).trans ?_
  · decide
  · decide
  · pointwise

theorem place_0 : ∀ t : Fin cfg0.N, win0_0.index t = ![t.val / 33, t.val % 33, 24] :=
  (by decide +kernel : ∀ t : Fin grid0.N, win0_0.index t = ![t.val / 33, t.val % 33, 24])
theorem place_1 : ∀ t : Fin cfg0.N, win0_1.index t = ![0, 0] :=
  (by decide +kernel : ∀ t : Fin grid0.N, win0_1.index t = ![0, 0])
theorem place_2 : ∀ t : Fin cfg0.N, win0_2.index t = ![t.val / 33, t.val % 33, 0] :=
  (by decide +kernel : ∀ t : Fin grid0.N, win0_2.index t = ![t.val / 33, t.val % 33, 0])

theorem pts (t : Fin cfg0.N) : t.val < 132 := t.isLt

theorem rows_at (c : Dev nD) (t : Fin cfg0.N) (r : Fin 128) (k : Fin 128) :
    iblk m c 0 t (ix3 0 r k)
      = prj m c (ix3 ⟨t.val / 33, by have := pts t; omega⟩ ⟨t.val % 33 * 128 + r.val, by have := pts t; omega⟩ ⟨3072 + k.val, by omega⟩) := by
  blk_ext [iblk, V, place_0 t]

theorem biasBlock_at (c : Dev nD) (t : Fin cfg0.N) (k : Fin 128) : iblk m c 1 t (ix2 0 k) = V m c main_v5 (ix2 0 k) := by
  blk_ext [iblk, place_1 t]

/-- The launch's array at an element. -/
def gateAt (c : Dev nD) (b : Fin 4) (n : Fin 4224) (k : Fin 128) : EReal :=
  logSig (prj m c (ix3 b n ⟨3072 + k.val, by omega⟩) + V m c main_v5 (ix2 0 k))

theorem gateAt_congr (c : Dev nD) {b b' : Fin 4} {n n' : Fin 4224} {k k' : Fin 128} (hb : b.val = b'.val) (hn : n.val = n'.val) (hk : k.val = k'.val) :
    gateAt m c b n k = gateAt m c b' n' k' := by
  rw [Fin.ext hb, Fin.ext hn, Fin.ext hk]

theorem stored_eq (c : Dev nD) (t : Fin cfg0.N) : (outsAt0 m c t.val t.isLt).1 = k0_pay4 (iblk m c 0 t) (iblk m c 1 t) := by
  by_cases h : t.val % 33 = 0
  · rw [outsAt0_A m c t h]
    dsimp only
    rw [first_eq]
  · rw [outsAt0_B m c t h]
    dsimp only
    rw [later_eq]

theorem block_at (c : Dev nD) (t : Fin cfg0.N) (r : Fin 128) (k : Fin 128) :
    k0_pay4 (iblk m c 0 t) (iblk m c 1 t) (ix3 0 r k)
      = gateAt m c ⟨t.val / 33, by have := pts t; omega⟩ ⟨t.val % 33 * 128 + r.val, by have := pts t; omega⟩ k :=
  (pay_at _ _ r k).trans (congrArg logSig (congrArg₂ (fun a b : EReal => a + b) (rows_at m c t r k) (biasBlock_at m c t k)))

theorem row_place (a b n : ℕ) : (![a, b, 0] : Fin 3 → ℕ) 1 * 128 + n = b * 128 + n := by simp
theorem col_place (a b n : ℕ) : (![a, b, 0] : Fin 3 → ℕ) 2 * 128 + n = n := by simp

theorem launch_at (c : Dev nD) (i : (⟨3, ![4, 4224, 128]⟩ : Shape).Idx) : (dats m 0 c).arrAt 2 cfg0.N i = gateAt m c (i 0) (i 1) (i 2) := by
  refine (dats m 0 c).arrAt_forall_of_covers 2
    (fun (j : (⟨3, ![4, 4224, 128]⟩ : Shape).Idx) (v : EReal) => v = gateAt m c (j 0) (j 1) (j 2)) (by decide +kernel) (fun t hf y => ?_) i
  blk_simp
  rw [after0_2, stored_eq]
  refine (congrArg (k0_pay4 (iblk m c 0 t) (iblk m c 1 t)) (eta3_one (b := 128) (c := 128) y)).trans ((block_at m c t (y 1) (y 2)).trans ?_)
  refine gateAt_congr m c ?_ ?_ ?_
  · blk_simp
    rw [place_2 t]
    rfl
  · blk_simp
    rw [place_2 t]
    exact (row_place (t.val / 33) (t.val % 33) (y 1).val).symm
  · blk_simp
    rw [place_2 t]
    exact (col_place (t.val / 33) (t.val % 33) (y 2).val).symm

/-- The launch's array among the buffers after it. -/
theorem array_eq (c : Dev nD) : Pipeline.withArrays (cfgs 0).spec c (V0 m c) (fun w => (dats m 0 c).arrAt w (cfgs 0).N) (Proc.devRef .tc main_v6_0)
    = (dats m 0 c).arrAt 2 cfg0.N := (dats m 0 c).withArrays_arrAt (fun _ _ hne h => absurd (launch0.win.arr_inj h) hne) (V0 m c) (A_eq m c) 2

/-- The result as an array. -/
def resG (c : Dev nD) : (⟨4, ![1, 4, 4112, 8]⟩ : Shape).Idx → EReal := Pipeline.afterTail₀ cfgs (dats m) 0 (V0 m) [hostOps1] c main_v8

theorem resG_at (c : Dev nD) (b : Fin 4) (p : Fin 4112) (d : Fin 8) :
    resG m c (ix4 0 b p d) = logSig (prj m c (ix3 b ⟨112 + p.val, by omega⟩ ⟨3072 + d.val, by omega⟩) + bia m c (ix2 0 d)) := by
  unfold resG Pipeline.afterTail₀
  change StableHlo.after hostOps1 _ (Proc.devRef .tc main_v8) (ix4 0 b p d) = _
  after_results
  rw [array_eq]
  pointwise
  refine (launch_at m c (ix3 b ⟨112 + p.val, by omega⟩ ⟨d.val, by omega⟩)).trans ?_
  exact congrArg (fun y : EReal => logSig (prj m c (ix3 b ⟨112 + p.val, by omega⟩ ⟨3072 + d.val, by omega⟩) + y)) (bias_at m c d)

/-- Every run ends with the result, the arguments unchanged. -/
theorem value :
    θ_run defs (onTc (τ := τ) (main (F := Ideal))) ⟨m, fun _ => 0, ρ⟩ (fun r => ∀ c : Dev nD,
      r.2.mem ((c.tc : Thread nD τ).loc main_v8) = resG m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).2 main_v8 (by decide), h.2.1 c⟩)
    (θ_run_and (run_main m ρ) (frame m ρ))

end Cert.LogfIdeal.Val

end
-- ==== Proof.Logf.Ref.lean ====
/-
  The reference of the log forget gates, entry by entry.
-/
module

public import proofs.«01_k».proof.Proof.Logf.LogSig
public import proofs.«01_k».proof.Proof.Gen.LogfRefIdeal.Run
public import proofs.«01_k».proof.Proof.Gen.LogfRefIdeal.Read
public import Idealize.ShloMosaic.Lib.Pointwise

@[expose] public section

noncomputable section

namespace Cert.LogfRefIdeal.Val

open Idealize.ShloMosaic Idealize.ShloMosaic.TcCoe
open Cert.LogfRefIdeal
open Cert.LogfRefIdeal.Read
open Cert.Normed

theorem out_at (Z : Vec Ideal S4x4224x3200 .f32) (B : Vec Ideal S1x8 .f32) (b : Fin 4) (p : Fin 4112) (d : Fin 8) :
    val_main_v6 (F := Ideal) Z B (ix4 0 b p d) = logSig (Z (ix3 b ⟨112 + p.val, by omega⟩ ⟨3072 + d.val, by omega⟩) + B (ix2 0 d)) := by
  unfold logSig
  pointwise [val_main_v6, val_main_v5, val_main_v4, val_main_v3, val_main_v2, val_main_v1, val_main_v0, val_main_call0_v0, val_main_call0_v1, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_call0_cst]
  exact congrArg (fun y : EReal => -y) (if_neg fun h => h rfl)

end Cert.LogfRefIdeal.Val

end
-- ==== Proof.Logf.Claims.lean ====
/-
  The claims of the log forget gates: the runs are complete, and the result is the reference's.
-/
module

public import proofs.«01_k».proof.Defs
public import proofs.«01_k».proof.Proof.Gen.Logf.Frame
public import proofs.«01_k».proof.Proof.Logf.Value
public import proofs.«01_k».proof.Proof.Logf.Ref

@[expose] public section

noncomputable section

namespace Cert.LogfClaims

open Idealize.ShloMosaic Idealize.ShloMosaic.TcCoe Idealize.SL.Sem
open Cert.Normed

theorem frame_p : Cert.quiescent_Logf := fun m ρ _ => Cert.Logf.Gen.frame m ρ

theorem frame_pi : Cert.quiescent_LogfIdeal := fun m ρ _ => Cert.LogfIdeal.Gen.frame m ρ

theorem preserves : Cert.preserves_Logf_LogfIdeal := trivial

theorem frame_ri : Cert.quiescent_LogfRefIdeal := fun m ρ _ =>
  (θ_run Cert.LogfRefIdeal.defs _ _).mono (fun r h => ⟨fun c => (h c).2, sem_eq_zero_of_no_sems (by decide) r.2⟩)
    (Cert.LogfRefIdeal.Value.run (F := Ideal) m ρ)

/-- The result agrees with the reference's, element by element. -/
theorem gate_eq (m : (ℓ : Loc Cert.LogfIdeal.nD Cert.LogfIdeal.τ Cert.LogfIdeal.sig) → Buf (Elt Ideal) ℓ) (c : Dev Cert.LogfIdeal.nD) :
    Cert.LogfRefIdeal.Read.val_main_v6 (F := Ideal) (Cert.LogfIdeal.Val.prj m c) (Cert.LogfIdeal.Val.bia m c)
      = Cert.LogfIdeal.Val.resG m c :=
  ext4_one fun b p d => (Cert.LogfRefIdeal.Val.out_at _ _ b p d).trans (Cert.LogfIdeal.Val.resG_at m c b p d).symm

theorem algebraic : Cert.algebraic_LogfIdeal_LogfRefIdeal := by
  intro m ρ m' ρ' _ hagree
  refine ⟨_, Cert.LogfIdeal.Val.value m ρ, ?_⟩
  refine (θ_run Cert.LogfRefIdeal.defs _ _).mono
    (fun r h c => ⟨(h c).1.trans ?_, (h c).2⟩) (Cert.LogfRefIdeal.Value.run (F := Ideal) m' ρ')
  rw [Cert.LogfRefIdeal.Read.val_main_v6_eq, (hagree c).1, (hagree c).2]
  exact gate_eq m c

end Cert.LogfClaims

end
-- ==== Proof.GdnInS.Value.lean ====
/-
  The recurrent layer's input projection: every block of 256 rows is normalised and multiplied with the padded matrix, so
  the array the launch leaves holds at (n, j) the projection of row n onto column j.
-/
module

public import proofs.«01_k».proof.Proof.Normed
public import proofs.«01_k».proof.Proof.Gen.GdnInSIdeal.Frame
public import Idealize.ShloMosaic.Lib.Pipeline.ValueKit
public import Idealize.ShloMosaic.Lib.Pipeline.Covers

@[expose] public section

set_option maxRecDepth 16384

noncomputable section

namespace Cert.GdnInSIdeal.Val

open Idealize.ShloMosaic Idealize.ShloMosaic.TcCoe Idealize.SL.Sem
open Idealize.ShloMosaic.Pipeline (Dat Cfg Window)
open Cert.GdnInSIdeal Cert.GdnInSIdeal.Gen
open Cert.Normed

theorem pay_at (X : Vec Ideal S256x1024 .f32) (G : Vec Ideal S1x1024 .f32) (W : Vec Ideal S1024x4224 .bf16) (r : Fin 256) (j : Fin 4224) :
    k0_pay1 X G W (ix2 r j) = proj (fun k => X (ix2 r k)) (fun k => G (ix2 0 k)) (fun k => W (ix2 k j)) := by
  unfold proj normed
  pointwise [k0_pay1]

variable (m : (ℓ : Loc nD τ sig) → Buf (Elt Ideal) ℓ) (ρ : Dev nD → PrngReg)

/-- The inputs, the scale, and the matrix, as launched, and the rows kept from before, which the kernel never reads. -/
abbrev inp (c : Dev nD) : (⟨3, ![128, 4, 1024]⟩ : Shape).Idx → EReal := m (c.tc.loc main_arg0)
abbrev old (c : Dev nD) : (⟨4, ![1, 128, 3, 3072]⟩ : Shape).Idx → EReal := m (c.tc.loc main_arg1)
abbrev scl (c : Dev nD) : (⟨2, ![2, 1024]⟩ : Shape).Idx → EReal := m (c.tc.loc main_arg2)
abbrev mat (c : Dev nD) : (⟨3, ![1, 1024, 4112]⟩ : Shape).Idx → EReal := m (c.tc.loc main_arg3)

theorem row_at (c : Dev nD) (b : Fin 128) (p : Fin 4) (k : Fin 1024) : V m c main_v0 (ix2 ⟨b.val * 4 + p.val, by omega⟩ k) = inp m c (ix3 b p k) := by
  unfold_abbrev_sides
  simp only [List.flatten_cons, List.flatten_nil, List.append_nil, List.cons_append, List.nil_append]
  after_results
  pointwise

theorem scale_at (c : Dev nD) (k : Fin 1024) : V m c main_v6 (ix2 0 k) = scl m c (ix2 0 k) := by
  unfold_abbrev_sides
  simp only [List.flatten_cons, List.flatten_nil, List.append_nil, List.cons_append, List.nil_append]
  after_results
  pointwise

theorem matrix_at (c : Dev nD) (k : Fin 1024) (j : Fin 4112) : V m c main_v3 (ix2 k ⟨j.val, by omega⟩) = mat m c (ix3 0 k j) := by
  unfold_abbrev_sides
  simp only [List.flatten_cons, List.flatten_nil, List.append_nil, List.cons_append, List.nil_append]
  after_results
  simp -implicitDefEqProofs only [StableHlo.TRef.toBuf, StableHlo.TRef.ofBuf, cast_cast, cast_eq]
  pointwise

theorem place_0 : ∀ t : Fin cfg0.N, win0_0.index t = ![t.val, 0] :=
  (by decide +kernel : ∀ t : Fin grid0.N, win0_0.index t = ![t.val, 0])
theorem place_1 : ∀ t : Fin cfg0.N, win0_1.index t = ![0, 0] :=
  (by decide +kernel : ∀ t : Fin grid0.N, win0_1.index t = ![0, 0])
theorem place_2 : ∀ t : Fin cfg0.N, win0_2.index t = ![0, 0] :=
  (by decide +kernel : ∀ t : Fin grid0.N, win0_2.index t = ![0, 0])
theorem place_3 : ∀ t : Fin cfg0.N, win0_3.index t = ![t.val, 0] :=
  (by decide +kernel : ∀ t : Fin grid0.N, win0_3.index t = ![t.val, 0])

theorem pts (t : Fin cfg0.N) : t.val < 2 := t.isLt

theorem rows_at (c : Dev nD) (t : Fin cfg0.N) (r : Fin 256) (k : Fin 1024) :
    iblk m c 0 t (ix2 r k) = V m c main_v0 (ix2 ⟨256 * t.val + r.val, by have := pts t; omega⟩ k) := by
  blk_ext [iblk, place_0 t]

theorem scaleBlock_at (c : Dev nD) (t : Fin cfg0.N) (k : Fin 1024) : iblk m c 1 t (ix2 0 k) = V m c main_v6 (ix2 0 k) := by
  blk_ext [iblk, place_1 t]

theorem matrixBlock_at (c : Dev nD) (t : Fin cfg0.N) (k : Fin 1024) (j : Fin 4224) : iblk m c 2 t (ix2 k j) = V m c main_v3 (ix2 k j) := by
  blk_ext [iblk, place_2 t]

/-- The launch's array at an element. -/
def zAt (c : Dev nD) (n : Fin 512) (j : Fin 4224) : EReal :=
  proj (fun k => V m c main_v0 (ix2 n k)) (fun k => V m c main_v6 (ix2 0 k)) (fun k => V m c main_v3 (ix2 k j))

theorem block_at (c : Dev nD) (t : Fin cfg0.N) (r : Fin 256) (j : Fin 4224) :
    out0_3 (iblk m c 0 t) (iblk m c 1 t) (iblk m c 2 t) (ix2 r j) = zAt m c ⟨256 * t.val + r.val, by have := pts t; omega⟩ j := by
  unfold out0_3 zAt
  rw [View.canon_cons_unit_zero (by funext a; fin_cases a <;> rfl), View.ld_unit_zero (by funext a; fin_cases a <;> rfl), View.ld_unit_zero (by funext a; fin_cases a <;> rfl),
    View.ld_unit_zero (by funext a; fin_cases a <;> rfl), pay_at]
  simp only [rows_at, scaleBlock_at, matrixBlock_at]

theorem row_place (a n : ℕ) : (![a, 0] : Fin 2 → ℕ) 0 * 256 + n = 256 * a + n := by simp [mul_comm]
theorem col_place (a n : ℕ) : (![a, 0] : Fin 2 → ℕ) 1 * 4224 + n = n := by simp

theorem launch_at (c : Dev nD) (i : (⟨2, ![512, 4224]⟩ : Shape).Idx) : (dats m 0 c).arrAt 3 cfg0.N i = zAt m c (i 0) (i 1) := by
  refine (dats m 0 c).arrAt_forall_of_covers 3
    (fun (j : (⟨2, ![512, 4224]⟩ : Shape).Idx) (v : EReal) => v = zAt m c (j 0) (j 1)) (by decide +kernel) (fun t hf y => ?_) i
  blk_simp
  rw [after0_3]
  refine (congrArg (out0_3 (iblk m c 0 t) (iblk m c 1 t) (iblk m c 2 t)) (?_ : y = ix2 (y 0) (y 1))).trans ((block_at m c t (y 0) (y 1)).trans ?_)
  · funext a
    match a with
    | ⟨0, _⟩ => rfl
    | ⟨1, _⟩ => rfl
  · congr 1
    · apply Fin.ext
      blk_simp
      rw [place_3 t]
      exact (row_place t.val (y 0).val).symm
    · apply Fin.ext
      blk_simp
      rw [place_3 t]
      exact (col_place t.val (y 1).val).symm

/-- The launch's array among the buffers after it. -/
theorem array_eq (c : Dev nD) : Pipeline.withArrays (cfgs 0).spec c (V0 m c) (fun w => (dats m 0 c).arrAt w (cfgs 0).N) (Proc.devRef .tc main_v7)
    = (dats m 0 c).arrAt 3 cfg0.N := (dats m 0 c).withArrays_arrAt (fun _ _ hne h => absurd (launch0.win.arr_inj h) hne) (V0 m c) (A_eq m c) 3

/-- What the returned arrays hold, over the launch's rows. -/
theorem tail_z (c : Dev nD) (b : Fin 128) (p : Fin 4) (j : Fin 4112) :
    Pipeline.afterTail₀ cfgs (dats m) 0 (V0 m) [hostOps1, hostOps1_1, hostOps1_2] c main_v10 (ix3 b p j) = zAt m c ⟨b.val * 4 + p.val, by omega⟩ ⟨j.val, by omega⟩ := by
  unfold Pipeline.afterTail₀
  change StableHlo.after [hostOps1, hostOps1_1, hostOps1_2].flatten _ (Proc.devRef .tc main_v10) (ix3 b p j) = _
  simp only [List.flatten_cons, List.flatten_nil, List.append_nil, List.cons_append, List.nil_append]
  after_results
  rw [array_eq]
  simp -implicitDefEqProofs only [StableHlo.TRef.toBuf, StableHlo.TRef.ofBuf, cast_cast, cast_eq]
  pointwise
  rw [dif_pos (by omega)]
  exact launch_at m c (ix2 ⟨b.val * 4 + p.val, by omega⟩ ⟨j.val, by omega⟩)

theorem tail_conv (c : Dev nD) (b : Fin 128) (q : Fin 3) (j : Fin 3072) :
    Pipeline.afterTail₀ cfgs (dats m) 0 (V0 m) [hostOps1, hostOps1_1, hostOps1_2] c main_v12 (ix4 0 b q j)
      = zAt m c ⟨b.val * 4 + (1 + q.val), by omega⟩ ⟨j.val, by omega⟩ := by
  unfold Pipeline.afterTail₀
  change StableHlo.after [hostOps1, hostOps1_1, hostOps1_2].flatten _ (Proc.devRef .tc main_v12) (ix4 0 b q j) = _
  simp only [List.flatten_cons, List.flatten_nil, List.append_nil, List.cons_append, List.nil_append]
  after_results
  rw [array_eq]
  simp -implicitDefEqProofs only [StableHlo.TRef.toBuf, StableHlo.TRef.ofBuf, cast_cast, cast_eq]
  pointwise
  rw [dif_pos (by omega)]
  exact launch_at m c (ix2 ⟨b.val * 4 + (1 + q.val), by omega⟩ ⟨j.val, by omega⟩)

/-! The results as arrays. -/

def resZ (c : Dev nD) : (⟨3, ![128, 4, 4112]⟩ : Shape).Idx → EReal := Pipeline.afterTail₀ cfgs (dats m) 0 (V0 m) [hostOps1, hostOps1_1, hostOps1_2] c main_v10
def resConv (c : Dev nD) : (⟨4, ![1, 128, 3, 3072]⟩ : Shape).Idx → EReal := Pipeline.afterTail₀ cfgs (dats m) 0 (V0 m) [hostOps1, hostOps1_1, hostOps1_2] c main_v12

/-- A row and a column of the result: the joined row and the launched matrix's column. -/
theorem zAt_col (c : Dev nD) (b : Fin 128) (p : Fin 4) (j : Fin 4112) :
    zAt m c ⟨b.val * 4 + p.val, by omega⟩ ⟨j.val, by omega⟩
      = proj ((fun k => inp m c (ix3 b p k))) (fun k => scl m c (ix2 0 k)) (fun k => mat m c (ix3 0 k j)) := by
  have hr : (fun k => V m c main_v0 (ix2 ⟨b.val * 4 + p.val, by omega⟩ k)) = (fun k => inp m c (ix3 b p k)) :=
    funext fun k => row_at m c b p k
  have hs : (fun k => V m c main_v6 (ix2 0 k)) = fun k => scl m c (ix2 0 k) := funext fun k => scale_at m c k
  have hm : (fun k => V m c main_v3 (ix2 k ⟨j.val, by omega⟩)) = fun k => mat m c (ix3 0 k j) := funext fun k => matrix_at m c k j
  unfold zAt
  rw [hr, hs, hm]

theorem resZ_at (c : Dev nD) (b : Fin 128) (p : Fin 4) (j : Fin 4112) :
    resZ m c (ix3 b p j) = proj ((fun k => inp m c (ix3 b p k))) (fun k => scl m c (ix2 0 k)) (fun k => mat m c (ix3 0 k j)) :=
  (tail_z m c b p j).trans (zAt_col m c b p j)

theorem resConv_at (c : Dev nD) (b : Fin 128) (q : Fin 3) (j : Fin 3072) :
    resConv m c (ix4 0 b q j) = proj (fun k => inp m c (ix3 b ⟨1 + q.val, by omega⟩ k)) (fun k => scl m c (ix2 0 k))
      (fun k => mat m c (ix3 0 k ⟨j.val, by omega⟩)) :=
  (tail_conv m c b q j).trans (zAt_col m c b ⟨1 + q.val, by omega⟩ ⟨j.val, by omega⟩)

/-- Every run ends with the two results, the arguments unchanged. -/
theorem value :
    θ_run defs (onTc (τ := τ) (main (F := Ideal))) ⟨m, fun _ => 0, ρ⟩ (fun r => ∀ c : Dev nD,
      r.2.mem ((c.tc : Thread nD τ).loc main_v10) = resZ m c
      ∧ r.2.mem ((c.tc : Thread nD τ).loc main_v12) = resConv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).2 main_v10 (by decide), (h.1 c).2 main_v12 (by decide), h.2.1 c⟩)
    (θ_run_and (run_main m ρ) (frame m ρ))

end Cert.GdnInSIdeal.Val

end
-- ==== Proof.GdnInS.Ref.lean ====
/-
  The reference of the recurrent layer's projection, entry by entry: the same scaled and projected row.
-/
module

public import proofs.«01_k».proof.Proof.Normed
public import proofs.«01_k».proof.Proof.Gen.GdnInSRefIdeal.Run
public import proofs.«01_k».proof.Proof.Gen.GdnInSRefIdeal.Read
public import Idealize.ShloMosaic.Lib.Pointwise

@[expose] public section

noncomputable section

namespace Cert.GdnInSRefIdeal.Val

open Idealize.ShloMosaic Idealize.ShloMosaic.TcCoe
open Cert.GdnInSRefIdeal
open Cert.GdnInSRefIdeal.Read
open Cert.Normed

theorem z_at (X : Vec Ideal S128x4x1024 .f32) (G : Vec Ideal S2x1024 .f32) (W : Vec Ideal S1x1024x4112 .f32) (b : Fin 128) (p : Fin 4) (j : Fin 4112) :
    val_main_v16 (F := Ideal) X G W (ix3 b p j) = proj (fun k => X (ix3 b p k)) (fun k => G (ix2 0 k)) (fun k => W (ix3 0 k j)) := by
  unfold proj normed
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The last three of three old and four new rows are new ones. -/
theorem conv_at (X : Vec Ideal S128x4x1024 .f32) (C : Vec Ideal S1x128x3x3072 .f32) (G : Vec Ideal S2x1024 .f32) (W : Vec Ideal S1x1024x4112 .f32) (b : Fin 128) (q : Fin 3) (j : Fin 3072) :
    val_main_v21 (F := Ideal) X C G W (ix4 0 b q j) = val_main_v16 (F := Ideal) X G W (ix3 b ⟨1 + q.val, by omega⟩ ⟨j.val, by omega⟩) := by
  pointwise [val_main_v21, val_main_v20, val_main_v19, val_main_v18, val_main_v17]
  rw [dif_neg (by omega)]
  exact congrArg (fun p => val_main_v16 (F := Ideal) X G W (ix3 b p ⟨j.val, by omega⟩)) (Fin.ext (by show 4 + q.val - 3 = 1 + q.val; omega))

end Cert.GdnInSRefIdeal.Val

end
-- ==== Proof.GdnInS.Claims.lean ====
/-
  The claims of the recurrent layer's input projection: the runs are complete, and the results are the reference's.
-/
module

public import proofs.«01_k».proof.Defs
public import proofs.«01_k».proof.Proof.Gen.GdnInS.Frame
public import proofs.«01_k».proof.Proof.GdnInS.Value
public import proofs.«01_k».proof.Proof.GdnInS.Ref

@[expose] public section

noncomputable section

namespace Cert.GdnInSClaims

open Idealize.ShloMosaic Idealize.ShloMosaic.TcCoe Idealize.SL.Sem
open Cert.Normed

theorem frame_p : Cert.quiescent_GdnInS := fun m ρ _ => Cert.GdnInS.Gen.frame m ρ

theorem frame_pi : Cert.quiescent_GdnInSIdeal := fun m ρ _ => Cert.GdnInSIdeal.Gen.frame m ρ

theorem preserves : Cert.preserves_GdnInS_GdnInSIdeal := trivial

theorem frame_ri : Cert.quiescent_GdnInSRefIdeal := fun m ρ _ =>
  (θ_run Cert.GdnInSRefIdeal.defs _ _).mono (fun r h => ⟨fun c => (h c).2.2, sem_eq_zero_of_no_sems (by decide) r.2⟩)
    (Cert.GdnInSRefIdeal.Value.run (F := Ideal) m ρ)

/-- The two results agree with the reference's, element by element. -/
theorem z_eq (m : (ℓ : Loc Cert.GdnInSIdeal.nD Cert.GdnInSIdeal.τ Cert.GdnInSIdeal.sig) → Buf (Elt Ideal) ℓ) (c : Dev Cert.GdnInSIdeal.nD) :
    Cert.GdnInSRefIdeal.Read.val_main_v16 (F := Ideal) (Cert.GdnInSIdeal.Val.inp m c) (Cert.GdnInSIdeal.Val.scl m c) (Cert.GdnInSIdeal.Val.mat m c) = Cert.GdnInSIdeal.Val.resZ m c :=
  ext3 fun b p j => (Cert.GdnInSRefIdeal.Val.z_at _ _ _ b p j).trans (Cert.GdnInSIdeal.Val.resZ_at m c b p j).symm

theorem conv_eq (m : (ℓ : Loc Cert.GdnInSIdeal.nD Cert.GdnInSIdeal.τ Cert.GdnInSIdeal.sig) → Buf (Elt Ideal) ℓ) (c : Dev Cert.GdnInSIdeal.nD) :
    Cert.GdnInSRefIdeal.Read.val_main_v21 (F := Ideal) (Cert.GdnInSIdeal.Val.inp m c) (Cert.GdnInSIdeal.Val.old m c) (Cert.GdnInSIdeal.Val.scl m c) (Cert.GdnInSIdeal.Val.mat m c) = Cert.GdnInSIdeal.Val.resConv m c :=
  ext4_one fun b q j => (Cert.GdnInSRefIdeal.Val.conv_at _ _ _ _ b q j).trans
    ((Cert.GdnInSRefIdeal.Val.z_at _ _ _ b _ _).trans (Cert.GdnInSIdeal.Val.resConv_at m c b q j).symm)

theorem algebraic : Cert.algebraic_GdnInSIdeal_GdnInSRefIdeal := by
  intro m ρ m' ρ' _ hagree
  refine ⟨_, _, Cert.GdnInSIdeal.Val.value m ρ, ?_⟩
  refine (θ_run Cert.GdnInSRefIdeal.defs _ _).mono
    (fun r h c => ⟨(h c).1.trans ?_, (h c).2.1.trans ?_, (h c).2.2⟩) (Cert.GdnInSRefIdeal.Value.run (F := Ideal) m' ρ')
  · rw [Cert.GdnInSRefIdeal.Read.val_main_v16_eq, (hagree c).1, (hagree c).2.2.1, (hagree c).2.2.2]
    exact z_eq m c
  · rw [Cert.GdnInSRefIdeal.Read.val_main_v21_eq, (hagree c).1, (hagree c).2.1, (hagree c).2.2.1, (hagree c).2.2.2]
    exact conv_eq m c

end Cert.GdnInSClaims

end
-- ==== Proof.FoxInS.Value.lean ====
/-
  The attention's input projection for the sample group: every block of 256 rows is normalised and multiplied with the padded matrix, so
  the array the launch leaves holds at (n, j) the projection of row n onto column j.
-/
module

public import proofs.«01_k».proof.Proof.Normed
public import proofs.«01_k».proof.Proof.Gen.FoxInSIdeal.Frame
public import Idealize.ShloMosaic.Lib.Pipeline.ValueKit
public import Idealize.ShloMosaic.Lib.Pipeline.Covers

@[expose] public section

set_option maxRecDepth 16384

noncomputable section

namespace Cert.FoxInSIdeal.Val

open Idealize.ShloMosaic Idealize.ShloMosaic.TcCoe Idealize.SL.Sem
open Idealize.ShloMosaic.Pipeline (Dat Cfg Window)
open Cert.FoxInSIdeal Cert.FoxInSIdeal.Gen
open Cert.Normed

theorem pay_at (X : Vec Ideal S256x1024 .f32) (G : Vec Ideal S1x1024 .f32) (W : Vec Ideal S1024x3200 .bf16) (r : Fin 256) (j : Fin 3200) :
    k0_pay1 X G W (ix2 r j) = proj (fun k => X (ix2 r k)) (fun k => G (ix2 0 k)) (fun k => W (ix2 k j)) := by
  unfold proj normed
  pointwise [k0_pay1]

variable (m : (ℓ : Loc nD τ sig) → Buf (Elt Ideal) ℓ) (ρ : Dev nD → PrngReg)

/-- The row of the hidden state, the scale, and the matrix, as launched. -/
abbrev hid (c : Dev nD) : (⟨2, ![512, 1024]⟩ : Shape).Idx → EReal := m (c.tc.loc main_arg0)
abbrev scl (c : Dev nD) : (⟨2, ![2, 1024]⟩ : Shape).Idx → EReal := m (c.tc.loc main_arg1)
abbrev mat (c : Dev nD) : (⟨3, ![1, 1024, 3080]⟩ : Shape).Idx → EReal := m (c.tc.loc main_arg2)

theorem scale_at (c : Dev nD) (k : Fin 1024) : V m c main_v5 (ix2 0 k) = scl m c (ix2 1 k) := by
  unfold_abbrev_sides
  simp only [List.flatten_cons, List.flatten_nil, List.append_nil, List.cons_append, List.nil_append]
  after_results
  pointwise

theorem matrix_at (c : Dev nD) (k : Fin 1024) (j : Fin 3080) : V m c main_v2 (ix2 k ⟨j.val, by omega⟩) = mat m c (ix3 0 k j) := by
  unfold_abbrev_sides
  simp only [List.flatten_cons, List.flatten_nil, List.append_nil, List.cons_append, List.nil_append]
  after_results
  simp -implicitDefEqProofs only [StableHlo.TRef.toBuf, StableHlo.TRef.ofBuf, cast_cast, cast_eq]
  pointwise

theorem place_0 : ∀ t : Fin cfg0.N, win0_0.index t = ![t.val, 0] :=
  (by decide +kernel : ∀ t : Fin grid0.N, win0_0.index t = ![t.val, 0])
theorem place_1 : ∀ t : Fin cfg0.N, win0_1.index t = ![0, 0] :=
  (by decide +kernel : ∀ t : Fin grid0.N, win0_1.index t = ![0, 0])
theorem place_2 : ∀ t : Fin cfg0.N, win0_2.index t = ![0, 0] :=
  (by decide +kernel : ∀ t : Fin grid0.N, win0_2.index t = ![0, 0])
theorem place_3 : ∀ t : Fin cfg0.N, win0_3.index t = ![t.val, 0] :=
  (by decide +kernel : ∀ t : Fin grid0.N, win0_3.index t = ![t.val, 0])

theorem pts (t : Fin cfg0.N) : t.val < 2 := t.isLt

theorem rows_at (c : Dev nD) (t : Fin cfg0.N) (r : Fin 256) (k : Fin 1024) :
    iblk m c 0 t (ix2 r k) = hid m c (ix2 ⟨256 * t.val + r.val, by have := pts t; omega⟩ k) := by
  blk_ext [iblk, V, place_0 t]

theorem scaleBlock_at (c : Dev nD) (t : Fin cfg0.N) (k : Fin 1024) : iblk m c 1 t (ix2 0 k) = V m c main_v5 (ix2 0 k) := by
  blk_ext [iblk, place_1 t]

theorem matrixBlock_at (c : Dev nD) (t : Fin cfg0.N) (k : Fin 1024) (j : Fin 3200) : iblk m c 2 t (ix2 k j) = V m c main_v2 (ix2 k j) := by
  blk_ext [iblk, place_2 t]

/-- The launch's array at an element. -/
def zAt (c : Dev nD) (n : Fin 512) (j : Fin 3200) : EReal :=
  proj (fun k => hid m c (ix2 n k)) (fun k => V m c main_v5 (ix2 0 k)) (fun k => V m c main_v2 (ix2 k j))

theorem block_at (c : Dev nD) (t : Fin cfg0.N) (r : Fin 256) (j : Fin 3200) :
    out0_3 (iblk m c 0 t) (iblk m c 1 t) (iblk m c 2 t) (ix2 r j) = zAt m c ⟨256 * t.val + r.val, by have := pts t; omega⟩ j := by
  unfold out0_3 zAt
  rw [View.canon_cons_unit_zero (by funext a; fin_cases a <;> rfl), View.ld_unit_zero (by funext a; fin_cases a <;> rfl), View.ld_unit_zero (by funext a; fin_cases a <;> rfl),
    View.ld_unit_zero (by funext a; fin_cases a <;> rfl), pay_at]
  simp only [rows_at, scaleBlock_at, matrixBlock_at]

theorem row_place (a n : ℕ) : (![a, 0] : Fin 2 → ℕ) 0 * 256 + n = 256 * a + n := by simp [mul_comm]
theorem col_place (a n : ℕ) : (![a, 0] : Fin 2 → ℕ) 1 * 3200 + n = n := by simp

theorem launch_at (c : Dev nD) (i : (⟨2, ![512, 3200]⟩ : Shape).Idx) : (dats m 0 c).arrAt 3 cfg0.N i = zAt m c (i 0) (i 1) := by
  refine (dats m 0 c).arrAt_forall_of_covers 3
    (fun (j : (⟨2, ![512, 3200]⟩ : Shape).Idx) (v : EReal) => v = zAt m c (j 0) (j 1)) (by decide +kernel) (fun t hf y => ?_) i
  blk_simp
  rw [after0_3]
  refine (congrArg (out0_3 (iblk m c 0 t) (iblk m c 1 t) (iblk m c 2 t)) (?_ : y = ix2 (y 0) (y 1))).trans ((block_at m c t (y 0) (y 1)).trans ?_)
  · funext a
    match a with
    | ⟨0, _⟩ => rfl
    | ⟨1, _⟩ => rfl
  · congr 1
    · apply Fin.ext
      blk_simp
      rw [place_3 t]
      exact (row_place t.val (y 0).val).symm
    · apply Fin.ext
      blk_simp
      rw [place_3 t]
      exact (col_place t.val (y 1).val).symm

/-- The launch's array among the buffers after it. -/
theorem array_eq (c : Dev nD) : Pipeline.withArrays (cfgs 0).spec c (V0 m c) (fun w => (dats m 0 c).arrAt w (cfgs 0).N) (Proc.devRef .tc main_v6)
    = (dats m 0 c).arrAt 3 cfg0.N := (dats m 0 c).withArrays_arrAt (fun _ _ hne h => absurd (launch0.win.arr_inj h) hne) (V0 m c) (A_eq m c) 3

/-- What the returned arrays hold, over the launch's rows. -/
theorem tail_z (c : Dev nD) (b : Fin 128) (p : Fin 4) (j : Fin 3080) :
    Pipeline.afterTail₀ cfgs (dats m) 0 (V0 m) [hostOps1] c main_v12 (ix3 b p j) = zAt m c ⟨b.val * 4 + p.val, by omega⟩ ⟨j.val, by omega⟩ := by
  unfold Pipeline.afterTail₀
  change StableHlo.after hostOps1 _ (Proc.devRef .tc main_v12) (ix3 b p j) = _
  after_results
  rw [array_eq]
  pointwise
  exact launch_at m c (ix2 ⟨b.val * 4 + p.val, by omega⟩ ⟨j.val, by omega⟩)

theorem tail_k (c : Dev nD) (b : Fin 128) (p : Fin 4) (h : Fin 8) (d : Fin 128) :
    Pipeline.afterTail₀ cfgs (dats m) 0 (V0 m) [hostOps1] c main_v9 (ix5 0 b p h d)
      = zAt m c ⟨b.val * 4 + p.val, by omega⟩ ⟨1024 + (h.val * 128 + d.val), by omega⟩ := by
  unfold Pipeline.afterTail₀
  change StableHlo.after hostOps1 _ (Proc.devRef .tc main_v9) (ix5 0 b p h d) = _
  after_results
  rw [array_eq]
  pointwise
  exact launch_at m c (ix2 ⟨b.val * 4 + p.val, by omega⟩ ⟨1024 + (h.val * 128 + d.val), by omega⟩)

theorem tail_v (c : Dev nD) (b : Fin 128) (p : Fin 4) (h : Fin 8) (d : Fin 128) :
    Pipeline.afterTail₀ cfgs (dats m) 0 (V0 m) [hostOps1] c main_v11 (ix5 0 b p h d)
      = zAt m c ⟨b.val * 4 + p.val, by omega⟩ ⟨2048 + (h.val * 128 + d.val), by omega⟩ := by
  unfold Pipeline.afterTail₀
  change StableHlo.after hostOps1 _ (Proc.devRef .tc main_v11) (ix5 0 b p h d) = _
  after_results
  rw [array_eq]
  pointwise
  exact launch_at m c (ix2 ⟨b.val * 4 + p.val, by omega⟩ ⟨2048 + (h.val * 128 + d.val), by omega⟩)

/-! The results as arrays. -/

def resZ (c : Dev nD) : (⟨3, ![128, 4, 3080]⟩ : Shape).Idx → EReal := Pipeline.afterTail₀ cfgs (dats m) 0 (V0 m) [hostOps1] c main_v12
def resK (c : Dev nD) : (⟨5, ![1, 128, 4, 8, 128]⟩ : Shape).Idx → EReal := Pipeline.afterTail₀ cfgs (dats m) 0 (V0 m) [hostOps1] c main_v9
def resV (c : Dev nD) : (⟨5, ![1, 128, 4, 8, 128]⟩ : Shape).Idx → EReal := Pipeline.afterTail₀ cfgs (dats m) 0 (V0 m) [hostOps1] c main_v11

/-- A column of the result: the launched matrix's column there. -/
theorem zAt_col (c : Dev nD) (n : Fin 512) (j : Fin 3080) :
    zAt m c n ⟨j.val, by omega⟩ = proj (fun k => hid m c (ix2 n k)) (fun k => scl m c (ix2 1 k)) (fun k => mat m c (ix3 0 k j)) := by
  have hs : (fun k => V m c main_v5 (ix2 0 k)) = fun k => scl m c (ix2 1 k) := funext fun k => scale_at m c k
  have hm : (fun k => V m c main_v2 (ix2 k ⟨j.val, by omega⟩)) = fun k => mat m c (ix3 0 k j) := funext fun k => matrix_at m c k j
  unfold zAt
  rw [hs, hm]

theorem resZ_at (c : Dev nD) (b : Fin 128) (p : Fin 4) (j : Fin 3080) :
    resZ m c (ix3 b p j) = proj (fun k => hid m c (ix2 ⟨b.val * 4 + p.val, by omega⟩ k)) (fun k => scl m c (ix2 1 k))
      (fun k => mat m c (ix3 0 k j)) := (tail_z m c b p j).trans (zAt_col m c _ j)

theorem resK_at (c : Dev nD) (b : Fin 128) (p : Fin 4) (h : Fin 8) (d : Fin 128) :
    resK m c (ix5 0 b p h d) = proj (fun k => hid m c (ix2 ⟨b.val * 4 + p.val, by omega⟩ k)) (fun k => scl m c (ix2 1 k))
      (fun k => mat m c (ix3 0 k ⟨1024 + (h.val * 128 + d.val), by omega⟩)) :=
  (tail_k m c b p h d).trans (zAt_col m c _ ⟨1024 + (h.val * 128 + d.val), by omega⟩)

theorem resV_at (c : Dev nD) (b : Fin 128) (p : Fin 4) (h : Fin 8) (d : Fin 128) :
    resV m c (ix5 0 b p h d) = proj (fun k => hid m c (ix2 ⟨b.val * 4 + p.val, by omega⟩ k)) (fun k => scl m c (ix2 1 k))
      (fun k => mat m c (ix3 0 k ⟨2048 + (h.val * 128 + d.val), by omega⟩)) :=
  (tail_v m c b p h d).trans (zAt_col m c _ ⟨2048 + (h.val * 128 + d.val), by omega⟩)

/-- Every run ends with the three results, the arguments unchanged. -/
theorem value :
    θ_run defs (onTc (τ := τ) (main (F := Ideal))) ⟨m, fun _ => 0, ρ⟩ (fun r => ∀ c : Dev nD,
      r.2.mem ((c.tc : Thread nD τ).loc main_v12) = resZ m c
      ∧ r.2.mem ((c.tc : Thread nD τ).loc main_v9) = resK m c
      ∧ r.2.mem ((c.tc : Thread nD τ).loc main_v11) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).2 main_v12 (by decide), (h.1 c).2 main_v9 (by decide), (h.1 c).2 main_v11 (by decide), h.2.1 c⟩)
    (θ_run_and (run_main m ρ) (frame m ρ))

end Cert.FoxInSIdeal.Val

end
-- ==== Proof.FoxInS.Ref.lean ====
/-
  The reference of the forgetting-attention projection for the sample group, entry by entry: the same scaled and projected row.
-/
module

public import proofs.«01_k».proof.Proof.Normed
public import proofs.«01_k».proof.Proof.Gen.FoxInSRefIdeal.Run
public import proofs.«01_k».proof.Proof.Gen.FoxInSRefIdeal.Read
public import Idealize.ShloMosaic.Lib.Pointwise

@[expose] public section

noncomputable section

namespace Cert.FoxInSRefIdeal.Val

open Idealize.ShloMosaic Idealize.ShloMosaic.TcCoe
open Cert.FoxInSRefIdeal
open Cert.FoxInSRefIdeal.Read
open Cert.Normed

theorem z_at (H : Vec Ideal S512x1024 .f32) (G : Vec Ideal S2x1024 .f32) (W : Vec Ideal S1x1024x3080 .f32) (b : Fin 128) (p : Fin 4) (j : Fin 3080) :
    val_main_v17 (F := Ideal) H G W (ix3 b p j)
      = proj (fun k => H (ix2 ⟨b.val * 4 + p.val, by omega⟩ k)) (fun k => G (ix2 1 k)) (fun k => W (ix3 0 k j)) := by
  unfold proj normed
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem k_at (H : Vec Ideal S512x1024 .f32) (G : Vec Ideal S2x1024 .f32) (W : Vec Ideal S1x1024x3080 .f32) (b : Fin 128) (p : Fin 4) (h : Fin 8) (d : Fin 128) :
    val_main_v22 (F := Ideal) H G W (ix5 0 b p h d) = val_main_v17 (F := Ideal) H G W (ix3 b p ⟨1024 + (h.val * 128 + d.val), by omega⟩) := by
  pointwise [val_main_v22, val_main_v19, val_main_v18]

theorem v_at (H : Vec Ideal S512x1024 .f32) (G : Vec Ideal S2x1024 .f32) (W : Vec Ideal S1x1024x3080 .f32) (b : Fin 128) (p : Fin 4) (h : Fin 8) (d : Fin 128) :
    val_main_v23 (F := Ideal) H G W (ix5 0 b p h d) = val_main_v17 (F := Ideal) H G W (ix3 b p ⟨2048 + (h.val * 128 + d.val), by omega⟩) := by
  pointwise [val_main_v23, val_main_v21, val_main_v20]

end Cert.FoxInSRefIdeal.Val

end
-- ==== Proof.FoxInS.Claims.lean ====
/-
  The claims of the projection into queries, keys, values and gates for the sample group: the runs are complete, and the results are the reference's.
-/
module

public import proofs.«01_k».proof.Defs
public import proofs.«01_k».proof.Proof.Gen.FoxInS.Frame
public import proofs.«01_k».proof.Proof.FoxInS.Value
public import proofs.«01_k».proof.Proof.FoxInS.Ref

@[expose] public section

noncomputable section

namespace Cert.FoxInSClaims

open Idealize.ShloMosaic Idealize.ShloMosaic.TcCoe Idealize.SL.Sem
open Cert.Normed

theorem frame_p : Cert.quiescent_FoxInS := fun m ρ _ => Cert.FoxInS.Gen.frame m ρ

theorem frame_pi : Cert.quiescent_FoxInSIdeal := fun m ρ _ => Cert.FoxInSIdeal.Gen.frame m ρ

theorem preserves : Cert.preserves_FoxInS_FoxInSIdeal := trivial

theorem frame_ri : Cert.quiescent_FoxInSRefIdeal := fun m ρ _ =>
  (θ_run Cert.FoxInSRefIdeal.defs _ _).mono (fun r h => ⟨fun c => (h c).2.2.2, sem_eq_zero_of_no_sems (by decide) r.2⟩)
    (Cert.FoxInSRefIdeal.Value.run (F := Ideal) m ρ)

/-- The three results agree with the reference's, element by element. -/
theorem z_eq (m : (ℓ : Loc Cert.FoxInSIdeal.nD Cert.FoxInSIdeal.τ Cert.FoxInSIdeal.sig) → Buf (Elt Ideal) ℓ) (c : Dev Cert.FoxInSIdeal.nD) :
    Cert.FoxInSRefIdeal.Read.val_main_v17 (F := Ideal) (Cert.FoxInSIdeal.Val.hid m c) (Cert.FoxInSIdeal.Val.scl m c) (Cert.FoxInSIdeal.Val.mat m c)
      = Cert.FoxInSIdeal.Val.resZ m c :=
  ext3 fun b p j => (Cert.FoxInSRefIdeal.Val.z_at _ _ _ b p j).trans (Cert.FoxInSIdeal.Val.resZ_at m c b p j).symm

theorem k_eq (m : (ℓ : Loc Cert.FoxInSIdeal.nD Cert.FoxInSIdeal.τ Cert.FoxInSIdeal.sig) → Buf (Elt Ideal) ℓ) (c : Dev Cert.FoxInSIdeal.nD) :
    Cert.FoxInSRefIdeal.Read.val_main_v22 (F := Ideal) (Cert.FoxInSIdeal.Val.hid m c) (Cert.FoxInSIdeal.Val.scl m c) (Cert.FoxInSIdeal.Val.mat m c)
      = Cert.FoxInSIdeal.Val.resK m c :=
  ext5_one fun b p h d => (Cert.FoxInSRefIdeal.Val.k_at _ _ _ b p h d).trans
    ((Cert.FoxInSRefIdeal.Val.z_at _ _ _ b p _).trans (Cert.FoxInSIdeal.Val.resK_at m c b p h d).symm)

theorem v_eq (m : (ℓ : Loc Cert.FoxInSIdeal.nD Cert.FoxInSIdeal.τ Cert.FoxInSIdeal.sig) → Buf (Elt Ideal) ℓ) (c : Dev Cert.FoxInSIdeal.nD) :
    Cert.FoxInSRefIdeal.Read.val_main_v23 (F := Ideal) (Cert.FoxInSIdeal.Val.hid m c) (Cert.FoxInSIdeal.Val.scl m c) (Cert.FoxInSIdeal.Val.mat m c)
      = Cert.FoxInSIdeal.Val.resV m c :=
  ext5_one fun b p h d => (Cert.FoxInSRefIdeal.Val.v_at _ _ _ b p h d).trans
    ((Cert.FoxInSRefIdeal.Val.z_at _ _ _ b p _).trans (Cert.FoxInSIdeal.Val.resV_at m c b p h d).symm)

theorem algebraic : Cert.algebraic_FoxInSIdeal_FoxInSRefIdeal := by
  intro m ρ m' ρ' _ hagree
  refine ⟨_, _, _, Cert.FoxInSIdeal.Val.value m ρ, ?_⟩
  refine (θ_run Cert.FoxInSRefIdeal.defs _ _).mono
    (fun r h c => ⟨(h c).1.trans ?_, (h c).2.1.trans ?_, (h c).2.2.1.trans ?_, (h c).2.2.2⟩) (Cert.FoxInSRefIdeal.Value.run (F := Ideal) m' ρ')
  · rw [Cert.FoxInSRefIdeal.Read.val_main_v17_eq, (hagree c).1, (hagree c).2.1, (hagree c).2.2]
    exact z_eq m c
  · rw [Cert.FoxInSRefIdeal.Read.val_main_v22_eq, (hagree c).1, (hagree c).2.1, (hagree c).2.2]
    exact k_eq m c
  · rw [Cert.FoxInSRefIdeal.Read.val_main_v23_eq, (hagree c).1, (hagree c).2.1, (hagree c).2.2]
    exact v_eq m c

end Cert.FoxInSClaims

end
-- ==== Proof.FinalS.Value.lean ====
/-
  The last normalisation for the sample group: blocks of 128 rows, all rows of the group in one array.
-/
module

public import proofs.«01_k».proof.Proof.Normed
public import proofs.«01_k».proof.Proof.Gen.FinalSIdeal.Frame
public import Idealize.ShloMosaic.Lib.Pipeline.ValueKit
public import Idealize.ShloMosaic.Lib.Pipeline.Covers

@[expose] public section

set_option maxRecDepth 16384

noncomputable section

namespace Cert.FinalSIdeal.Val

open Idealize.ShloMosaic Idealize.ShloMosaic.TcCoe Idealize.SL.Sem
open Idealize.ShloMosaic.Pipeline (Dat Cfg Window)
open Cert.FinalSIdeal Cert.FinalSIdeal.Gen
open Cert.Normed

theorem pay_at (X : Vec Ideal S1x128x1024 .f32) (G : Vec Ideal S1x1024 .f32) (r : Fin 128) (k : Fin 1024) :
    k0_pay1 X G (ix3 0 r k) = normed (fun k => X (ix3 0 r k)) (fun k => G (ix2 0 k)) k := by
  unfold normed
  pointwise [k0_pay1]

variable (m : (ℓ : Loc nD τ sig) → Buf (Elt Ideal) ℓ) (ρ : Dev nD → PrngReg)

/-- The rows and the scale, as launched. -/
abbrev hid (c : Dev nD) : (⟨2, ![512, 1024]⟩ : Shape).Idx → EReal := m (c.tc.loc main_arg0)
abbrev scl (c : Dev nD) : (⟨1, ![1024]⟩ : Shape).Idx → EReal := m (c.tc.loc main_arg1)

theorem input_at (c : Dev nD) (n : Fin 512) (k : Fin 1024) : V m c main_v0 (ix3 0 n k) = hid m c (ix2 n k) := by
  unfold_abbrev_sides
  simp only [List.flatten_cons, List.flatten_nil, List.append_nil, List.cons_append, List.nil_append]
  after_results
  pointwise

theorem scale_at (c : Dev nD) (k : Fin 1024) : V m c main_v1 (ix2 0 k) = scl m c (ix1 k) := by
  unfold_abbrev_sides
  simp only [List.flatten_cons, List.flatten_nil, List.append_nil, List.cons_append, List.nil_append]
  after_results
  pointwise

theorem place_0 : ∀ t : Fin cfg0.N, win0_0.index t = ![0, t.val, 0] :=
  (by decide +kernel : ∀ t : Fin grid0.N, win0_0.index t = ![0, t.val, 0])
theorem place_1 : ∀ t : Fin cfg0.N, win0_1.index t = ![0, 0] :=
  (by decide +kernel : ∀ t : Fin grid0.N, win0_1.index t = ![0, 0])
theorem place_2 : ∀ t : Fin cfg0.N, win0_2.index t = ![0, t.val, 0] :=
  (by decide +kernel : ∀ t : Fin grid0.N, win0_2.index t = ![0, t.val, 0])

theorem pts (t : Fin cfg0.N) : t.val < 4 := t.isLt

theorem rows_at (c : Dev nD) (t : Fin cfg0.N) (r : Fin 128) (k : Fin 1024) :
    iblk m c 0 t (ix3 0 r k) = V m c main_v0 (ix3 0 ⟨t.val * 128 + r.val, by have := pts t; omega⟩ k) := by
  blk_ext [iblk, place_0 t]

theorem scaleBlock_at (c : Dev nD) (t : Fin cfg0.N) (k : Fin 1024) : iblk m c 1 t (ix2 0 k) = V m c main_v1 (ix2 0 k) := by
  blk_ext [iblk, place_1 t]

/-- The launch's array at an element. -/
def outAt (c : Dev nD) (n : Fin 512) (j : Fin 1024) : EReal := normed (fun k => hid m c (ix2 n k)) (fun k => scl m c (ix1 k)) j

theorem block_at (c : Dev nD) (t : Fin cfg0.N) (r : Fin 128) (j : Fin 1024) :
    out0_2 (iblk m c 0 t) (iblk m c 1 t) (ix3 0 r j) = outAt m c ⟨t.val * 128 + r.val, by have := pts t; omega⟩ j := by
  have hs : (fun k => iblk m c 1 t (ix2 0 k)) = fun k => scl m c (ix1 k) := funext fun k => (scaleBlock_at m c t k).trans (scale_at m c k)
  have hr : (fun k => iblk m c 0 t (ix3 0 r k)) = fun k => hid m c (ix2 ⟨t.val * 128 + r.val, by have := pts t; omega⟩ k) :=
    funext fun k => (rows_at m c t r k).trans (input_at m c _ k)
  unfold out0_2 outAt
  rw [View.canon_cons_unit_zero (by funext a; fin_cases a <;> rfl), View.ld_unit_zero (by funext a; fin_cases a <;> rfl),
    View.ld_unit_zero (by funext a; fin_cases a <;> rfl), pay_at, hr, hs]

theorem row_place (b n : ℕ) : (![0, b, 0] : Fin 3 → ℕ) 1 * 128 + n = b * 128 + n := by simp
theorem col_place (b n : ℕ) : (![0, b, 0] : Fin 3 → ℕ) 2 * 1024 + n = n := by simp

theorem outAt_congr (c : Dev nD) (n n' : Fin 512) (j j' : Fin 1024) (hn : n.val = n'.val) (hj : j.val = j'.val) : outAt m c n j = outAt m c n' j' := by
  rw [Fin.ext hn, Fin.ext hj]

theorem launch_at (c : Dev nD) (i : (⟨3, ![1, 512, 1024]⟩ : Shape).Idx) : (dats m 0 c).arrAt 2 cfg0.N i = outAt m c (i 1) (i 2) := by
  refine (dats m 0 c).arrAt_forall_of_covers 2
    (fun (j : (⟨3, ![1, 512, 1024]⟩ : Shape).Idx) (v : EReal) => v = outAt m c (j 1) (j 2)) (by decide +kernel) (fun t hf y => ?_) i
  blk_simp
  rw [after0_2]
  refine (congrArg (out0_2 (iblk m c 0 t) (iblk m c 1 t)) (eta3_one (b := 128) (c := 1024) y)).trans ((block_at m c t (y 1) (y 2)).trans ?_)
  refine outAt_congr m c _ _ _ _ ?_ ?_
  · blk_simp
    rw [place_2 t]
    exact (row_place t.val (y 1).val).symm
  · blk_simp
    rw [place_2 t]
    exact (col_place t.val (y 2).val).symm

/-- The launch's array among the buffers after it. -/
theorem array_eq (c : Dev nD) : Pipeline.withArrays (cfgs 0).spec c (V0 m c) (fun w => (dats m 0 c).arrAt w (cfgs 0).N) (Proc.devRef .tc main_v2)
    = (dats m 0 c).arrAt 2 cfg0.N := (dats m 0 c).withArrays_arrAt (fun _ _ hne h => absurd (launch0.win.arr_inj h) hne) (V0 m c) (A_eq m c) 2

/-- The result as an array. -/
def resY (c : Dev nD) : (⟨3, ![128, 4, 1024]⟩ : Shape).Idx → EReal := Pipeline.afterTail₀ cfgs (dats m) 0 (V0 m) [hostOps1] c main_v3

theorem resY_at (c : Dev nD) (b : Fin 128) (p : Fin 4) (j : Fin 1024) : resY m c (ix3 b p j) = outAt m c ⟨b.val * 4 + p.val, by omega⟩ j := by
  unfold resY Pipeline.afterTail₀
  change StableHlo.after hostOps1 _ (Proc.devRef .tc main_v3) (ix3 b p j) = _
  after_results
  rw [array_eq]
  pointwise
  exact launch_at m c (ix3 0 ⟨b.val * 4 + p.val, by omega⟩ j)

/-- Every run ends with the result, the arguments unchanged. -/
theorem value :
    θ_run defs (onTc (τ := τ) (main (F := Ideal))) ⟨m, fun _ => 0, ρ⟩ (fun r => ∀ c : Dev nD,
      r.2.mem ((c.tc : Thread nD τ).loc main_v3) = resY m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).2 main_v3 (by decide), h.2.1 c⟩)
    (θ_run_and (run_main m ρ) (frame m ρ))

end Cert.FinalSIdeal.Val

end
-- ==== Proof.FinalS.Ref.lean ====
/-
  The reference of the last normalisation for the sample group, entry by entry.
-/
module

public import proofs.«01_k».proof.Proof.Normed
public import proofs.«01_k».proof.Proof.Gen.FinalSRefIdeal.Run
public import proofs.«01_k».proof.Proof.Gen.FinalSRefIdeal.Read
public import Idealize.ShloMosaic.Lib.Pointwise

@[expose] public section

noncomputable section

namespace Cert.FinalSRefIdeal.Val

open Idealize.ShloMosaic Idealize.ShloMosaic.TcCoe
open Cert.FinalSRefIdeal
open Cert.FinalSRefIdeal.Read
open Cert.Normed

theorem out_at (H : Vec Ideal S512x1024 .f32) (G : Vec Ideal S1024 .f32) (b : Fin 128) (p : Fin 4) (j : Fin 1024) :
    val_main_v13 (F := Ideal) H G (ix3 b p j)
      = normed (fun k => H (ix2 ⟨b.val * 4 + p.val, by omega⟩ k)) (fun k => G (ix1 k)) j := by
  unfold normed
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

end Cert.FinalSRefIdeal.Val

end
-- ==== Proof.FinalS.Claims.lean ====
/-
  The claims of the last normalisation for the sample group: the runs are complete, and the result is the reference's.
-/
module

public import proofs.«01_k».proof.Defs
public import proofs.«01_k».proof.Proof.Gen.FinalS.Frame
public import proofs.«01_k».proof.Proof.FinalS.Value
public import proofs.«01_k».proof.Proof.FinalS.Ref

@[expose] public section

noncomputable section

namespace Cert.FinalSClaims

open Idealize.ShloMosaic Idealize.ShloMosaic.TcCoe Idealize.SL.Sem
open Cert.Normed

theorem frame_p : Cert.quiescent_FinalS := fun m ρ _ => Cert.FinalS.Gen.frame m ρ

theorem frame_pi : Cert.quiescent_FinalSIdeal := fun m ρ _ => Cert.FinalSIdeal.Gen.frame m ρ

theorem preserves : Cert.preserves_FinalS_FinalSIdeal := trivial

theorem frame_ri : Cert.quiescent_FinalSRefIdeal := fun m ρ _ =>
  (θ_run Cert.FinalSRefIdeal.defs _ _).mono (fun r h => ⟨fun c => (h c).2, sem_eq_zero_of_no_sems (by decide) r.2⟩)
    (Cert.FinalSRefIdeal.Value.run (F := Ideal) m ρ)

/-- The result agrees with the reference's, element by element. -/
theorem y_eq (m : (ℓ : Loc Cert.FinalSIdeal.nD Cert.FinalSIdeal.τ Cert.FinalSIdeal.sig) → Buf (Elt Ideal) ℓ) (c : Dev Cert.FinalSIdeal.nD) :
    Cert.FinalSRefIdeal.Read.val_main_v13 (F := Ideal) (Cert.FinalSIdeal.Val.hid m c) (Cert.FinalSIdeal.Val.scl m c)
      = Cert.FinalSIdeal.Val.resY m c :=
  ext3 fun b p j => (Cert.FinalSRefIdeal.Val.out_at _ _ b p j).trans (Cert.FinalSIdeal.Val.resY_at m c b p j).symm

theorem algebraic : Cert.algebraic_FinalSIdeal_FinalSRefIdeal := by
  intro m ρ m' ρ' _ hagree
  refine ⟨_, Cert.FinalSIdeal.Val.value m ρ, ?_⟩
  refine (θ_run Cert.FinalSRefIdeal.defs _ _).mono
    (fun r h c => ⟨(h c).1.trans ?_, (h c).2⟩) (Cert.FinalSRefIdeal.Value.run (F := Ideal) m' ρ')
  rw [Cert.FinalSRefIdeal.Read.val_main_v13_eq, (hagree c).1, (hagree c).2]
  exact y_eq m c

end Cert.FinalSClaims

end
-- ==== Proof.LogfS.Value.lean ====
/-
  The log forget gates of the sample group: every entry's four rows, padded to eight, give the log sigmoid of the gate columns plus the bias.
-/
module

public import proofs.«01_k».proof.Proof.Logf.Value
public import proofs.«01_k».proof.Proof.Gen.LogfSIdeal.Frame
public import Idealize.ShloMosaic.Lib.Pipeline.ValueKit
public import Idealize.ShloMosaic.Lib.Pipeline.Covers
public import Idealize.ShloMosaic.Lib.Routing.OpsOne

@[expose] public section

set_option maxRecDepth 16384

noncomputable section

namespace Cert.LogfSIdeal.Val

open Idealize.ShloMosaic Idealize.ShloMosaic.TcCoe Idealize.SL.Sem
open Idealize.ShloMosaic.Pipeline (Dat Cfg Window)
open Cert.LogfSIdeal Cert.LogfSIdeal.Gen
open Cert.Normed

theorem pay_at (X : Vec Ideal S1x8x128 .f32) (G : Vec Ideal S1x128 .f32) (r : Fin 8) (k : Fin 128) :
    k0_pay4 X G (ix3 0 r k) = logSig (X (ix3 0 r k) + G (ix2 0 k)) := by
  rw [← logSig_of_sub]
  pointwise [k0_pay4, k0_pay3]

theorem first_eq (c : Dev nD) (i : grid0.Coords) (arg2 : Memref sig .tc .vmem S1x8x128 .f32) (harg2 : arg2.IsWhole) (arg3 : Memref sig .tc .vmem S1x128 .f32) (harg3 : arg3.IsWhole)
    (arg4 : Memref sig .tc .vmem S1x8x128 .f32) (harg4 : arg4.IsWhole) (arg5 : Memref sig .tc .vmem S1x8x128 .f32) (harg5 : arg5.IsWhole) (arg6 : Memref sig .tc .vmem S1x128 .f32) (harg6 : arg6.IsWhole)
    (hc0 : cond0_0 i) (x0 : Vec Ideal S1x8x128 .f32) (x1 : Vec Ideal S1x128 .f32) :
    out0_A_2 c i arg2 harg2 arg3 harg3 arg4 harg4 arg5 harg5 arg6 harg6 hc0 x0 x1 = k0_pay4 x0 x1 := by
  have h1 : (![0, 0, 0] : Fin S1x8x128.rank → ℕ) = fun _ => 0 := by funext a; fin_cases a <;> rfl
  have h2 : (![0, 0] : Fin S1x128.rank → ℕ) = fun _ => 0 := by funext a; fin_cases a <;> rfl
  unfold out0_A_2
  rw [View.read_writes_eq_canon _ _ _ (cover0_A_2 c i arg2 harg2 arg3 harg3 arg4 harg4 arg5 harg5 arg6 harg6 hc0 x0 x1)]
  unfold kernelRun0_A
  dsimp only
  rw [View.canon_unit_zero (S := S1x8x128) h1]
  sl_unfold_words
  simp only [View.readAt_eq_ld, harg2.read_unread, harg3.read_unread, View.ld_unit_zero (S := S1x8x128) h1, View.ld_unit_zero (S := S1x128) h2]

variable (m : (ℓ : Loc nD τ sig) → Buf (Elt Ideal) ℓ) (ρ : Dev nD → PrngReg)

/-- The projection, whose eight columns from 3072 are the gates, and the bias, as launched. -/
abbrev prj (c : Dev nD) : (⟨3, ![128, 4, 3200]⟩ : Shape).Idx → EReal := m (c.tc.loc main_arg0)
abbrev bia (c : Dev nD) : (⟨2, ![1, 8]⟩ : Shape).Idx → EReal := m (c.tc.loc main_arg1)

/-- The projection with each entry's rows padded to eight, as the launch finds it. -/
abbrev padded (c : Dev nD) : (⟨3, ![128, 8, 3200]⟩ : Shape).Idx → EReal := V m c main_v0

theorem bias_at (c : Dev nD) (d : Fin 8) : V m c main_v6 (ix2 0 ⟨d.val, by omega⟩) = bia m c (ix2 0 d) := by
  unfold_abbrev_sides
  simp only [List.flatten_cons, List.flatten_nil, List.append_nil, List.cons_append, List.nil_append]
  after_results
  refine (Cert.LogfIdeal.Val.row_first _ rfl rfl rfl _ ?_ ?_ _ _ d).trans ?_
  · decide
  · decide
  · pointwise

theorem place_0 : ∀ t : Fin cfg0.N, win0_0.index t = ![t.val, 0, 24] :=
  (by decide +kernel : ∀ t : Fin grid0.N, win0_0.index t = ![t.val, 0, 24])
theorem place_1 : ∀ t : Fin cfg0.N, win0_1.index t = ![0, 0] :=
  (by decide +kernel : ∀ t : Fin grid0.N, win0_1.index t = ![0, 0])
theorem place_2 : ∀ t : Fin cfg0.N, win0_2.index t = ![t.val, 0, 0] :=
  (by decide +kernel : ∀ t : Fin grid0.N, win0_2.index t = ![t.val, 0, 0])

theorem pts (t : Fin cfg0.N) : t.val < 128 := t.isLt

theorem rows_at (c : Dev nD) (t : Fin cfg0.N) (r : Fin 8) (k : Fin 128) :
    iblk m c 0 t (ix3 0 r k) = V m c main_v0 (ix3 ⟨t.val, pts t⟩ r ⟨3072 + k.val, by omega⟩) := by
  blk_ext [iblk, place_0 t]

/-- Each entry's four rows come before the four of padding. -/
theorem input_at (c : Dev nD) (b : Fin 128) (p : Fin 4) (k : Fin 3200) : V m c main_v0 (ix3 b ⟨p.val, by omega⟩ k) = prj m c (ix3 b p k) := by
  unfold_abbrev_sides
  simp only [List.flatten_cons, List.flatten_nil, List.append_nil, List.cons_append, List.nil_append]
  after_results
  simp -implicitDefEqProofs only [StableHlo.TRef.toBuf, StableHlo.TRef.ofBuf, cast_cast, cast_eq]
  pointwise

theorem biasBlock_at (c : Dev nD) (t : Fin cfg0.N) (k : Fin 128) : iblk m c 1 t (ix2 0 k) = V m c main_v6 (ix2 0 k) := by
  blk_ext [iblk, place_1 t]

/-- The launch's array at an element. -/
def gateAt (c : Dev nD) (b : Fin 128) (n : Fin 8) (k : Fin 128) : EReal :=
  logSig (padded m c (ix3 b n ⟨3072 + k.val, by omega⟩) + V m c main_v6 (ix2 0 k))

theorem gateAt_congr (c : Dev nD) {b b' : Fin 128} {n n' : Fin 8} {k k' : Fin 128} (hb : b.val = b'.val) (hn : n.val = n'.val) (hk : k.val = k'.val) :
    gateAt m c b n k = gateAt m c b' n' k' := by
  rw [Fin.ext hb, Fin.ext hn, Fin.ext hk]

theorem stored_eq (c : Dev nD) (t : Fin cfg0.N) : (outsAt0 m c t).1 = k0_pay4 (iblk m c 0 t) (iblk m c 1 t) := by
  unfold outsAt0
  dsimp only
  rw [first_eq]

theorem block_at (c : Dev nD) (t : Fin cfg0.N) (r : Fin 8) (k : Fin 128) :
    k0_pay4 (iblk m c 0 t) (iblk m c 1 t) (ix3 0 r k) = gateAt m c ⟨t.val, pts t⟩ r k :=
  (pay_at _ _ r k).trans (congrArg logSig (congrArg₂ (fun a b : EReal => a + b) (rows_at m c t r k) (biasBlock_at m c t k)))

theorem row_place (a n : ℕ) : (![a, 0, 0] : Fin 3 → ℕ) 1 * 8 + n = n := by simp
theorem col_place (a n : ℕ) : (![a, 0, 0] : Fin 3 → ℕ) 2 * 128 + n = n := by simp

theorem launch_at (c : Dev nD) (i : (⟨3, ![128, 8, 128]⟩ : Shape).Idx) : (dats m 0 c).arrAt 2 cfg0.N i = gateAt m c (i 0) (i 1) (i 2) := by
  refine (dats m 0 c).arrAt_forall_of_covers 2
    (fun (j : (⟨3, ![128, 8, 128]⟩ : Shape).Idx) (v : EReal) => v = gateAt m c (j 0) (j 1) (j 2)) (by decide +kernel) (fun t hf y => ?_) i
  blk_simp
  rw [after0_2, stored_eq]
  refine (congrArg (k0_pay4 (iblk m c 0 t) (iblk m c 1 t)) (eta3_one (b := 8) (c := 128) y)).trans ((block_at m c t (y 1) (y 2)).trans ?_)
  refine gateAt_congr m c ?_ ?_ ?_
  · blk_simp
    rw [place_2 t]
    rfl
  · blk_simp
    rw [place_2 t]
    exact (row_place t.val (y 1).val).symm
  · blk_simp
    rw [place_2 t]
    exact (col_place t.val (y 2).val).symm

/-- The launch's array among the buffers after it. -/
theorem array_eq (c : Dev nD) : Pipeline.withArrays (cfgs 0).spec c (V0 m c) (fun w => (dats m 0 c).arrAt w (cfgs 0).N) (Proc.devRef .tc main_v7_0)
    = (dats m 0 c).arrAt 2 cfg0.N := (dats m 0 c).withArrays_arrAt (fun _ _ hne h => absurd (launch0.win.arr_inj h) hne) (V0 m c) (A_eq m c) 2

/-- The result as an array. -/
def resG (c : Dev nD) : (⟨4, ![1, 128, 4, 8]⟩ : Shape).Idx → EReal := Pipeline.afterTail₀ cfgs (dats m) 0 (V0 m) [hostOps1] c main_v9

theorem resG_at (c : Dev nD) (b : Fin 128) (p : Fin 4) (d : Fin 8) :
    resG m c (ix4 0 b p d) = logSig (prj m c (ix3 b p ⟨3072 + d.val, by omega⟩) + bia m c (ix2 0 d)) := by
  unfold resG Pipeline.afterTail₀
  change StableHlo.after hostOps1 _ (Proc.devRef .tc main_v9) (ix4 0 b p d) = _
  after_results
  rw [array_eq]
  pointwise
  refine (launch_at m c (ix3 b ⟨p.val, by omega⟩ ⟨d.val, by omega⟩)).trans ?_
  exact congrArg logSig (congrArg₂ (fun x y : EReal => x + y) (input_at m c b p ⟨3072 + d.val, by omega⟩) (bias_at m c d))

/-- Every run ends with the result, the arguments unchanged. -/
theorem value :
    θ_run defs (onTc (τ := τ) (main (F := Ideal))) ⟨m, fun _ => 0, ρ⟩ (fun r => ∀ c : Dev nD,
      r.2.mem ((c.tc : Thread nD τ).loc main_v9) = resG m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).2 main_v9 (by decide), h.2.1 c⟩)
    (θ_run_and (run_main m ρ) (frame m ρ))

end Cert.LogfSIdeal.Val

end
-- ==== Proof.LogfS.Ref.lean ====
/-
  The reference of the log forget gates for the sample group, entry by entry.
-/
module

public import proofs.«01_k».proof.Proof.Logf.LogSig
public import proofs.«01_k».proof.Proof.Gen.LogfSRefIdeal.Run
public import proofs.«01_k».proof.Proof.Gen.LogfSRefIdeal.Read
public import Idealize.ShloMosaic.Lib.Pointwise

@[expose] public section

noncomputable section

namespace Cert.LogfSRefIdeal.Val

open Idealize.ShloMosaic Idealize.ShloMosaic.TcCoe
open Cert.LogfSRefIdeal
open Cert.LogfSRefIdeal.Read
open Cert.Normed

theorem out_at (Z : Vec Ideal S128x4x3200 .f32) (B : Vec Ideal S1x8 .f32) (b : Fin 128) (p : Fin 4) (d : Fin 8) :
    val_main_v6 (F := Ideal) Z B (ix4 0 b p d) = logSig (Z (ix3 b p ⟨3072 + d.val, by omega⟩) + B (ix2 0 d)) := by
  unfold logSig
  pointwise [val_main_v6, val_main_v5, val_main_v4, val_main_v3, val_main_v2, val_main_v1, val_main_v0, val_main_call0_v0, val_main_call0_v1, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_call0_cst]
  exact congrArg (fun y : EReal => -y) (if_neg fun h => h rfl)

end Cert.LogfSRefIdeal.Val

end
-- ==== Proof.LogfS.Claims.lean ====
/-
  The claims of the log forget gates for the sample group: the runs are complete, and the result is the reference's.
-/
module

public import proofs.«01_k».proof.Defs
public import proofs.«01_k».proof.Proof.Gen.LogfS.Frame
public import proofs.«01_k».proof.Proof.LogfS.Value
public import proofs.«01_k».proof.Proof.LogfS.Ref

@[expose] public section

noncomputable section

namespace Cert.LogfSClaims

open Idealize.ShloMosaic Idealize.ShloMosaic.TcCoe Idealize.SL.Sem
open Cert.Normed

theorem frame_p : Cert.quiescent_LogfS := fun m ρ _ => Cert.LogfS.Gen.frame m ρ

theorem frame_pi : Cert.quiescent_LogfSIdeal := fun m ρ _ => Cert.LogfSIdeal.Gen.frame m ρ

theorem preserves : Cert.preserves_LogfS_LogfSIdeal := trivial

theorem frame_ri : Cert.quiescent_LogfSRefIdeal := fun m ρ _ =>
  (θ_run Cert.LogfSRefIdeal.defs _ _).mono (fun r h => ⟨fun c => (h c).2, sem_eq_zero_of_no_sems (by decide) r.2⟩)
    (Cert.LogfSRefIdeal.Value.run (F := Ideal) m ρ)

/-- The result agrees with the reference's, element by element. -/
theorem gate_eq (m : (ℓ : Loc Cert.LogfSIdeal.nD Cert.LogfSIdeal.τ Cert.LogfSIdeal.sig) → Buf (Elt Ideal) ℓ) (c : Dev Cert.LogfSIdeal.nD) :
    Cert.LogfSRefIdeal.Read.val_main_v6 (F := Ideal) (Cert.LogfSIdeal.Val.prj m c) (Cert.LogfSIdeal.Val.bia m c)
      = Cert.LogfSIdeal.Val.resG m c :=
  ext4_one fun b p d => (Cert.LogfSRefIdeal.Val.out_at _ _ b p d).trans (Cert.LogfSIdeal.Val.resG_at m c b p d).symm

theorem algebraic : Cert.algebraic_LogfSIdeal_LogfSRefIdeal := by
  intro m ρ m' ρ' _ hagree
  refine ⟨_, Cert.LogfSIdeal.Val.value m ρ, ?_⟩
  refine (θ_run Cert.LogfSRefIdeal.defs _ _).mono
    (fun r h c => ⟨(h c).1.trans ?_, (h c).2⟩) (Cert.LogfSRefIdeal.Value.run (F := Ideal) m' ρ')
  rw [Cert.LogfSRefIdeal.Read.val_main_v6_eq, (hagree c).1, (hagree c).2]
  exact gate_eq m c

end Cert.LogfSClaims

end
-- ==== Proof.lean ====
module

public import proofs.«01_k».proof.Proof.Claims
public import proofs.«01_k».proof.Proof.GdnIn.Claims
public import proofs.«01_k».proof.Proof.FoxIn.Claims
public import proofs.«01_k».proof.Proof.PeerQ.Claims
public import proofs.«01_k».proof.Proof.FoxOut.Claims
public import proofs.«01_k».proof.Proof.GdnOut.Claims
public import proofs.«01_k».proof.Proof.Final.Claims
public import proofs.«01_k».proof.Proof.Logf.Claims
public import proofs.«01_k».proof.Proof.GdnInS.Claims
public import proofs.«01_k».proof.Proof.FoxInS.Claims
public import proofs.«01_k».proof.Proof.FinalS.Claims
public import proofs.«01_k».proof.Proof.LogfS.Claims

@[expose] public section

noncomputable section

namespace Cert.Proof

theorem claim : Cert.Claim :=
  ⟨Cert.Kernel.Gen.facts, Cert.KernelIdeal.Gen.facts, Cert.ReferenceIdeal.Gen.facts,
    Cert.GdnIn.Gen.facts, Cert.GdnInIdeal.Gen.facts, Cert.GdnInRefIdeal.Gen.facts,
    Cert.FoxIn.Gen.facts, Cert.FoxInIdeal.Gen.facts, Cert.FoxInRefIdeal.Gen.facts,
    Cert.PeerQ.Gen.facts, Cert.PeerQIdeal.Gen.facts, Cert.PeerQRefIdeal.Gen.facts,
    Cert.FoxOut.Gen.facts, Cert.FoxOutIdeal.Gen.facts, Cert.FoxOutRefIdeal.Gen.facts,
    Cert.GdnOut.Gen.facts, Cert.GdnOutIdeal.Gen.facts, Cert.GdnOutRefIdeal.Gen.facts,
    Cert.Final.Gen.facts, Cert.FinalIdeal.Gen.facts, Cert.FinalRefIdeal.Gen.facts,
    Cert.Logf.Gen.facts, Cert.LogfIdeal.Gen.facts, Cert.LogfRefIdeal.Gen.facts,
    Cert.GdnInS.Gen.facts, Cert.GdnInSIdeal.Gen.facts, Cert.GdnInSRefIdeal.Gen.facts,
    Cert.FoxInS.Gen.facts, Cert.FoxInSIdeal.Gen.facts, Cert.FoxInSRefIdeal.Gen.facts,
    Cert.FinalS.Gen.facts, Cert.FinalSIdeal.Gen.facts, Cert.FinalSRefIdeal.Gen.facts,
    Cert.LogfS.Gen.facts, Cert.LogfSIdeal.Gen.facts, Cert.LogfSRefIdeal.Gen.facts,
    Cert.Pre_finite.facts,
    Cert.Fox.frame_p, Cert.Fox.frame_pi, @Cert.Fox.frame_pi_pre Cert.Pre_finite.facts,
    Cert.Fox.frame_ri, @Cert.Fox.frame_ri_pre Cert.Pre_finite.facts,
    Cert.GdnInClaims.frame_p, Cert.GdnInClaims.frame_pi, Cert.GdnInClaims.frame_ri,
    Cert.FoxInClaims.frame_p, Cert.FoxInClaims.frame_pi, Cert.FoxInClaims.frame_ri,
    Cert.PeerQClaims.frame_p, Cert.PeerQClaims.frame_pi, Cert.PeerQClaims.frame_ri,
    Cert.FoxOutClaims.frame_p, Cert.FoxOutClaims.frame_pi, Cert.FoxOutClaims.frame_ri,
    Cert.GdnOutClaims.frame_p, Cert.GdnOutClaims.frame_pi, Cert.GdnOutClaims.frame_ri,
    Cert.FinalClaims.frame_p, Cert.FinalClaims.frame_pi, Cert.FinalClaims.frame_ri,
    Cert.LogfClaims.frame_p, Cert.LogfClaims.frame_pi, Cert.LogfClaims.frame_ri,
    Cert.GdnInSClaims.frame_p, Cert.GdnInSClaims.frame_pi, Cert.GdnInSClaims.frame_ri,
    Cert.FoxInSClaims.frame_p, Cert.FoxInSClaims.frame_pi, Cert.FoxInSClaims.frame_ri,
    Cert.FinalSClaims.frame_p, Cert.FinalSClaims.frame_pi, Cert.FinalSClaims.frame_ri,
    Cert.LogfSClaims.frame_p, Cert.LogfSClaims.frame_pi, Cert.LogfSClaims.frame_ri,
    Cert.Fox.preserves, @Cert.Fox.algebraic Cert.Pre_finite.facts,
    Cert.GdnInClaims.preserves, Cert.GdnInClaims.algebraic,
    Cert.FoxInClaims.preserves, Cert.FoxInClaims.algebraic,
    Cert.PeerQClaims.preserves, Cert.PeerQClaims.algebraic,
    Cert.FoxOutClaims.preserves, Cert.FoxOutClaims.algebraic,
    Cert.GdnOutClaims.preserves, Cert.GdnOutClaims.algebraic,
    Cert.FinalClaims.preserves, Cert.FinalClaims.algebraic,
    Cert.LogfClaims.preserves, Cert.LogfClaims.algebraic,
    Cert.GdnInSClaims.preserves, Cert.GdnInSClaims.algebraic,
    Cert.FoxInSClaims.preserves, Cert.FoxInSClaims.algebraic,
    Cert.FinalSClaims.preserves, Cert.FinalSClaims.algebraic,
    Cert.LogfSClaims.preserves, Cert.LogfSClaims.algebraic⟩

end Cert.Proof

end
